-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v19) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_logits : Cert.Pre_finite_logits.Facts) (hPre_tables_in_range : Cert.Pre_tables_in_range.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_logits.lean ====
abbrev S16384x6144 : Shape := ⟨2, ![16384, 6144]⟩
abbrev S2x1024 : Shape := ⟨2, ![2, 1024]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S16384x6144 .f32) (main_arg1 : FVec F S2x1024 .f32) (main_arg2 : FVec F S1x1024 .f32) : IVec S2x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_tables_in_range.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)
  shapeCasts_S1_S_ : S1.ShapeCasts S_

variable [Facts]

def fn {F : FTy → Type} [FloatOps F] (main_arg0 : IVec S160 32) (main_arg1 : IVec S1 32) (main_arg2 : FVec F S40960x2048 .f32) (main_arg3 : FVec F S32x2048x512 .f32) (main_arg4 : FVec F S32x2048x512 .f32) (main_arg5 : FVec F S32x512x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S160 1 := broadcastInDim S160 ![] bcast_S_S160 main_v6
  let main_v8 : IVec S160 1 := andi main_v4 main_v7
  main_v8
-- ==== Kernel.lean ====
abbrev S16384x6144 : Shape := ⟨2, ![16384, 6144]⟩
abbrev S2x1024 : Shape := ⟨2, ![2, 1024]⟩
abbrev S1x1024 : Shape := ⟨2, ![1, 1024]⟩
abbrev S1024 : Shape := ⟨1, ![1024]⟩
abbrev S16384x1024 : Shape := ⟨2, ![16384, 1024]⟩
abbrev S2048x128 : Shape := ⟨2, ![2048, 128]⟩
abbrev S2x128 : Shape := ⟨2, ![2, 128]⟩
abbrev S1x128 : Shape := ⟨2, ![1, 128]⟩
abbrev S128x128 : Shape := ⟨2, ![128, 128]⟩
abbrev S128 : Shape := ⟨1, ![128]⟩
abbrev S64x64 : Shape := ⟨2, ![64, 64]⟩
abbrev S64x128 : Shape := ⟨2, ![64, 128]⟩
abbrev S64x4096 : Shape := ⟨2, ![64, 4096]⟩
abbrev S64x384 : Shape := ⟨2, ![64, 384]⟩
abbrev S64 : Shape := ⟨1, ![64]⟩
abbrev S64x1 : Shape := ⟨2, ![64, 1]⟩
abbrev S2048 : Shape := ⟨1, ![2048]⟩
abbrev S2048x1 : Shape := ⟨2, ![2048, 1]⟩

abbrev nBuf : Space → Nat
  | .hbm => 6
  | .vmem => 15
  | .smem => 0
  | _ => 0

abbrev bufTy : (tb : Table) → Fin (tcTables nBuf tb) → BufTy
  | .hbm, ⟨0, _⟩ => ⟨S16384x6144, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S16384x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S128x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x6144 : Shape := ⟨2, ![16384, 6144]⟩
abbrev S2x1024 : Shape := ⟨2, ![2, 1024]⟩
abbrev S1x1024 : Shape := ⟨2, ![1, 1024]⟩
abbrev S2x8192x6144 : Shape := ⟨3, ![2, 8192, 6144]⟩
abbrev S2x8192x1024 : Shape := ⟨3, ![2, 8192, 1024]⟩
abbrev S_ : Shape := ⟨0, ![]⟩
abbrev S1024 : Shape := ⟨1, ![1024]⟩
abbrev S1x1x1024 : Shape := ⟨3, ![1, 1, 1024]⟩
abbrev S2x128x64x8x128 : Shape := ⟨5, ![2, 128, 64, 8, 128]⟩
abbrev S128x2x8x64x128 : Shape := ⟨5, ![128, 2, 8, 64, 128]⟩
abbrev S64x64 : Shape := ⟨2, ![64, 64]⟩
abbrev S64x64x1 : Shape := ⟨3, ![64, 64, 1]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S2x8x64x1x128 : Shape := ⟨5, ![2, 8, 64, 1, 128]⟩
abbrev S2x8x1x64x128 : Shape := ⟨5, ![2, 8, 1, 64, 128]⟩
abbrev S2x8x64x64x128 : Shape := ⟨5, ![2, 8, 64, 64, 128]⟩
abbrev S2x8x64x64 : Shape := ⟨4, ![2, 8, 64, 64]⟩
abbrev S2x8x1x128 : Shape := ⟨4, ![2, 8, 1, 128]⟩
abbrev S2x8x128 : Shape := ⟨3, ![2, 8, 128]⟩
abbrev S2x8x128x1 : Shape := ⟨4, ![2, 8, 128, 1]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S16384x1024 : Shape := ⟨2, ![16384, 1024]⟩

abbrev nBuf : Space → Nat
  | .hbm => 199
  | .vmem => 0
  | .smem => 0
  | _ => 0

abbrev hbmTy0_0 (i : Nat) : BufTy := match i % 128 with
  | 0 => ⟨S16384x6144, .f32⟩
  | 1 => ⟨S2x1024, .f32⟩
  | 2 => ⟨S1x1024, .f32⟩
  | 3 => ⟨S2x8192x6144, .f32⟩
  | 4 => ⟨S2x8192x1024, .f32⟩
  | 5 => ⟨S2x8192x1024, .f32⟩
  | 6 => ⟨S2x8192x1024, .f32⟩
  | 7 => ⟨S_, .f32⟩
  | 8 => ⟨S1024, .f32⟩
  | 9 => ⟨S_, .f32⟩
  | 10 => ⟨S1024, .f32⟩
  | 11 => ⟨S1024, .f32⟩
  | 12 => ⟨S1x1024, .f32⟩
  | 13 => ⟨S2x1024, .f32⟩
  | 14 => ⟨S2x1024, .f32⟩
  | 15 => ⟨S2x1024, .f32⟩
  | 16 => ⟨S_, .f32⟩
  | 17 => ⟨S1024, .f32⟩
  | 18 => ⟨S1x1024, .f32⟩
  | 19 => ⟨S2x1024, .f32⟩
  | 20 => ⟨S2x1024, .f32⟩
  | 21 => ⟨S_, .f32⟩
  | 22 => ⟨S_, .f32⟩
  | 23 => ⟨S2x1024, .f32⟩
  | 24 => ⟨S1x1024, .f32⟩
  | 25 => ⟨S1024, .f32⟩
  | 26 => ⟨S_, .f32⟩
  | 27 => ⟨S1024, .f32⟩
  | 28 => ⟨S1024, .f32⟩
  | 29 => ⟨S2x8192x1024, .f32⟩
  | 30 => ⟨S2x8192x1024, .f32⟩
  | 31 => ⟨S_, .f32⟩
  | 32 => ⟨S2x8192x1024, .f32⟩
  | 33 => ⟨S2x8192x1024, .f32⟩
  | 34 => ⟨S_, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x1024, .f32⟩
  | 44 => ⟨S_, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S2x8192x1024, .f32⟩
  | 56 => ⟨S_, .f32⟩
  | 57 => ⟨S2x8192x1024, .f32⟩
  | 58 => ⟨S2x8192x1024, .f32⟩
  | 59 => ⟨S2x128x64x8x128, .f32⟩
  | 60 => ⟨S128x2x8x64x128, .f32⟩
  | 61 => ⟨S2x128x64x8x128, .f32⟩
  | 62 => ⟨S128x2x8x64x128, .f32⟩
  | 63 => ⟨S2x128x64x8x128, .f32⟩
  | 64 => ⟨S128x2x8x64x128, .f32⟩
  | 65 => ⟨S2x128x64x8x128, .f32⟩
  | 66 => ⟨S128x2x8x64x128, .f32⟩
  | 67 => ⟨S_, .f32⟩
  | 68 => ⟨S_, .f32⟩
  | 69 => ⟨S128x2x8x64x128, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S64x64x1, .i1⟩
  | 82 => ⟨S_, .f32⟩
  | 83 => ⟨S2x8x128x128, .f32⟩
  | 84 => ⟨S_, .f32⟩
  | 85 => ⟨S128x2x8x64x128, .f32⟩
  | 86 => ⟨S_, .i32⟩
  | 87 => ⟨S128x2x8x64x128, .f32⟩
  | 88 => ⟨S128x2x8x64x128, .f32⟩
  | 89 => ⟨S128x2x8x64x128, .f32⟩
  | 90 => ⟨S128x2x8x64x128, .f32⟩
  | 91 => ⟨S64x64x1, .i1⟩
  | 92 => ⟨S_, .i32⟩
  | 93 => ⟨S2x8x128x128, .f32⟩
  | 94 => ⟨S128x2x8x64x128, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x2x8x64x128, .f32⟩
  | 102 => ⟨S2x8x64x128, .f32⟩
  | 103 => ⟨S_, .i32⟩
  | 104 => ⟨S_, .i32⟩
  | 105 => ⟨S_, .i32⟩
  | 106 => ⟨S_, .i32⟩
  | 107 => ⟨S1x2x8x64x128, .f32⟩
  | 108 => ⟨S2x8x64x128, .f32⟩
  | 109 => ⟨S_, .i32⟩
  | 110 => ⟨S_, .i32⟩
  | 111 => ⟨S_, .i32⟩
  | 112 => ⟨S_, .i32⟩
  | 113 => ⟨S1x2x8x64x128, .f32⟩
  | 114 => ⟨S2x8x64x128, .f32⟩
  | 115 => ⟨S_, .i32⟩
  | 116 => ⟨S_, .i32⟩
  | 117 => ⟨S_, .i32⟩
  | 118 => ⟨S_, .i32⟩
  | 119 => ⟨S1x2x8x64x128, .f32⟩
  | 120 => ⟨S2x8x64x128, .f32⟩
  | 121 => ⟨S2x8x64x128, .f32⟩
  | 122 => ⟨S2x8x64x128, .f32⟩
  | 123 => ⟨S2x8x64x128, .f32⟩
  | 124 => ⟨S2x8x64x1x128, .f32⟩
  | 125 => ⟨S2x8x1x64x128, .f32⟩
  | 126 => ⟨S2x8x64x64x128, .f32⟩
  | 127 => ⟨S2x8x64x64x128, .f32⟩
  | _ => ⟨S16384x6144, .f32⟩

abbrev hbmTy0_1 (i : Nat) : BufTy := match i % 128 with
  | 0 => ⟨S2x8x64x64x128, .f32⟩
  | 1 => ⟨S_, .f32⟩
  | 2 => ⟨S_, .f32⟩
  | 3 => ⟨S2x8x64x64x128, .i1⟩
  | 4 => ⟨S2x8x64x64x128, .f32⟩
  | 5 => ⟨S2x8x64x64x128, .f32⟩
  | 6 => ⟨S2x8x64x1x128, .f32⟩
  | 7 => ⟨S2x8x64x64x128, .f32⟩
  | 8 => ⟨S2x8x64x64x128, .f32⟩
  | 9 => ⟨S2x8x64x64x128, .f32⟩
  | 10 => ⟨S2x8x1x64x128, .f32⟩
  | 11 => ⟨S2x8x64x64x128, .f32⟩
  | 12 => ⟨S2x8x64x64x128, .f32⟩
  | 13 => ⟨S_, .f32⟩
  | 14 => ⟨S2x8x64x64, .f32⟩
  | 15 => ⟨S2x8x64x128, .f32⟩
  | 16 => ⟨S2x8x1x128, .f32⟩
  | 17 => ⟨S2x8x128, .f32⟩
  | 18 => ⟨S2x8x128, .f32⟩
  | 19 => ⟨S2x8x128x1, .f32⟩
  | 20 => ⟨S2x8x128x128, .f32⟩
  | 21 => ⟨S2x8x128x128, .f32⟩
  | 22 => ⟨S2x8x64x128, .f32⟩
  | 23 => ⟨S2x8x64x128, .f32⟩
  | 24 => ⟨S2x8x64x128, .f32⟩
  | 25 => ⟨S2x8x64x128, .f32⟩
  | 26 => ⟨S2x8x128x128, .f32⟩
  | 27 => ⟨S2x8x128x128, .f32⟩
  | 28 => ⟨S2x8x64x128, .f32⟩
  | 29 => ⟨S1x2x8x64x128, .f32⟩
  | 30 => ⟨S_, .i32⟩
  | 31 => ⟨S_, .i32⟩
  | 32 => ⟨S_, .i32⟩
  | 33 => ⟨S_, .i32⟩
  | 34 => ⟨S128x2x8x64x128, .f32⟩
  | 35 => ⟨S_, .i32⟩
  | 36 => ⟨S_, .i32⟩
  | 37 => ⟨S2x128x64x8x128, .f32⟩
  | 38 => ⟨S2x8192x8x128, .f32⟩
  | 39 => ⟨S2x8192x6144, .f32⟩
  | 40 => ⟨S2x8192x1024, .f32⟩
  | 41 => ⟨S1024, .f32⟩
  | 42 => ⟨S2x8192x8x128, .f32⟩
  | 43 => ⟨S_, .f32⟩
  | 44 => ⟨S2x8192x8, .f32⟩
  | 45 => ⟨S2x8192x8x1, .f32⟩
  | 46 => ⟨S_, .f32⟩
  | 47 => ⟨S2x8192x8x1, .f32⟩
  | 48 => ⟨S2x8192x8x1, .f32⟩
  | 49 => ⟨S_, .f32⟩
  | 50 => ⟨S2x8192x8x1, .f32⟩
  | 51 => ⟨S2x8192x8x1, .f32⟩
  | 52 => ⟨S2x8192x8x1, .f32⟩
  | 53 => ⟨S2x8192x8x128, .f32⟩
  | 54 => ⟨S2x8192x8x128, .f32⟩
  | 55 => ⟨S2x8192x1024, .f32⟩
  | 56 => ⟨S1x1x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S_, .f32⟩
  | 65 => ⟨S2x8192x1024, .f32⟩
  | 66 => ⟨S2x8192x1024, .f32⟩
  | 67 => ⟨S2x8192x1024, .f32⟩
  | 68 => ⟨S2x8192x1024, .f32⟩
  | 69 => ⟨S16384x1024, .f32⟩
  | 70 => ⟨S16384x1024, .bf16⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call2_call0_cst : Ref sig .tc := ⟨.hbm, 67, rfl⟩
abbrev main_call2_call0_v0 : Ref sig .tc := ⟨.hbm, 68, rfl⟩
abbrev main_v46 : Ref sig .tc := ⟨.hbm, 69, rfl⟩
abbrev main_c : Ref sig .tc := ⟨.hbm, 70, rfl⟩
abbrev main_v47 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_0 : Ref sig .tc := ⟨.hbm, 78, rfl⟩
abbrev main_call3_v5 : Ref sig .tc := ⟨.hbm, 79, rfl⟩
abbrev main_v48 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_cst_8 : Ref sig .tc := ⟨.hbm, 84, rfl⟩
abbrev main_v51 : Ref sig .tc := ⟨.hbm, 85, rfl⟩
abbrev main_c_9 : Ref sig .tc := ⟨.hbm, 86, rfl⟩
abbrev main_v52_0 : Ref sig .tc := ⟨.hbm, 87, rfl⟩
abbrev main_v52_1 : Ref sig .tc := ⟨.hbm, 88, rfl⟩
abbrev main_v52_2 : Ref sig .tc := ⟨.hbm, 89, rfl⟩
abbrev main_v52_3 : Ref sig .tc := ⟨.hbm, 90, rfl⟩
abbrev main_v52_4 : Ref sig .tc := ⟨.hbm, 91, rfl⟩
abbrev main_v52_5 : Ref sig .tc := ⟨.hbm, 92, rfl⟩
abbrev main_v52_6 : Ref sig .tc := ⟨.hbm, 93, rfl⟩
abbrev main_v52_7 : Ref sig .tc := ⟨.hbm, 94, rfl⟩
abbrev main_while0c_c_20 : Ref sig .tc := ⟨.hbm, 95, rfl⟩
abbrev main_while0c_v76 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v76 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v77 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_c_2 : Ref sig .tc := ⟨.hbm, 112, rfl⟩
abbrev main_while0b_call6_v0 : Ref sig .tc := ⟨.hbm, 113, rfl⟩
abbrev main_while0b_v78 : Ref sig .tc := ⟨.hbm, 114, rfl⟩
abbrev main_while0b_call7_c : Ref sig .tc := ⟨.hbm, 115, rfl⟩
abbrev main_while0b_call7_c_0 : Ref sig .tc := ⟨.hbm, 116, rfl⟩
abbrev main_while0b_call7_c_1 : Ref sig .tc := ⟨.hbm, 117, rfl⟩
abbrev main_while0b_call7_c_2 : Ref sig .tc := ⟨.hbm, 118, rfl⟩
abbrev main_while0b_call7_v0 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_cst_20 : Ref sig .tc := ⟨.hbm, 129, rfl⟩
abbrev main_while0b_call8_v0 : Ref sig .tc := ⟨.hbm, 130, rfl⟩
abbrev main_while0b_call8_v1 : Ref sig .tc := ⟨.hbm, 131, rfl⟩
abbrev main_while0b_call8_v2 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_cst_21 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_call9_v0 : Ref sig .tc := ⟨.hbm, 157, rfl⟩
abbrev main_while0b_call9_c : Ref sig .tc := ⟨.hbm, 158, rfl⟩
abbrev main_while0b_call9_c_0 : Ref sig .tc := ⟨.hbm, 159, rfl⟩
abbrev main_while0b_call9_c_1 : Ref sig .tc := ⟨.hbm, 160, rfl⟩
abbrev main_while0b_call9_c_2 : Ref sig .tc := ⟨.hbm, 161, rfl⟩
abbrev main_while0b_v111 : Ref sig .tc := ⟨.hbm, 162, rfl⟩
abbrev main_while0b_c_22 : Ref sig .tc := ⟨.hbm, 163, rfl⟩
abbrev main_while0b_v112 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_cst_10 : Ref sig .tc := ⟨.hbm, 171, rfl⟩
abbrev main_v59 : Ref sig .tc := ⟨.hbm, 172, rfl⟩
abbrev main_v60 : Ref sig .tc := ⟨.hbm, 173, rfl⟩
abbrev main_cst_11 : Ref sig .tc := ⟨.hbm, 174, rfl⟩
abbrev main_v61 : Ref sig .tc := ⟨.hbm, 175, rfl⟩
abbrev main_v62 : Ref sig .tc := ⟨.hbm, 176, rfl⟩
abbrev main_cst_12 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_call10_v0 : Ref sig .tc := ⟨.hbm, 187, rfl⟩
abbrev main_call10_v1 : Ref sig .tc := ⟨.hbm, 188, rfl⟩
abbrev main_call10_cst : Ref sig .tc := ⟨.hbm, 189, rfl⟩
abbrev main_call10_v2 : Ref sig .tc := ⟨.hbm, 190, rfl⟩
abbrev main_call10_v3 : Ref sig .tc := ⟨.hbm, 191, rfl⟩
abbrev main_call10_cst_0 : Ref sig .tc := ⟨.hbm, 192, rfl⟩
abbrev main_call10_v4 : Ref sig .tc := ⟨.hbm, 193, rfl⟩
abbrev main_call10_v5 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S160 : Shape := ⟨1, ![160]⟩
abbrev S1 : Shape := ⟨1, ![1]⟩
abbrev S40960x2048 : Shape := ⟨2, ![40960, 2048]⟩
abbrev S32x2048x512 : Shape := ⟨3, ![32, 2048, 512]⟩
abbrev S32x512x2048 : Shape := ⟨3, ![32, 512, 2048]⟩
abbrev S40960 : Shape := ⟨1, ![40960]⟩
abbrev S_ : Shape := ⟨0, ![]⟩
abbrev S160x256 : Shape := ⟨2, ![160, 256]⟩
abbrev S40960x1 : Shape := ⟨2, ![40960, 1]⟩
abbrev S32 : Shape := ⟨1, ![32]⟩
abbrev S1x32 : Shape := ⟨2, ![1, 32]⟩
abbrev S40960x32 : Shape := ⟨2, ![40960, 32]⟩
abbrev S40960x32x512 : Shape := ⟨3, ![40960, 32, 512]⟩
abbrev S40960x32x1 : Shape := ⟨3, ![40960, 32, 1]⟩
abbrev S32x2048x40960 : Shape := ⟨3, ![32, 2048, 40960]⟩
abbrev S40960x32x2048 : Shape := ⟨3, ![40960, 32, 2048]⟩

abbrev nBuf : Space → Nat
  | .hbm => 60
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S40960, .i32⟩
  | .hbm, ⟨7, _⟩ => ⟨S_, .i32⟩
  | .hbm, ⟨8, _⟩ => ⟨S_, .i32⟩
  | .hbm, ⟨9, _⟩ => ⟨S40960, .i32⟩
  | .hbm, ⟨10, _⟩ => ⟨S40960, .i32⟩
  | .hbm, ⟨11, _⟩ => ⟨S40960, .i32⟩
  | .hbm, ⟨12, _⟩ => ⟨S_, .i32⟩
  | .hbm, ⟨13, _⟩ => ⟨S40960, .i32⟩
  | .hbm, ⟨14, _⟩ => ⟨S40960, .i1⟩
  | .hbm, ⟨15, _⟩ => ⟨S40960, .i32⟩
  | .hbm, ⟨16, _⟩ => ⟨S40960, .i32⟩
  | .hbm, ⟨17, _⟩ => ⟨S_, .i32⟩
  | .hbm, ⟨18, _⟩ => ⟨S40960, .i32⟩
  | .hbm, ⟨19, _⟩ => ⟨S40960, .i1⟩
  | .hbm, ⟨20, _⟩ => ⟨S40960, .i1⟩
  | .hbm, ⟨21, _⟩ => ⟨S_, .i32⟩
  | .hbm, ⟨22, _⟩ => ⟨S40960, .i32⟩
  | .hbm, ⟨23, _⟩ => ⟨S40960, .i32⟩
  | .hbm, ⟨24, _⟩ => ⟨S40960, .i32⟩
  | .hbm, ⟨25, _⟩ => ⟨S_, .i32⟩
  | .hbm, ⟨26, _⟩ => ⟨S40960, .i32⟩
  | .hbm, ⟨27, _⟩ => ⟨S40960, .i1⟩
  | .hbm, ⟨28, _⟩ => ⟨S160x256, .i32⟩
  | .hbm, ⟨29, _⟩ => ⟨S40960, .i32⟩
  | .hbm, ⟨30, _⟩ => ⟨S_, .i32⟩
  | .hbm, ⟨31, _⟩ => ⟨S_, .i32⟩
  | .hbm, ⟨32, _⟩ => ⟨S40960, .i32⟩
  | .hbm, ⟨33, _⟩ => ⟨S40960, .i32⟩
  | .hbm, ⟨34, _⟩ => ⟨S40960x1, .i32⟩
  | .hbm, ⟨35, _⟩ => ⟨S32, .i32⟩
  | .hbm, ⟨36, _⟩ => ⟨S1x32, .i32⟩
  | .hbm, ⟨37, _⟩ => ⟨S40960x32, .i32⟩
  | .hbm, ⟨38, _⟩ => ⟨S40960x32, .i32⟩
  | .hbm, ⟨39, _⟩ => ⟨S40960x32, .i1⟩
  | .hbm, ⟨40, _⟩ => ⟨S40960x32, .f32⟩
  | .hbm, ⟨41, _⟩ => ⟨S40960x32x512, .f32⟩
  | .hbm, ⟨42, _⟩ => ⟨S40960x32x512, .f32⟩
  | .hbm, ⟨43, _⟩ => ⟨S40960x32x512, .f32⟩
  | .hbm, ⟨44, _⟩ => ⟨S_, .f32⟩
  | .hbm, ⟨45, _⟩ => ⟨S40960x32x512, .f32⟩
  | .hbm, ⟨46, _⟩ => ⟨S40960x32x512, .f32⟩
  | .hbm, ⟨47, _⟩ => ⟨S_, .f32⟩
  | .hbm, ⟨48, _⟩ => ⟨S40960x32x512, .f32⟩
  | .hbm, ⟨49, _⟩ => ⟨S40960x32x512, .f32⟩
  | .hbm, ⟨50, _⟩ => ⟨S40960x32x512, .f32⟩
  | .hbm, ⟨51, _⟩ => ⟨S40960x32x512, .f32⟩
  | .hbm, ⟨52, _⟩ => ⟨S40960x32x512, .f32⟩
  | .hbm, ⟨53, _⟩ => ⟨S40960x32x1, .f32⟩
  | .hbm, ⟨54, _⟩ => ⟨S32x2048x40960, .f32⟩
  | .hbm, ⟨55, _⟩ => ⟨S40960x32x2048, .f32⟩
  | .hbm, ⟨56, _⟩ => ⟨S40960x32x2048, .f32⟩
  | .hbm, ⟨57, _⟩ => ⟨S40960x32x2048, .f32⟩
  | .hbm, ⟨58, _⟩ => ⟨S_, .f32⟩
  | .hbm, ⟨59, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst : Ref sig .tc := ⟨.hbm, 58, rfl⟩
abbrev main_v24 : Ref sig .tc := ⟨.hbm, 59, rfl⟩

abbrev nD : Nat := 1
abbrev τ : Topo := Topo.v7x

variable {F : FTy → Type} [FloatOps F]
-- ==== Kernel3.lean ====
abbrev S2x8192x2048 : Shape := ⟨3, ![2, 8192, 2048]⟩
abbrev S2x1x2048 : Shape := ⟨3, ![2, 1, 2048]⟩
abbrev S1x2048 : Shape := ⟨2, ![1, 2048]⟩
abbrev S1x2048x6216 : Shape := ⟨3, ![1, 2048, 6216]⟩
abbrev S16384x2048 : Shape := ⟨2, ![16384, 2048]⟩
abbrev S2048 : Shape := ⟨1, ![2048]⟩
abbrev S2048x6216 : Shape := ⟨2, ![2048, 6216]⟩
abbrev S2048x72 : Shape := ⟨2, ![2048, 72]⟩
abbrev S_ : Shape := ⟨0, ![]⟩
abbrev S2048x128 : Shape := ⟨2, ![2048, 128]⟩
abbrev S16384x6144 : Shape := ⟨2, ![16384, 6144]⟩
abbrev S16384x128 : Shape := ⟨2, ![16384, 128]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩

abbrev nBuf : Space → Nat
  | .hbm => 17
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S1x2048, .f32⟩
  | .hbm, ⟨4, _⟩ => ⟨S1x2048x6216, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x6216, .f32⟩
  | .hbm, ⟨9, _⟩ => ⟨S2048x72, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x6216, .bf16⟩
  | .hbm, ⟨15, _⟩ => ⟨S16384x6144, .f32⟩
  | .hbm, ⟨16, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .ne arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S2x8192x2048 : Shape := ⟨3, ![2, 8192, 2048]⟩
abbrev S2x1x2048 : Shape := ⟨3, ![2, 1, 2048]⟩
abbrev S1x2048 : Shape := ⟨2, ![1, 2048]⟩
abbrev S1x2048x6216 : Shape := ⟨3, ![1, 2048, 6216]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6216 : Shape := ⟨2, ![2048, 6216]⟩
abbrev S2x8192x6216 : Shape := ⟨3, ![2, 8192, 6216]⟩
abbrev S16384x6216 : Shape := ⟨2, ![16384, 6216]⟩
abbrev S16384x6144 : Shape := ⟨2, ![16384, 6144]⟩
abbrev S16384x72 : Shape := ⟨2, ![16384, 72]⟩
abbrev S16384x128 : Shape := ⟨2, ![16384, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x1x2048, .f32⟩
  | .hbm, ⟨2, _⟩ => ⟨S2x1x2048, .f32⟩
  | .hbm, ⟨3, _⟩ => ⟨S1x2048, .f32⟩
  | .hbm, ⟨4, _⟩ => ⟨S1x2048x6216, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2048x6216, .f32⟩
  | .hbm, ⟨30, _⟩ => ⟨S2x8192x6216, .f32⟩
  | .hbm, ⟨31, _⟩ => ⟨S16384x6216, .f32⟩
  | .hbm, ⟨32, _⟩ => ⟨S16384x6144, .f32⟩
  | .hbm, ⟨33, _⟩ => ⟨S16384x72, .f32⟩
  | .hbm, ⟨34, _⟩ => ⟨S_, .i32⟩
  | .hbm, ⟨35, _⟩ => ⟨S_, .f32⟩
  | .hbm, ⟨36, _⟩ => ⟨S16384x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel4.lean ====
abbrev S16384x1024 : Shape := ⟨2, ![16384, 1024]⟩
abbrev S2x8192x2048 : Shape := ⟨3, ![2, 8192, 2048]⟩
abbrev S2x1x2048 : Shape := ⟨3, ![2, 1, 2048]⟩
abbrev S1x2048 : Shape := ⟨2, ![1, 2048]⟩
abbrev S1x2048x2048 : Shape := ⟨3, ![1, 2048, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2048x4 : Shape := ⟨2, ![2048, 4]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S16384x2048 : Shape := ⟨2, ![16384, 2048]⟩
abbrev S2048 : Shape := ⟨1, ![2048]⟩
abbrev S2048x2048 : Shape := ⟨2, ![2048, 2048]⟩
abbrev S16384x128 : Shape := ⟨2, ![16384, 128]⟩
abbrev S512x1024 : Shape := ⟨2, ![512, 1024]⟩
abbrev S512x2048 : Shape := ⟨2, ![512, 2048]⟩
abbrev S1x1x2048 : Shape := ⟨3, ![1, 1, 2048]⟩
abbrev S512x128 : Shape := ⟨2, ![512, 128]⟩
abbrev S128x1024 : Shape := ⟨2, ![128, 1024]⟩
abbrev S1024x2048 : Shape := ⟨2, ![1024, 2048]⟩
abbrev S128x2048 : Shape := ⟨2, ![128, 2048]⟩
abbrev S128x1 : Shape := ⟨2, ![128, 1]⟩
abbrev S128x128 : Shape := ⟨2, ![128, 128]⟩
abbrev S512 : Shape := ⟨1, ![512]⟩
abbrev S512x1 : Shape := ⟨2, ![512, 1]⟩

abbrev nBuf : Space → Nat
  | .hbm => 39
  | .vmem => 27
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x2048, .f32⟩
  | .hbm, ⟨7, _⟩ => ⟨S1x2048x2048, .f32⟩
  | .hbm, ⟨8, _⟩ => ⟨S1x2048x4, .f32⟩
  | .hbm, ⟨9, _⟩ => ⟨S1x4, .f32⟩
  | .hbm, ⟨10, _⟩ => ⟨S1x2048x32, .f32⟩
  | .hbm, ⟨11, _⟩ => ⟨S1x32, .f32⟩
  | .hbm, ⟨12, _⟩ => ⟨S2048x4, .f32⟩
  | .hbm, ⟨13, _⟩ => ⟨S2048x32, .f32⟩
  | .hbm, ⟨14, _⟩ => ⟨S2048x36, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S4, .f32⟩
  | .hbm, ⟨19, _⟩ => ⟨S32, .f32⟩
  | .hbm, ⟨20, _⟩ => ⟨S36, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S16384x2048, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .bf16⟩
  | .hbm, ⟨30, _⟩ => ⟨S2048x128, .bf16⟩
  | .hbm, ⟨31, _⟩ => ⟨S2048x128, .f32⟩
  | .hbm, ⟨32, _⟩ => ⟨S2048x128, .f32⟩
  | .hbm, ⟨33, _⟩ => ⟨S2048x128, .bf16⟩
  | .hbm, ⟨34, _⟩ => ⟨S16384x2048, .f32⟩
  | .hbm, ⟨35, _⟩ => ⟨S16384x2048, .f32⟩
  | .hbm, ⟨36, _⟩ => ⟨S16384x128, .bf16⟩
  | .hbm, ⟨37, _⟩ => ⟨S16384x128, .bf16⟩
  | .hbm, ⟨38, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S2048x2048, .bf16⟩
  | .local _ .vmem, ⟨14, _⟩ => ⟨S2048x128, .bf16⟩
  | .local _ .vmem, ⟨15, _⟩ => ⟨S2048x128, .bf16⟩
  | .local _ .vmem, ⟨16, _⟩ => ⟨S1x128, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .f32⟩
  | .local _ .vmem, ⟨26, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v18_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S2x8192x2048 : Shape := ⟨3, ![2, 8192, 2048]⟩
abbrev S2x1x2048 : Shape := ⟨3, ![2, 1, 2048]⟩
abbrev S1x2048 : Shape := ⟨2, ![1, 2048]⟩
abbrev S1x2048x2048 : Shape := ⟨3, ![1, 2048, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S2x8192x1024 : Shape := ⟨3, ![2, 8192, 1024]⟩
abbrev S2048x2048 : Shape := ⟨2, ![2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x8192x2048, .f32⟩
  | .hbm, ⟨3, _⟩ => ⟨S2x1x2048, .f32⟩
  | .hbm, ⟨4, _⟩ => ⟨S2x1x2048, .f32⟩
  | .hbm, ⟨5, _⟩ => ⟨S2x1x2048, .f32⟩
  | .hbm, ⟨6, _⟩ => ⟨S1x2048, .f32⟩
  | .hbm, ⟨7, _⟩ => ⟨S1x2048x2048, .f32⟩
  | .hbm, ⟨8, _⟩ => ⟨S1x2048x4, .f32⟩
  | .hbm, ⟨9, _⟩ => ⟨S1x4, .f32⟩
  | .hbm, ⟨10, _⟩ => ⟨S1x2048x32, .f32⟩
  | .hbm, ⟨11, _⟩ => ⟨S1x32, .f32⟩
  | .hbm, ⟨12, _⟩ => ⟨S2x8192x1024, .bf16⟩
  | .hbm, ⟨13, _⟩ => ⟨S2x8192x1024, .bf16⟩
  | .hbm, ⟨14, _⟩ => ⟨S2x8192x2048, .bf16⟩
  | .hbm, ⟨15, _⟩ => ⟨S2x8192x2048, .f32⟩
  | .hbm, ⟨16, _⟩ => ⟨S2048x2048, .f32⟩
  | .hbm, ⟨17, _⟩ => ⟨S2x8192x2048, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S2048, .f32⟩
  | .hbm, ⟨22, _⟩ => ⟨S2x8192x2048, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x2048, .f32⟩
  | .hbm, ⟨34, _⟩ => ⟨S2x8192x2048, .f32⟩
  | .hbm, ⟨35, _⟩ => ⟨S1x1x2048, .f32⟩
  | .hbm, ⟨36, _⟩ => ⟨S2x8192x2048, .f32⟩
  | .hbm, ⟨37, _⟩ => ⟨S2x8192x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x8192x2048, .f32⟩
  | .hbm, ⟨42, _⟩ => ⟨S2x8192x2048, .f32⟩
  | .hbm, ⟨43, _⟩ => ⟨S2x8192x2048, .f32⟩
  | .hbm, ⟨44, _⟩ => ⟨S2x8192x2048, .f32⟩
  | .hbm, ⟨45, _⟩ => ⟨S16384x2048, .f32⟩
  | .hbm, ⟨46, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel5.lean ====
abbrev S2x2048 : Shape := ⟨2, ![2, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S2x12288 : Shape := ⟨2, ![2, 12288]⟩
abbrev S2048x512 : Shape := ⟨2, ![2048, 512]⟩
abbrev S1x512 : Shape := ⟨2, ![1, 512]⟩
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S2x12288, .f32⟩
  | .local _ .vmem, ⟨0, _⟩ => ⟨S2x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S2x512, .f32⟩
  | .local _ .vmem, ⟨6, _⟩ => ⟨S2x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x12288, .f32⟩
  | .hbm, ⟨13, _⟩ => ⟨S2x12288, .f32⟩
  | .hbm, ⟨14, _⟩ => ⟨S12288, .f32⟩
  | .hbm, ⟨15, _⟩ => ⟨S1x12288, .f32⟩
  | .hbm, ⟨16, _⟩ => ⟨S2x12288, .f32⟩
  | .hbm, ⟨17, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel6.lean ====
abbrev S16384x6144 : Shape := ⟨2, ![16384, 6144]⟩
abbrev S16384x128 : Shape := ⟨2, ![16384, 128]⟩
abbrev S16384x256 : Shape := ⟨2, ![16384, 256]⟩
abbrev S2x144x16384 : Shape := ⟨3, ![2, 144, 16384]⟩
abbrev S16384x64 : Shape := ⟨2, ![16384, 64]⟩
abbrev S512x512 : Shape := ⟨2, ![512, 512]⟩
abbrev S512x128 : Shape := ⟨2, ![512, 128]⟩
abbrev S512x256 : Shape := ⟨2, ![512, 256]⟩
abbrev S2x144x512 : Shape := ⟨3, ![2, 144, 512]⟩
abbrev S512x64 : Shape := ⟨2, ![512, 64]⟩
abbrev S16x512 : Shape := ⟨2, ![16, 512]⟩
abbrev S128x512 : Shape := ⟨2, ![128, 512]⟩
abbrev S144x512 : Shape := ⟨2, ![144, 512]⟩
abbrev S1x144x512 : Shape := ⟨3, ![1, 144, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S16384x256, .bf16⟩
  | .hbm, ⟨3, _⟩ => ⟨S2x144x16384, .bf16⟩
  | .hbm, ⟨4, _⟩ => ⟨S16384x64, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x256, .bf16⟩
  | .local _ .vmem, ⟨5, _⟩ => ⟨S512x256, .bf16⟩
  | .local _ .vmem, ⟨6, _⟩ => ⟨S2x144x512, .bf16⟩
  | .local _ .vmem, ⟨7, _⟩ => ⟨S2x144x512, .bf16⟩
  | .local _ .vmem, ⟨8, _⟩ => ⟨S512x64, .bf16⟩
  | .local _ .vmem, ⟨9, _⟩ => ⟨S512x64, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x6144 : Shape := ⟨2, ![16384, 6144]⟩
abbrev S16384x128 : Shape := ⟨2, ![16384, 128]⟩
abbrev S16384x72 : Shape := ⟨2, ![16384, 72]⟩
abbrev S16384x6216 : Shape := ⟨2, ![16384, 6216]⟩
abbrev S16384x1024 : Shape := ⟨2, ![16384, 1024]⟩
abbrev S16384x256 : Shape := ⟨2, ![16384, 256]⟩
abbrev S16384x512 : Shape := ⟨2, ![16384, 512]⟩
abbrev S16384x64 : Shape := ⟨2, ![16384, 64]⟩
abbrev S16384x8 : Shape := ⟨2, ![16384, 8]⟩
abbrev S16384x2x128 : Shape := ⟨3, ![16384, 2, 128]⟩
abbrev S2x128x16384 : Shape := ⟨3, ![2, 128, 16384]⟩
abbrev S_ : Shape := ⟨0, ![]⟩
abbrev S2x1x16384 : Shape := ⟨3, ![2, 1, 16384]⟩
abbrev S2x15x16384 : Shape := ⟨3, ![2, 15, 16384]⟩
abbrev S2x144x16384 : Shape := ⟨3, ![2, 144, 16384]⟩

abbrev nBuf : Space → Nat
  | .hbm => 24
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S16384x72, .f32⟩
  | .hbm, ⟨3, _⟩ => ⟨S16384x6216, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x256, .f32⟩
  | .hbm, ⟨10, _⟩ => ⟨S16384x256, .f32⟩
  | .hbm, ⟨11, _⟩ => ⟨S16384x512, .f32⟩
  | .hbm, ⟨12, _⟩ => ⟨S16384x64, .f32⟩
  | .hbm, ⟨13, _⟩ => ⟨S16384x8, .f32⟩
  | .hbm, ⟨14, _⟩ => ⟨S16384x2x128, .f32⟩
  | .hbm, ⟨15, _⟩ => ⟨S2x128x16384, .f32⟩
  | .hbm, ⟨16, _⟩ => ⟨S_, .f32⟩
  | .hbm, ⟨17, _⟩ => ⟨S2x1x16384, .f32⟩
  | .hbm, ⟨18, _⟩ => ⟨S_, .f32⟩
  | .hbm, ⟨19, _⟩ => ⟨S2x15x16384, .f32⟩
  | .hbm, ⟨20, _⟩ => ⟨S2x144x16384, .f32⟩
  | .hbm, ⟨21, _⟩ => ⟨S16384x256, .bf16⟩
  | .hbm, ⟨22, _⟩ => ⟨S2x144x16384, .bf16⟩
  | .hbm, ⟨23, _⟩ => ⟨S16384x64, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Chunk.lean ====
module

public import proofs.«01_k».proof.Proof.Gen.KernelIdeal.Skeleton

@[expose] public section

set_option maxRecDepth 16384

noncomputable section

/-! What one grid point of the recurrence kernel computes, written chunk by chunk with the chunk's
number as a variable: the 32 chunks of 64 tokens are unrolled in the printed program, and every
definition here is the same operations read at chunk `n`. -/

namespace Cert.KernelIdeal.Hg

open Idealize.ShloMosaic Cert.KernelIdeal.Gen

variable {F : FTy → Type} [FloatOps F] [Named F]

/-- Chunk `n`'s 64 rows lie inside the block's 2048 rows. -/
theorem rowsFit (n : Fin 32) : S2048x128.Slices ![64 * n.val, 0] S64x128 :=
  ⟨rfl, fun a => by
    have hn := n.isLt
    match a with
    | ⟨0, _⟩ => show 64 * n.val + 64 ≤ 2048; omega
    | ⟨1, _⟩ => show 0 + 128 ≤ 128; omega⟩

/-- Chunk `n`'s 128 columns lie inside the 4096 columns of the chunks laid side by side. -/
theorem colsFit (n : Fin 32) : S64x4096.Slices ![0, 128 * n.val] S64x128 :=
  ⟨rfl, fun a => by
    have hn := n.isLt
    match a with
    | ⟨0, _⟩ => show 0 + 64 ≤ 64; omega
    | ⟨1, _⟩ => show 128 * n.val + 128 ≤ 4096; omega⟩

/-- The 64 rows of chunk `n`. -/
def rows {α : Type} (x : S2048x128.Idx → α) (n : Fin 32) : S64x128.Idx → α :=
  extractStridedSlice S64x128 ![64 * n.val, 0] x (rowsFit n)

/-- The 128 columns of chunk `n`. -/
def cols {α : Type} (x : S64x4096.Idx → α) (n : Fin 32) : S64x128.Idx → α :=
  extractStridedSlice S64x128 ![0, 128 * n.val] x (colsFit n)

/-- Row numbers of a 64 × 64 square. -/
abbrev rr : IVec S64x64 32 := iota .tc S64x64 32 [0] iota_S64x64_d0_w32
/-- Column numbers of a 64 × 64 square. -/
abbrev cc : IVec S64x64 32 := iota .tc S64x64 32 [1] iota_S64x64_d1_w32
/-- Row numbers of a chunk. -/
abbrev row : IVec S64x128 32 := iota .tc S64x128 32 [0] iota_S64x128_d0_w32
/-- Row numbers of the chunks laid side by side. -/
abbrev rowW : IVec S64x4096 32 := iota .tc S64x4096 32 [0] iota_S64x4096_d0_w32

/-- A chunk of zeros. -/
def zc : FVec F S64x128 .f32 := broadcast S64x128 (Scalar.ofBits .f32 0x00000000#32)
/-- A square of zeros. -/
def zs : FVec F S64x64 .f32 := broadcast S64x64 (Scalar.ofBits .f32 0x00000000#32)

/-- The chunks of a block laid side by side: chunk `n` in columns `128 n … 128 n + 127`. -/
def wide (x : FVec F S2048x128 .f32) : FVec F S64x4096 .f32 :=
  concatenate S64x4096 1 (List.ofFn fun n : Fin 32 => (⟨S64x128, rows x n⟩ : (s : Shape) × (s.Idx → F .f32)))
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x4096_d1

/-- Running sums within each chunk, by the product with the lower triangle of ones. -/
def bAll (x : FVec F S2048x128 .f32) : FVec F S64x4096 .f32 :=
  matmul dot_S64x64_S64x4096_S64x4096_1_0_0_1_n_n (some .fp32)
    (sitofp .f32 (extui 32 (cmpi .sge rr cc) natLt_1_32)) (wide x) (constant S64x4096 .f32 0x00000000#32)

/-- Whether row `i` is in the first half of its block of `mask + 1` rows. -/
def firstHalf (mask h : BitVec 32) : IVec S64x4096 1 :=
  cmpi .slt (andi rowW (broadcast S64x4096 mask)) (broadcast S64x4096 h)

/-- From the running sum at the end of each block of `h` rows, the one at the end of each block of
`2 h` rows. -/
def blkStep (mask h up : BitVec 32) (x : FVec F S64x4096 .f32) : FVec F S64x4096 .f32 :=
  select (firstHalf mask h) (dynamicRotate 0 up none x rotates_S64x4096_d0) x

/-- The running sum at the end of the first half of each block of `2 h` rows. -/
def splitOf (mask h dn : BitVec 32) (x : FVec F S64x4096 .f32) : FVec F S64x4096 .f32 :=
  select (firstHalf mask h) x (dynamicRotate 0 dn none x rotates_S64x4096_d0)

/-- The queries of one of the three parts of the products between sub-blocks of 16 rows. -/
def qPart (after : IVec S64x128 1) (q b : FVec F S64x128 .f32) (r : FVec F S1x128 .f32) : FVec F S64x128 .f32 :=
  select after (mulf q (exp2 (subf b (broadcastTo S64x128 r broadcasts_S1x128_S64x128)))) zc
/-- The keys of one of the three parts. -/
def kPart (inside : IVec S64x128 1) (k b : FVec F S64x128 .f32) (r : FVec F S1x128 .f32) : FVec F S64x128 .f32 :=
  select inside (mulf k (exp2 (subf (broadcastTo S64x128 r broadcasts_S1x128_S64x128) b))) zc

/-- Whether a row's sub-block of 16 comes after sub-block `i`. -/
def afterSub (i : BitVec 32) : IVec S64x128 1 := cmpi .sgt k0_pay3 (broadcast S64x128 i)
/-- Whether a row's sub-block of 16 is sub-block `i`. -/
def inSub (i : BitVec 32) : IVec S64x128 1 := cmpi .eq k0_pay3 (broadcast S64x128 i)
/-- Whether a row is in the second half of its block of `2 h` rows. -/
def inSecond (h : BitVec 32) : IVec S64x128 1 := cmpi .ne (andi row (broadcast S64x128 h)) (broadcast S64x128 0#32)
/-- The pairs of a row of the second half and a column of the first half of one block of `2 h` rows. -/
def lvlMask (h2 h : BitVec 32) : IVec S64x64 1 :=
  andi (cmpi .slt (xori rr cc) (broadcast S64x64 h2))
    (andi (cmpi .ne (andi rr (broadcast S64x64 h)) (broadcast S64x64 0#32))
      (cmpi .eq (andi cc (broadcast S64x64 h)) (broadcast S64x64 0#32)))

/-- The running sums at the last row of the first sub-block. -/
def r15 (b : FVec F S64x128 .f32) : FVec F S1x128 .f32 := extractStridedSlice S1x128 ![15, 0] b slices_S64x128_o15_0_S1x128
/-- The running sums at the last row of the second sub-block. -/
def r31 (b : FVec F S64x128 .f32) : FVec F S1x128 .f32 := extractStridedSlice S1x128 ![31, 0] b slices_S64x128_o31_0_S1x128
/-- The running sums at the last row of the third sub-block. -/
def r47 (b : FVec F S64x128 .f32) : FVec F S1x128 .f32 := extractStridedSlice S1x128 ![47, 0] b slices_S64x128_o47_0_S1x128
/-- The running sums at the chunk's last row. -/
def r63 (b : FVec F S64x128 .f32) : FVec F S1x128 .f32 := extractStridedSlice S1x128 ![63, 0] b slices_S64x128_o63_0_S1x128

/-- The queries of the three parts side by side. -/
def qx (q b : FVec F S64x128 .f32) : FVec F S64x384 .bf16 :=
  truncf .bf16 (concatenate S64x384 1 [⟨S64x128, qPart (afterSub 0#32) q b (r15 b)⟩,
    ⟨S64x128, qPart (afterSub 1#32) q b (r31 b)⟩, ⟨S64x128, qPart (afterSub 2#32) q b (r47 b)⟩]
    concatenates_S64x128_S64x128_S64x128_S64x384_d1) bitsLt_bf16_f32
/-- The keys of the three parts side by side. -/
def kx (k b : FVec F S64x128 .f32) : FVec F S64x384 .bf16 :=
  truncf .bf16 (concatenate S64x384 1 [⟨S64x128, kPart (inSub 0#32) k b (r15 b)⟩,
    ⟨S64x128, kPart (inSub 1#32) k b (r31 b)⟩, ⟨S64x128, kPart (inSub 2#32) k b (r47 b)⟩]
    concatenates_S64x128_S64x128_S64x128_S64x384_d1) bitsLt_bf16_f32

/-- The scores between different sub-blocks. -/
def crossS (q k b : FVec F S64x128 .f32) : FVec F S64x64 .f32 :=
  matmul dot_S64x384_S64x384_S64x64_1_1_0_0_n_n none (qx q b) (kx k b) (constant S64x64 .f32 0x00000000#32)

/-- The decay between a row and its block's splitting row. -/
def lvlE (b s : FVec F S64x128 .f32) : FVec F S64x128 .f32 := exp2 (subf zc (absf (subf b s)))

/-- The scores of one level inside the sub-blocks, before masking. -/
def lvlS (h : BitVec 32) (q k b s : FVec F S64x128 .f32) : FVec F S64x64 .f32 :=
  matmul dot_S64x128_S64x128_S64x64_1_1_0_0_n_n none
    (truncf .bf16 (select (inSecond h) (mulf q (lvlE b s)) zc) bitsLt_bf16_f32)
    (truncf .bf16 (select (inSecond h) zc (mulf k (lvlE b s))) bitsLt_bf16_f32)
    (constant S64x64 .f32 0x00000000#32)

/-- The scores on the diagonal, one per row. -/
def diagS (q k : FVec F S64x128 .f32) : FVec F S64x1 .f32 :=
  shapeCast S64x1 (multiReduction .add [1] S64 (mulf q k) 0x00000000#32 reduces_S64x128_S64 (.inl rfl) rfl) shapeCasts_S64_S64x1

/-- All the scores of a chunk. -/
def scores (q k b s1 s2 s4 s8 : FVec F S64x128 .f32) : FVec F S64x64 .bf16 :=
  truncf .bf16
    (addf (addf (addf (addf (addf (crossS q k b)
      (select (cmpi .eq rr cc) (broadcastTo S64x64 (shapeCast S64x1 (diagS q k) shapeCasts_S64x1_S64x1) broadcasts_S64x1_S64x64) zs))
      (select (lvlMask 2#32 1#32) (lvlS 1#32 q k b s1) zs))
      (select (lvlMask 4#32 2#32) (lvlS 2#32 q k b s2) zs))
      (select (lvlMask 8#32 4#32) (lvlS 4#32 q k b s4) zs))
      (select (lvlMask 16#32 8#32) (lvlS 8#32 q k b s8) zs)) bitsLt_bf16_f32

/-- What a chunk adds to the state. -/
def updS (k b : FVec F S64x128 .f32) (v : FVec F S64x128 .bf16) : FVec F S128x128 .f32 :=
  matmul dot_S64x128_S64x128_S128x128_0_0_1_1_n_n none v
    (truncf .bf16 (mulf k (exp2 (subf (broadcastTo S64x128 (r63 b) broadcasts_S1x128_S64x128) b))) bitsLt_bf16_f32)
    (constant S128x128 .f32 0x00000000#32)

/-- The state after a chunk, from the state before it. -/
def nextS (k b : FVec F S64x128 .f32) (v : FVec F S64x128 .bf16) (st : FVec F S128x128 .f32) : FVec F S128x128 .f32 :=
  addf (mulf st (broadcastTo S128x128 (exp2 (r63 b)) broadcasts_S1x128_S128x128)) (updS k b v)

/-- A chunk's outputs, from the state before it and its scores. -/
def outS (q b : FVec F S64x128 .f32) (v : FVec F S64x128 .bf16) (sc : FVec F S64x64 .bf16) (st : FVec F S128x128 .f32) :
    FVec F S64x128 .f32 :=
  addf (matmul dot_S64x128_S128x128_S64x128_1_1_0_0_n_n none (truncf .bf16 (mulf q (exp2 b)) bitsLt_bf16_f32)
      (truncf .bf16 st bitsLt_bf16_f32) (constant S64x128 .f32 0x00000000#32))
    (matmul dot_S64x64_S64x128_S64x128_1_0_0_1_n_n none sc v (constant S64x128 .f32 0x00000000#32))

/-- The block's inputs to the recurrence: queries, keys, log decays and values. -/
def qAll (x0 : Vec F S2048x128 .f32) : FVec F S2048x128 .f32 := k0_pay8 (k0_pay7 x0)
/-- The keys of a block. -/
def kAll (x4 : Vec F S2x128 .f32) (x1 : Vec F S2048x128 .f32) : FVec F S2048x128 .f32 := k0_pay6 x4 x1
/-- The logarithms of the decays of a block. -/
def lAll (x4 : Vec F S2x128 .f32) (x1 : Vec F S2048x128 .f32) : FVec F S2048x128 .f32 := k0_pay5 x4 x1
/-- The values of a block. -/
def vAll (x2 : Vec F S2048x128 .f32) : FVec F S2048x128 .bf16 := k0_pay9 x2

/-- The running sum at the end of each block of 2 rows. -/
def end2 (b : FVec F S64x4096 .f32) : FVec F S64x4096 .f32 := blkStep 1#32 1#32 63#32 b
/-- The running sum at the end of each block of 4 rows. -/
def end4 (b : FVec F S64x4096 .f32) : FVec F S64x4096 .f32 := blkStep 3#32 2#32 62#32 (end2 b)
/-- The running sum at the end of each block of 8 rows. -/
def end8 (b : FVec F S64x4096 .f32) : FVec F S64x4096 .f32 := blkStep 7#32 4#32 60#32 (end4 b)
/-- The splitting rows' running sums, for blocks of 2 rows. -/
def split1 (b : FVec F S64x4096 .f32) : FVec F S64x4096 .f32 := splitOf 1#32 1#32 1#32 b
/-- The splitting rows' running sums, for blocks of 4 rows. -/
def split2 (b : FVec F S64x4096 .f32) : FVec F S64x4096 .f32 := splitOf 3#32 2#32 2#32 (end2 b)
/-- The splitting rows' running sums, for blocks of 8 rows. -/
def split4 (b : FVec F S64x4096 .f32) : FVec F S64x4096 .f32 := splitOf 7#32 4#32 4#32 (end4 b)
/-- The splitting rows' running sums, for blocks of 16 rows. -/
def split8 (b : FVec F S64x4096 .f32) : FVec F S64x4096 .f32 := splitOf 15#32 8#32 8#32 (end8 b)

/-- The scores of chunk `n`, from the block's queries, keys and running sums. -/
def scoresAt (q k : FVec F S2048x128 .f32) (b : FVec F S64x4096 .f32) (n : Fin 32) : FVec F S64x64 .bf16 :=
  scores (rows q n) (rows k n) (cols b n) (cols (split1 b) n) (cols (split2 b) n) (cols (split4 b) n) (cols (split8 b) n)

/-- The state before chunk `n`. -/
def stAt (k : FVec F S2048x128 .f32) (b : FVec F S64x4096 .f32) (v : FVec F S2048x128 .bf16) (st : FVec F S128x128 .f32) :
    ℕ → FVec F S128x128 .f32
  | 0 => st
  | n + 1 => if h : n < 32 then nextS (rows k ⟨n, h⟩) (cols b ⟨n, h⟩) (rows v ⟨n, h⟩) (stAt k b v st n) else stAt k b v st n

/-- The outputs of chunk `n`. -/
def outAt (q k : FVec F S2048x128 .f32) (b : FVec F S64x4096 .f32) (v : FVec F S2048x128 .bf16) (st : FVec F S128x128 .f32)
    (n : Fin 32) : FVec F S64x128 .f32 :=
  outS (rows q n) (cols b n) (rows v n) (scoresAt q k b n) (stAt k b v st n.val)

/-- The chunks' outputs one under another. -/
def tall (f : Fin 32 → FVec F S64x128 .f32) : FVec F S2048x128 .f32 :=
  concatenate S2048x128 0 (List.ofFn fun n : Fin 32 => (⟨S64x128, f n⟩ : (s : Shape) × (s.Idx → F .f32)))
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S2048x128_d0

/-- The normalized and gated outputs of a block. -/
def normGate (o : FVec F S2048x128 .f32) (x5 : Vec F S1x128 .f32) (x3 : Vec F S2048x128 .f32) : FVec F S2048x128 .bf16 :=
  truncf .bf16
    (mulf (mulf (mulf o (broadcastTo S2048x128 (rsqrt (addf (divf (shapeCast S2048x1
        (multiReduction .add [1] S2048 (mulf o o) 0x00000000#32 reduces_S2048x128_S2048 (.inl rfl) rfl) shapeCasts_S2048_S2048x1)
        (broadcast S2048x1 (Scalar.ofBits .f32 0x43000000#32))) (broadcast S2048x1 (Scalar.ofBits .f32 0x358637BD#32))))
        broadcasts_S2048x1_S2048x128))
      (broadcastTo S2048x128 (shapeCast S1x128 x5 shapeCasts_S1x128_S1x128) broadcasts_S1x128_S2048x128))
      (mulf x3 (logistic x3))) bitsLt_bf16_f32

/-- What a grid point stores as its block of the result, from its six input blocks and the state it starts from. -/
def outBlk (x0 x1 x2 x3 : Vec F S2048x128 .f32) (x4 : Vec F S2x128 .f32) (x5 : Vec F S1x128 .f32) (st : FVec F S128x128 .f32) :
    FVec F S2048x128 .bf16 :=
  normGate (tall (outAt (qAll x0) (kAll x4 x1) (bAll (lAll x4 x1)) (vAll x2) st)) x5 x3

/-- What a grid point leaves as the state. -/
def stBlk (x1 x2 : Vec F S2048x128 .f32) (x4 : Vec F S2x128 .f32) (st : FVec F S128x128 .f32) : FVec F S128x128 .f32 :=
  stAt (kAll x4 x1) (bAll (lAll x4 x1)) (vAll x2) st 32

end Cert.KernelIdeal.Hg

end
-- ==== Proof.Math.lean ====
module

public import Idealize.ShloMosaic.PureOps.Ideal
public import Mathlib.Analysis.SpecialFunctions.Pow.Real

@[expose] public section

set_option maxRecDepth 16384

noncomputable section

/-! The arithmetic of one chunk of the recurrence over the extended reals: the kernel's scores,
split into products between sub-blocks of 16 rows, a diagonal and four levels inside the
sub-blocks, are the reference's scores. -/

namespace Cert.Hg

open Idealize.ShloMosaic

/-- The factor between natural and binary logarithms. -/
def c2 : ℝ := (Real.log 2)⁻¹

/-- Two to the power of a logarithm scaled to base two is the exponential of the logarithm. -/
theorem exp2_scaled (x : ℝ) : Ideal.exp2 ((x * c2 : ℝ) : EReal) = ((Real.exp x : ℝ) : EReal) := by
  have h2 : Real.log 2 ≠ 0 := (Real.log_pos (by norm_num)).ne'
  rw [Ideal.exp2_coe]
  show ((Real.rpow 2 (x * (Real.log 2)⁻¹) : ℝ) : EReal) = _
  rw [Real.rpow_eq_pow, Real.rpow_def_of_pos (by norm_num : (0 : ℝ) < 2)]
  congr 2
  field_simp

/-- The difference of two scaled logarithms is the scaled difference. -/
theorem sub_scaled (x y : ℝ) : ((x * c2 : ℝ) : EReal) - ((y * c2 : ℝ) : EReal) = (((x - y) * c2 : ℝ) : EReal) := by
  rw [← EReal.coe_sub, sub_mul]

/-- Two to the power of a difference of scaled logarithms. -/
theorem exp2_sub (x y : ℝ) : Ideal.exp2 (((x * c2 : ℝ) : EReal) - ((y * c2 : ℝ) : EReal)) = ((Real.exp (x - y) : ℝ) : EReal) := by
  rw [sub_scaled, exp2_scaled]

theorem c2_nonneg : 0 ≤ c2 := inv_nonneg.mpr (Real.log_pos (by norm_num)).le

/-- Two to the power of minus the distance of two scaled logarithms, the first at most the second. -/
theorem exp2_neg_abs_le {x y : ℝ} (h : x ≤ y) :
    Ideal.exp2 (0 - max (((x * c2 : ℝ) : EReal) - ((y * c2 : ℝ) : EReal)) (-(((x * c2 : ℝ) : EReal) - ((y * c2 : ℝ) : EReal))))
      = ((Real.exp (x - y) : ℝ) : EReal) := by
  have hc := c2_nonneg
  rw [sub_scaled, ← EReal.coe_neg, max_eq_right (EReal.coe_le_coe_iff.mpr (by nlinarith)), ← EReal.coe_zero, ← EReal.coe_sub,
    show (0 : ℝ) - -((x - y) * c2) = (x - y) * c2 by ring, exp2_scaled]

/-- The same, the first at least the second. -/
theorem exp2_neg_abs_ge {x y : ℝ} (h : y ≤ x) :
    Ideal.exp2 (0 - max (((x * c2 : ℝ) : EReal) - ((y * c2 : ℝ) : EReal)) (-(((x * c2 : ℝ) : EReal) - ((y * c2 : ℝ) : EReal))))
      = ((Real.exp (y - x) : ℝ) : EReal) := by
  have hc := c2_nonneg
  rw [sub_scaled, ← EReal.coe_neg, max_eq_left (EReal.coe_le_coe_iff.mpr (by nlinarith)), ← EReal.coe_zero, ← EReal.coe_sub,
    show (0 : ℝ) - (x - y) * c2 = (y - x) * c2 by ring, exp2_scaled]

/-- A query and a key each scaled to a row between them: together they carry the decay between their own rows. -/
theorem pair_mul (q k : EReal) (x y r : ℝ) :
    (q * ((Real.exp (x - r) : ℝ) : EReal)) * (k * ((Real.exp (r - y) : ℝ) : EReal)) = q * ((Real.exp (x - y) : ℝ) : EReal) * k := by
  rw [show Real.exp (x - y) = Real.exp (x - r) * Real.exp (r - y) by rw [← Real.exp_add]; congr 1; ring, EReal.coe_mul]
  rw [mul_mul_mul_comm]
  exact mul_right_comm _ _ _

/-- The last row of the first half of row `t`'s block of `2 h` rows. -/
def sp (h : ℕ) (t : Fin 64) : Fin 64 := Fin.ofNat 64 (t.val / (2 * h) * (2 * h) + h - 1)
/-- Row `t` is in the second half of its block of `2 h` rows. -/
def snd (h : ℕ) (t : Fin 64) : Bool := t.val / h % 2 == 1
/-- Rows `t` and `s` are in the second and the first half of one block of `2 h` rows. -/
def lvl (h : ℕ) (t s : Fin 64) : Bool := (t.val / (2 * h) == s.val / (2 * h)) && (snd h t && !snd h s)
/-- The last row of sub-block `i`. -/
def lastOf (i : Fin 3) : Fin 64 := ⟨16 * i.val + 15, by omega⟩
/-- Row `t`'s sub-block comes after sub-block `i`. -/
def aft (i : Fin 3) (t : Fin 64) : Bool := i.val < t.val / 16
/-- Row `t`'s sub-block is sub-block `i`. -/
def ins (i : Fin 3) (t : Fin 64) : Bool := t.val / 16 == i.val

/-- Where a level's product is used, both rows have one splitting row, between them. -/
theorem lvl_split : ∀ h ∈ [1, 2, 4, 8], ∀ t s : Fin 64, lvl h t s = true →
    sp h t = sp h s ∧ s ≤ sp h s ∧ sp h t ≤ t ∧ snd h t = true ∧ snd h s = false := by
  decide +kernel

/-- At and below the diagonal exactly one of the products is used, above it none. -/
theorem one_used : ∀ t s : Fin 64,
    [aft 0 t && ins 0 s, aft 1 t && ins 1 s, aft 2 t && ins 2 s, decide (t = s), lvl 1 t s, lvl 2 t s, lvl 4 t s, lvl 8 t s].count true
      = if s ≤ t then 1 else 0 := by
  decide +kernel

/-- A sum of eight numbers, each either `T` or zero, with at most one of them `T`. -/
theorem sum_used (T : EReal) (p : Prop) [Decidable p] (b0 b1 b2 b3 b4 b5 b6 b7 : Bool)
    (h : [b0, b1, b2, b3, b4, b5, b6, b7].count true = if p then 1 else 0) :
    ((((((bif b0 then T else 0) + (bif b1 then T else 0) + (bif b2 then T else 0)) + (bif b3 then T else 0)) + (bif b4 then T else 0))
      + (bif b5 then T else 0)) + (bif b6 then T else 0)) + (bif b7 then T else 0) = if p then T else 0 := by
  by_cases hp : p
  · rw [if_pos hp] at h ⊢
    revert b0 b1 b2 b3 b4 b5 b6 b7
    intro b0 b1 b2 b3 b4 b5 b6 b7 h
    cases b0 <;> cases b1 <;> cases b2 <;> cases b3 <;> cases b4 <;> cases b5 <;> cases b6 <;> cases b7 <;>
      first | (exact absurd h (by decide)) | simp
  · rw [if_neg hp] at h ⊢
    rw [List.count_eq_zero] at h
    simp only [List.mem_cons, List.not_mem_nil, or_false, not_or, Bool.true_eq, Bool.not_eq_true] at h
    obtain ⟨rfl, rfl, rfl, rfl, rfl, rfl, rfl, rfl⟩ := h
    simp

section Scores

variable (q k b : Fin 64 → Fin 128 → EReal)

/-- The kernel's score between sub-blocks, part `i`. -/
def crossK (i : Fin 3) (t s : Fin 64) : EReal :=
  ∑ d : Fin 128, (bif aft i t then q t d * Ideal.exp2 (b t d - b (lastOf i) d) else 0)
    * (bif ins i s then k s d * Ideal.exp2 (b (lastOf i) d - b s d) else 0)

/-- The decay between a row and its splitting row. -/
def eK (h : ℕ) (t : Fin 64) (d : Fin 128) : EReal :=
  Ideal.exp2 (0 - max (b t d - b (sp h t) d) (-(b t d - b (sp h t) d)))

/-- The kernel's score at one level, masked. -/
def lvlK (h : ℕ) (t s : Fin 64) : EReal :=
  bif lvl h t s then ∑ d : Fin 128, (bif snd h t then q t d * eK b h t d else 0) * (bif snd h s then 0 else k s d * eK b h s d) else 0

/-- The kernel's score. -/
def scoreK (t s : Fin 64) : EReal :=
  ((((((crossK q k b 0 t s + crossK q k b 1 t s + crossK q k b 2 t s)
    + (bif decide (t = s) then ∑ d : Fin 128, q t d * k t d else 0)) + lvlK q k b 1 t s) + lvlK q k b 2 t s) + lvlK q k b 4 t s)
    + lvlK q k b 8 t s)

end Scores

/-- The reference's score. -/
def scoreR (q k b : Fin 64 → Fin 128 → EReal) (t s : Fin 64) : EReal :=
  ∑ d : Fin 128, q t d * Ideal.exp (if s ≤ t then b t d - b s d else ⊥) * k s d

section ScoresEq

variable (q k : Fin 64 → Fin 128 → EReal) (B : Fin 64 → Fin 128 → ℝ)

/-- The one product every used score is: the two rows' products under the decay between them. -/
def term (t s : Fin 64) : EReal := ∑ d : Fin 128, q t d * ((Real.exp (B t d - B s d) : ℝ) : EReal) * k s d

/-- The running sums as the kernel holds them. -/
abbrev bK (t : Fin 64) (d : Fin 128) : EReal := ((B t d * c2 : ℝ) : EReal)
/-- The running sums as the reference holds them. -/
abbrev bR (t : Fin 64) (d : Fin 128) : EReal := ((B t d : ℝ) : EReal)

theorem crossK_eq (i : Fin 3) (t s : Fin 64) : crossK q k (bK B) i t s = bif aft i t && ins i s then term q k B t s else 0 := by
  unfold crossK term bK
  cases aft i t <;> cases ins i s <;> simp only [cond_true, cond_false, Bool.and_true, Bool.and_false, zero_mul, mul_zero, Finset.sum_const_zero]
  exact Finset.sum_congr rfl fun d _ => by rw [exp2_sub, exp2_sub, pair_mul]

theorem lvlK_eq (hB : ∀ s t : Fin 64, s ≤ t → ∀ d, B t d ≤ B s d) (h : ℕ) (hh : h ∈ [1, 2, 4, 8]) (t s : Fin 64) :
    lvlK q k (bK B) h t s = bif lvl h t s then term q k B t s else 0 := by
  unfold lvlK
  cases hl : lvl h t s
  · exact (cond_false _ _).trans (cond_false _ _).symm
  · obtain ⟨h1, h2, h3, h4, h5⟩ := lvl_split h hh t s hl
    refine (cond_true _ _).trans ((Finset.sum_congr rfl fun d _ => ?_).trans (cond_true _ _).symm)
    unfold eK bK
    rw [h4, h5, cond_true, cond_false, exp2_neg_abs_le (hB _ _ h3 d), exp2_neg_abs_ge (hB _ _ h2 d), h1, pair_mul]

theorem diagK_eq (t s : Fin 64) :
    (bif decide (t = s) then ∑ d : Fin 128, q t d * k t d else 0) = bif decide (t = s) then term q k B t s else 0 := by
  by_cases h : t = s
  · subst h
    simp [term]
  · simp [h]

/-- The kernel's score is the product under the decay at and below the diagonal, zero above. -/
theorem scoreK_eq (hB : ∀ s t : Fin 64, s ≤ t → ∀ d, B t d ≤ B s d) (t s : Fin 64) :
    scoreK q k (bK B) t s = if s ≤ t then term q k B t s else 0 := by
  unfold scoreK
  rw [crossK_eq, crossK_eq, crossK_eq, diagK_eq q k B, lvlK_eq q k B hB 1 (by decide), lvlK_eq q k B hB 2 (by decide),
    lvlK_eq q k B hB 4 (by decide), lvlK_eq q k B hB 8 (by decide)]
  exact sum_used _ _ _ _ _ _ _ _ _ _ (one_used t s)

/-- So is the reference's. -/
theorem scoreR_eq (t s : Fin 64) : scoreR q k (bR B) t s = if s ≤ t then term q k B t s else 0 := by
  unfold scoreR
  split
  · exact Finset.sum_congr rfl fun d _ => by rw [← EReal.coe_sub, Ideal.exp_coe]
  · simp

/-- The two scores are equal. -/
theorem score_eq (hB : ∀ s t : Fin 64, s ≤ t → ∀ d, B t d ≤ B s d) (t s : Fin 64) :
    scoreK q k (bK B) t s = scoreR q k (bR B) t s := by
  rw [scoreK_eq q k B hB, scoreR_eq]

end ScoresEq

end Cert.Hg

end
-- ==== Proof.Rec.lean ====
module

public import proofs.«01_k».proof.Proof.Math
public import Mathlib.Algebra.BigOperators.Fin
public import Mathlib.Data.Finset.Fold

@[expose] public section

set_option maxRecDepth 16384

noncomputable section

/-! The recurrence over the extended reals: the gates from the projections, the running sums of their
logarithms, the state carried from chunk to chunk and the outputs. -/

namespace Cert.Hg

open Idealize.ShloMosaic

/-- The logistic function. -/
def sig (a : EReal) : EReal := Ideal.div 1 (1 + Ideal.exp (-a))

/-- The larger of the two logits. -/
def top2 (l : Fin 2 → EReal) : EReal := Finset.univ.fold max (Ideal.ofBits .f32 4286578688#32) l

/-- The forget gate's lower bound: the first weight of the softmax of the two logits. -/
def low (l : Fin 2 → EReal) : EReal := Ideal.div (Ideal.exp (l 0 - top2 l)) (∑ x, Ideal.exp (l x - top2 l))

/-- The forget gate. -/
def forget (l : Fin 2 → EReal) (a : EReal) : EReal := low l + (1 - low l) * sig a

theorem negInf : Ideal.ofBits .f32 4286578688#32 = ⊥ := by simp [Ideal.ofBits, Ideal.ieee]

theorem top2_eq (l : Fin 2 → EReal) : top2 l = max (l 0) (l 1) := by
  unfold top2
  rw [negInf, show (Finset.univ : Finset (Fin 2)) = {0, 1} from rfl, Finset.fold_insert (by decide), Finset.fold_singleton]
  simp

/-- The maximum kept against minus infinity once more. -/
theorem max_top2 (l : Fin 2 → EReal) : max (Ideal.ofBits .f32 4286578688#32) (top2 l) = top2 l := by
  rw [negInf]; exact max_eq_right bot_le

/-- Finite logits give a lower bound strictly between zero and one. -/
theorem low_real (l : Fin 2 → EReal) (h : ∀ i, max (l i) (-(l i)) < ⊤) : ∃ r : ℝ, 0 < r ∧ r < 1 ∧ low l = (r : EReal) := by
  have hx : ∀ i, ∃ x : ℝ, l i = (x : EReal) := fun i => by
    have := h i
    induction hl : l i using EReal.rec with
    | bot => rw [hl] at this; simp at this
    | top => rw [hl] at this; simp at this
    | coe x => exact ⟨x, rfl⟩
  obtain ⟨x, hx0⟩ := hx 0
  obtain ⟨y, hy0⟩ := hx 1
  have hm : top2 l = ((max x y : ℝ) : EReal) := by rw [top2_eq, hx0, hy0]; exact (EReal.coe_strictMono.monotone.map_max).symm
  have p0 := Real.exp_pos (x - max x y)
  have p1 := Real.exp_pos (y - max x y)
  refine ⟨Real.exp (x - max x y) * (1 / (Real.exp (x - max x y) + Real.exp (y - max x y))), by positivity, ?_, ?_⟩
  · rw [mul_one_div, div_lt_one (by positivity)]; linarith
  · unfold low
    rw [Fin.sum_univ_two, hm, hx0, hy0, ← EReal.coe_sub, ← EReal.coe_sub, Ideal.exp_coe, Ideal.exp_coe, ← EReal.coe_add,
      Ideal.div_coe (by positivity), ← EReal.coe_mul]

/-- The logistic function is between zero and one everywhere. -/
theorem sig_real (a : EReal) : ∃ s : ℝ, 0 ≤ s ∧ s ≤ 1 ∧ sig a = (s : EReal) := by
  unfold sig
  induction a using EReal.rec with
  | bot => exact ⟨0, le_rfl, zero_le_one, by
      rw [EReal.neg_bot, Ideal.exp_top, show (1 : EReal) + ⊤ = ⊤ from EReal.coe_add_top 1]; simp [Ideal.div]⟩
  | top => exact ⟨1, zero_le_one, le_rfl, by simp [Ideal.div]⟩
  | coe x =>
    have p := Real.exp_pos (-x)
    refine ⟨1 / (1 + Real.exp (-x)), by positivity, ?_, ?_⟩
    · rw [div_le_one (by positivity)]; linarith
    · rw [← EReal.coe_neg, Ideal.exp_coe, ← EReal.coe_one, ← EReal.coe_add, Ideal.div_coe (by positivity), ← EReal.coe_mul, one_mul]

/-- The logarithm of the forget gate as a real number. -/
def lg (l : Fin 2 → EReal) (a : EReal) : ℝ := (Ideal.log (forget l a)).toReal

/-- For finite logits the forget gate's logarithm is real, and not above zero. -/
theorem lg_spec (l : Fin 2 → EReal) (h : ∀ i, max (l i) (-(l i)) < ⊤) (a : EReal) :
    Ideal.log (forget l a) = ((lg l a : ℝ) : EReal) ∧ lg l a ≤ 0 := by
  obtain ⟨r, r0, r1, hr⟩ := low_real l h
  obtain ⟨s, s0, s1, hs⟩ := sig_real a
  have hf : forget l a = ((r + (1 - r) * s : ℝ) : EReal) := by
    unfold forget
    rw [hr, hs, ← EReal.coe_one, ← EReal.coe_sub, ← EReal.coe_mul, ← EReal.coe_add]
  have p : 0 < r + (1 - r) * s := by nlinarith
  have q : r + (1 - r) * s ≤ 1 := by nlinarith
  unfold lg
  rw [hf, Ideal.log_coe, if_neg (not_le.mpr p)]
  exact ⟨congrArg _ (EReal.toReal_coe _).symm, by rw [EReal.toReal_coe]; exact Real.log_nonpos p.le q⟩

section Sums

variable (l : Fin 128 → Fin 2 → EReal) (a : Fin 64 → Fin 128 → EReal)

/-- The running sums of the forget gate's logarithms inside a chunk. -/
def B (t : Fin 64) (d : Fin 128) : ℝ := ∑ s : Fin 64, if s ≤ t then lg (l d) (a s d) else 0

theorem B_anti (h : ∀ d i, max (l d i) (-(l d i)) < ⊤) (s t : Fin 64) (hst : s ≤ t) (d : Fin 128) : B l a t d ≤ B l a s d := by
  refine Finset.sum_le_sum fun u _ => ?_
  have := (lg_spec (l d) (h d) (a u d)).2
  by_cases h1 : u ≤ s
  · rw [if_pos h1, if_pos (h1.trans hst)]
  · rw [if_neg h1]; split
    · exact this
    · exact le_rfl

/-- A sum of real numbers among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The reference's running sums. -/
theorem sum_ref (h : ∀ d i, max (l d i) (-(l d i)) < ⊤) (t : Fin 64) (d : Fin 128) :
    (∑ s : Fin 64, if s ≤ t then Ideal.log (forget (l d) (a s d)) else 0) = ((B l a t d : ℝ) : EReal) := by
  unfold B
  rw [coe_sum]
  refine Finset.sum_congr rfl fun s _ => ?_
  split
  · exact (lg_spec (l d) (h d) (a s d)).1
  · rfl

/-- The kernel's running sums, of the logarithms scaled to base two. -/
theorem sum_kern (h : ∀ d i, max (l d i) (-(l d i)) < ⊤) (t : Fin 64) (d : Fin 128) :
    (∑ s : Fin 64, (if s ≤ t then 1 else 0) * (Ideal.log (forget (l d) (a s d)) * ((c2 : ℝ) : EReal))) = ((B l a t d * c2 : ℝ) : EReal) := by
  unfold B
  rw [Finset.sum_mul, coe_sum]
  refine Finset.sum_congr rfl fun s _ => ?_
  split
  · rw [one_mul, (lg_spec (l d) (h d) (a s d)).1, EReal.coe_mul]
  · rw [zero_mul, zero_mul]; rfl

end Sums

section Recurrence

variable (q k b v : Fin 128 → Fin 64 → Fin 128 → EReal)

/-- The state before chunk `n`. -/
def refSt : ℕ → Fin 128 → Fin 128 → EReal
  | 0 => fun _ _ => 0
  | n + 1 => fun d e => if h : n < 128 then
      Ideal.exp (b ⟨n, h⟩ 63 d) * refSt n d e
        + ∑ x : Fin 64, k ⟨n, h⟩ x d * Ideal.exp (b ⟨n, h⟩ 63 d - b ⟨n, h⟩ x d) * v ⟨n, h⟩ x e
    else refSt n d e

/-- The outputs of chunk `n`. -/
def refOut (n : Fin 128) (t : Fin 64) (e : Fin 128) : EReal :=
  (∑ x : Fin 128, q n t x * Ideal.exp (b n t x) * refSt k b v n.val x e)
    + ∑ x : Fin 64, scoreR (q n) (k n) (b n) t x * v n x e

theorem refSt_succ (n : Fin 128) (d e : Fin 128) : refSt k b v (n.val + 1) d e = Ideal.exp (b n 63 d) * refSt k b v n.val d e
    + ∑ x : Fin 64, k n x d * Ideal.exp (b n 63 d - b n x d) * v n x e := by
  exact dif_pos n.isLt

end Recurrence

/-- One element of the normalized and gated outputs: of a head's outputs `o` at one token, the gain and the gate's input. -/
def gated (o : Fin 128 → EReal) (d : Fin 128) (g a : EReal) : EReal :=
  o d * Ideal.rsqrt (Ideal.div (∑ x, o x * o x) (Ideal.ofBits .f32 1124073472#32) + Ideal.ofBits .f32 897988541#32) * g * (a * sig a)

section Inputs

variable (x : Fin 16384 → Fin 6144 → EReal) (l : Fin 2 → Fin 1024 → EReal) (bi : Fin 2) (hi : Fin 8)

/-- The row of token `t` of chunk `n` of a batch. -/
def rowOf (bi : Fin 2) (n : Fin 128) (t : Fin 64) : Fin 16384 := ⟨bi.val * 8192 + (n.val * 64 + t.val), by omega⟩
/-- Channel `d` of a head. -/
def chan (hi : Fin 8) (d : Fin 128) : Fin 1024 := ⟨hi.val * 128 + d.val, by omega⟩

/-- A head's logits. -/
def lIn (d : Fin 128) (i : Fin 2) : EReal := l i (chan hi d)
/-- The forget gate's inputs. -/
def aIn (n : Fin 128) (t : Fin 64) (d : Fin 128) : EReal := x (rowOf bi n t) ⟨1024 + (chan hi d).val, by omega⟩
/-- The queries. -/
def qIn (n : Fin 128) (t : Fin 64) (d : Fin 128) : EReal :=
  x (rowOf bi n t) ⟨(chan hi d).val, by omega⟩ * sig (x (rowOf bi n t) ⟨(chan hi d).val, by omega⟩) * Ideal.ofBits .f32 1035273459#32
/-- The keys. -/
def kIn (n : Fin 128) (t : Fin 64) (d : Fin 128) : EReal := 1 - forget (lIn l hi d) (aIn x bi hi n t d)
/-- The values. -/
def vIn (n : Fin 128) (t : Fin 64) (d : Fin 128) : EReal := x (rowOf bi n t) ⟨2048 + (chan hi d).val, by omega⟩
/-- The running sums of the forget gate's logarithms. -/
def bIn (n : Fin 128) : Fin 64 → Fin 128 → ℝ := B (lIn l hi) (aIn x bi hi n)

/-- The state before chunk `n`, of the projections. -/
def stOf (n : ℕ) : Fin 128 → Fin 128 → EReal := refSt (kIn x l bi hi) (fun n => bR (bIn x l bi hi n)) (vIn x bi hi) n
/-- The outputs of chunk `n`, of the projections. -/
def outOf (n : Fin 128) : Fin 64 → Fin 128 → EReal :=
  refOut (qIn x bi hi) (kIn x l bi hi) (fun n => bR (bIn x l bi hi n)) (vIn x bi hi) n

end Inputs

/-- One element of the result: of the projections, the logits and the gains. -/
def resultOf (x : Fin 16384 → Fin 6144 → EReal) (l : Fin 2 → Fin 1024 → EReal) (g : Fin 1024 → EReal) (bi : Fin 2) (hi : Fin 8)
    (n : Fin 128) (t : Fin 64) (d : Fin 128) : EReal :=
  gated (outOf x l bi hi n t) d (g (chan hi d)) (x (rowOf bi n t) ⟨3072 + (chan hi d).val, by omega⟩)

end Cert.Hg

end
-- ==== Proof.KernRead.lean ====
module

public import proofs.«01_k».proof.Proof.Chunk
public import proofs.«01_k».proof.Proof.Rec
public import Idealize.ShloMosaic.Lib.Pointwise

@[expose] public section

set_option maxRecDepth 16384

noncomputable section

/-! One grid point of the kernel over the extended reals, read element by element. -/

namespace Cert.KernelIdeal.Hg

open Idealize.ShloMosaic Idealize.ShloMosaic.Pointwise
open Cert.KernelIdeal Cert.KernelIdeal.Gen

/-- The named constant is the factor between natural and binary logarithms. -/
theorem named_c2 : (Named.named (F := Ideal) κ "log2e" 1069066811#32 : Ideal .f32) = ((Cert.Hg.c2 : ℝ) : EReal) := rfl

/-- The forget gate of a block. -/
theorem forget_read (x4 : Vec Ideal S2x128 .f32) (x1 : Vec Ideal S2048x128 .f32) (r : Fin 2048) (d : Fin 128) :
    k0_pay4 x4 x1 (ix2 r d) = Cert.Hg.forget (fun i => x4 (ix2 i d)) (x1 (ix2 r d)) := by
  pointwise [k0_pay4]
  simp only [Finset.univ_unique, Finset.sum_singleton]
  rfl

theorem q_read (x0 : Vec Ideal S2048x128 .f32) (r : Fin 2048) (d : Fin 128) :
    qAll x0 (ix2 r d) = x0 (ix2 r d) * Cert.Hg.sig (x0 (ix2 r d)) * Ideal.ofBits .f32 1035273459#32 := by
  pointwise [qAll, k0_pay8, k0_pay7]
  rfl

theorem k_read (x4 : Vec Ideal S2x128 .f32) (x1 : Vec Ideal S2048x128 .f32) (r : Fin 2048) (d : Fin 128) :
    kAll x4 x1 (ix2 r d) = 1 - Cert.Hg.forget (fun i => x4 (ix2 i d)) (x1 (ix2 r d)) := by
  pointwise [kAll, k0_pay6]
  rw [forget_read]

theorem l_read (x4 : Vec Ideal S2x128 .f32) (x1 : Vec Ideal S2048x128 .f32) (r : Fin 2048) (d : Fin 128) :
    lAll x4 x1 (ix2 r d) = Ideal.log (Cert.Hg.forget (fun i => x4 (ix2 i d)) (x1 (ix2 r d))) * ((Cert.Hg.c2 : ℝ) : EReal) := by
  pointwise [lAll, k0_pay5]
  rw [forget_read, named_c2]

theorem v_read (x2 : Vec Ideal S2048x128 .f32) (r : Fin 2048) (d : Fin 128) : vAll x2 (ix2 r d) = x2 (ix2 r d) := by
  pointwise [vAll, k0_pay9]

/-- A chunk's state, at an element. -/
theorem next_read (k b : FVec Ideal S64x128 .f32) (v : FVec Ideal S64x128 .bf16) (st : FVec Ideal S128x128 .f32) (e d : Fin 128) :
    nextS k b v st (ix2 e d) = st (ix2 e d) * Ideal.exp2 (b (ix2 63 d))
      + ∑ x : Fin 64, v (ix2 x e) * (k (ix2 x d) * Ideal.exp2 (b (ix2 63 d) - b (ix2 x d))) := by
  pointwise [nextS, updS, r63]
  rfl

/-- A chunk's outputs, at an element. -/
theorem out_read (q b : FVec Ideal S64x128 .f32) (v : FVec Ideal S64x128 .bf16) (sc : FVec Ideal S64x64 .bf16) (st : FVec Ideal S128x128 .f32)
    (t : Fin 64) (e : Fin 128) :
    outS q b v sc st (ix2 t e) = (∑ x : Fin 128, q (ix2 t x) * Ideal.exp2 (b (ix2 t x)) * st (ix2 e x))
      + ∑ x : Fin 64, sc (ix2 t x) * v (ix2 x e) := by
  pointwise [outS]
  rfl

theorem rows_read {α : Type} (x : S2048x128.Idx → α) (n : Fin 32) (t : Fin 64) (d : Fin 128) :
    rows x n (ix2 t d) = x (ix2 ⟨64 * n.val + t.val, by omega⟩ d) := by
  pointwise [rows]

theorem cols_read {α : Type} (x : S64x4096.Idx → α) (n : Fin 32) (t : Fin 64) (d : Fin 128) :
    cols x n (ix2 t d) = x (ix2 t ⟨128 * n.val + d.val, by omega⟩) := by
  pointwise [cols]

theorem norm_read (o : FVec Ideal S2048x128 .f32) (x5 : Vec Ideal S1x128 .f32) (x3 : Vec Ideal S2048x128 .f32) (r : Fin 2048) (d : Fin 128) :
    normGate o x5 x3 (ix2 r d) = Cert.Hg.gated (fun x => o (ix2 r x)) d (x5 (ix2 0 d)) (x3 (ix2 r d)) := by
  pointwise [normGate]
  rfl

/-- The row a step towards the ends of blocks reads. -/
def up (m h u : BitVec 32) (t : Fin 64) : Fin 64 :=
  if IntOp.cmpi .slt (IntOp.andi (BitVec.ofNat 32 t.val) m) h = 1#1 then Fin.ofNat 64 (t.val + 64 - u.toNat % 64) else t
/-- The row a splitting step reads. -/
def dn (m h u : BitVec 32) (t : Fin 64) : Fin 64 :=
  if IntOp.cmpi .slt (IntOp.andi (BitVec.ofNat 32 t.val) m) h = 1#1 then t else Fin.ofNat 64 (t.val + 64 - u.toNat % 64)

theorem blk_read (m h u : BitVec 32) (x : FVec Ideal S64x4096 .f32) (t : Fin 64) (c : Fin 4096) :
    blkStep m h u x (ix2 t c) = x (ix2 (up m h u t) c) := by
  pointwise [blkStep, firstHalf]
  unfold up Scalar.select
  split
  · rw [if_pos ‹_›]; rfl
  · rw [if_neg ‹_›]

theorem split_read (m h u : BitVec 32) (x : FVec Ideal S64x4096 .f32) (t : Fin 64) (c : Fin 4096) :
    splitOf m h u x (ix2 t c) = x (ix2 (dn m h u t) c) := by
  pointwise [splitOf, firstHalf]
  unfold dn Scalar.select
  split
  · rw [if_pos ‹_›]
  · rw [if_neg ‹_›]; rfl

theorem row1 : ∀ t : Fin 64, dn 1#32 1#32 1#32 t = Cert.Hg.sp 1 t := by decide +kernel
theorem row2 : ∀ t : Fin 64, up 1#32 1#32 63#32 (dn 3#32 2#32 2#32 t) = Cert.Hg.sp 2 t := by decide +kernel
theorem row4 : ∀ t : Fin 64, up 1#32 1#32 63#32 (up 3#32 2#32 62#32 (dn 7#32 4#32 4#32 t)) = Cert.Hg.sp 4 t := by decide +kernel
theorem row8 : ∀ t : Fin 64, up 1#32 1#32 63#32 (up 3#32 2#32 62#32 (up 7#32 4#32 60#32 (dn 15#32 8#32 8#32 t))) = Cert.Hg.sp 8 t := by
  decide +kernel

theorem split1_read (x : FVec Ideal S64x4096 .f32) (t : Fin 64) (c : Fin 4096) : split1 x (ix2 t c) = x (ix2 (Cert.Hg.sp 1 t) c) := by
  rw [split1, split_read, row1]
theorem split2_read (x : FVec Ideal S64x4096 .f32) (t : Fin 64) (c : Fin 4096) : split2 x (ix2 t c) = x (ix2 (Cert.Hg.sp 2 t) c) := by
  rw [split2, end2, split_read, blk_read, row2]
theorem split4_read (x : FVec Ideal S64x4096 .f32) (t : Fin 64) (c : Fin 4096) : split4 x (ix2 t c) = x (ix2 (Cert.Hg.sp 4 t) c) := by
  rw [split4, end4, end2, split_read, blk_read, blk_read, row4]
theorem split8_read (x : FVec Ideal S64x4096 .f32) (t : Fin 64) (c : Fin 4096) : split8 x (ix2 t c) = x (ix2 (Cert.Hg.sp 8 t) c) := by
  rw [split8, end8, end4, end2, split_read, blk_read, blk_read, blk_read, row8]

/-- The chunks side by side, read in a chunk's columns. -/
theorem wide_read (x : FVec Ideal S2048x128 .f32) (n : Fin 32) (t : Fin 64) (d : Fin 128) :
    wide x (ix2 t ⟨128 * n.val + d.val, by omega⟩) = x (ix2 ⟨64 * n.val + t.val, by omega⟩ d) := by
  refine Eq.trans ?_ (rows_read x n t d)
  exact concatenate_ofFn_apply (t := S64x4096) (s₁ := S64x128) 1 (rows x) _ rfl 128 rfl _ n
    (by show (128 * n.val + d.val) / 128 = n.val; omega) (ix2 t d)
    (by show d.val = (128 * n.val + d.val) % 128; omega)
    (fun a ha => by
      match a, ha with
      | ⟨0, _⟩, _ => rfl
      | ⟨1, _⟩, ha => exact absurd rfl ha)

/-- The chunks one above another, read in a chunk's rows. -/
theorem tall_read (f : Fin 32 → FVec Ideal S64x128 .f32) (n : Fin 32) (t : Fin 64) (d : Fin 128) :
    tall f (ix2 ⟨64 * n.val + t.val, by omega⟩ d) = f n (ix2 t d) :=
  concatenate_ofFn_apply (t := S2048x128) (s₁ := S64x128) 0 f _ rfl 64 rfl _ n
    (by show (64 * n.val + t.val) / 64 = n.val; omega) (ix2 t d)
    (by show t.val = (64 * n.val + t.val) % 64; omega)
    (fun a ha => by
      match a, ha with
      | ⟨1, _⟩, _ => rfl
      | ⟨0, _⟩, ha => exact absurd rfl ha)

theorem tri : ∀ t s : Fin 64, (FloatOps.sitofp (F := Ideal) FTy.f32 (BitVec.setWidth 32 (IntOp.cmpi CmpIPredicate.sge (BitVec.ofNat 32 t.val)
    (BitVec.ofNat 32 s.val))) : EReal) = if s ≤ t then 1 else 0 := by
  have key : ∀ t s : Fin 64, BitVec.setWidth 32 (IntOp.cmpi CmpIPredicate.sge (BitVec.ofNat 32 t.val) (BitVec.ofNat 32 s.val))
    = if s ≤ t then 1#32 else 0#32 := by decide +kernel
  intro t s
  rw [key]
  split
  · show ((((1#32).toInt : ℤ) : ℝ) : EReal) = 1
    norm_num
  · show ((((0#32).toInt : ℤ) : ℝ) : EReal) = 0
    norm_num

/-- The running sums, in a chunk's columns. -/
theorem b_read (x : FVec Ideal S2048x128 .f32) (n : Fin 32) (t : Fin 64) (d : Fin 128) :
    bAll x (ix2 t ⟨128 * n.val + d.val, by omega⟩)
      = ∑ s : Fin 64, (if s ≤ t then 1 else 0) * x (ix2 ⟨64 * n.val + s.val, by omega⟩ d) := by
  pointwise [bAll]
  simp only [wide_read, tri]

section Scores

variable (q k b s1 s2 s4 s8 : FVec Ideal S64x128 .f32) (t s : Fin 64)

/-- A chunk by row and channel. -/
abbrev mat {φ : FTy} (x : FVec Ideal S64x128 φ) (t : Fin 64) (d : Fin 128) : EReal := x (ix2 t d)

/-- A choice by a one-bit mask. -/
theorem sel_bif {α : Type} (m : BitVec 1) (c : Bool) (h : m = BitVec.ofBool c) (x y : α) : Scalar.select m x y = bif c then x else y := by
  subst h
  cases c <;> rfl

theorem aft0 : ∀ t : Fin 64, IntOp.cmpi .sgt (IntOp.shrui .vector (BitVec.ofNat 32 t.val) 4#32) 0#32 = BitVec.ofBool (Cert.Hg.aft 0 t) := by
  decide +kernel
theorem ins0 : ∀ t : Fin 64, IntOp.cmpi .eq (IntOp.shrui .vector (BitVec.ofNat 32 t.val) 4#32) 0#32 = BitVec.ofBool (Cert.Hg.ins 0 t) := by
  decide +kernel
theorem aft1 : ∀ t : Fin 64, IntOp.cmpi .sgt (IntOp.shrui .vector (BitVec.ofNat 32 t.val) 4#32) 1#32 = BitVec.ofBool (Cert.Hg.aft 1 t) := by
  decide +kernel
theorem ins1 : ∀ t : Fin 64, IntOp.cmpi .eq (IntOp.shrui .vector (BitVec.ofNat 32 t.val) 4#32) 1#32 = BitVec.ofBool (Cert.Hg.ins 1 t) := by
  decide +kernel
theorem aft2 : ∀ t : Fin 64, IntOp.cmpi .sgt (IntOp.shrui .vector (BitVec.ofNat 32 t.val) 4#32) 2#32 = BitVec.ofBool (Cert.Hg.aft 2 t) := by
  decide +kernel
theorem ins2 : ∀ t : Fin 64, IntOp.cmpi .eq (IntOp.shrui .vector (BitVec.ofNat 32 t.val) 4#32) 2#32 = BitVec.ofBool (Cert.Hg.ins 2 t) := by
  decide +kernel

/-- The queries of the rows after a subblock, at an element. -/
theorem qPart_read (i : Fin 3) (m : BitVec 32) (r : FVec Ideal S1x128 .f32)
    (hm : ∀ t : Fin 64, IntOp.cmpi .sgt (IntOp.shrui .vector (BitVec.ofNat 32 t.val) 4#32) m = BitVec.ofBool (Cert.Hg.aft i t))
    (hr : ∀ d : Fin 128, r (ix2 0 d) = b (ix2 (Cert.Hg.lastOf i) d)) (d : Fin 128) :
    qPart (afterSub m) q b r (ix2 t d)
      = bif Cert.Hg.aft i t then mat q t d * Ideal.exp2 (mat b t d - mat b (Cert.Hg.lastOf i) d) else 0 := by
  pointwise [qPart, afterSub, k0_pay3, zc]
  rw [hr, sel_bif _ _ (hm t)]
  rfl

/-- The keys of the rows in a subblock, at an element. -/
theorem kPart_read (i : Fin 3) (m : BitVec 32) (r : FVec Ideal S1x128 .f32)
    (hm : ∀ t : Fin 64, IntOp.cmpi .eq (IntOp.shrui .vector (BitVec.ofNat 32 t.val) 4#32) m = BitVec.ofBool (Cert.Hg.ins i t))
    (hr : ∀ d : Fin 128, r (ix2 0 d) = b (ix2 (Cert.Hg.lastOf i) d)) (d : Fin 128) :
    kPart (inSub m) k b r (ix2 s d)
      = bif Cert.Hg.ins i s then mat k s d * Ideal.exp2 (mat b (Cert.Hg.lastOf i) d - mat b s d) else 0 := by
  pointwise [kPart, inSub, k0_pay3, zc]
  rw [hr, sel_bif _ _ (hm s)]
  rfl

theorem r15_read (d : Fin 128) : r15 b (ix2 0 d) = b (ix2 (Cert.Hg.lastOf 0) d) := by
  pointwise [r15]
  rfl
theorem r31_read (d : Fin 128) : r31 b (ix2 0 d) = b (ix2 (Cert.Hg.lastOf 1) d) := by
  pointwise [r31]
  rfl
theorem r47_read (d : Fin 128) : r47 b (ix2 0 d) = b (ix2 (Cert.Hg.lastOf 2) d) := by
  pointwise [r47]
  rfl

/-- A sum over the three parts of 384 columns. -/
theorem sum_three (f : Fin 384 → EReal) : ∑ x, f x = (∑ d : Fin 128, f ⟨d.val, by omega⟩) + (∑ d : Fin 128, f ⟨128 + d.val, by omega⟩)
    + ∑ d : Fin 128, f ⟨256 + d.val, by omega⟩ := by
  refine (Fin.sum_univ_add (a := 256) (b := 128) f).trans ?_
  exact congrArg₂ (· + ·) ((Fin.sum_univ_add (a := 128) (b := 128) fun i => f (Fin.castAdd 128 i)).trans rfl) rfl

/-- The scores across subblocks. -/
theorem cross_read : crossS q k b (ix2 t s) = Cert.Hg.crossK (mat q) (mat k) (mat b) 0 t s + Cert.Hg.crossK (mat q) (mat k) (mat b) 1 t s
    + Cert.Hg.crossK (mat q) (mat k) (mat b) 2 t s := by
  have e : crossS q k b (ix2 t s) = ∑ x : Fin 384, qx q b (ix2 t x) * kx k b (ix2 s x) := by
    pointwise [crossS]
  rw [e, sum_three]
  have h0 : ∀ d : Fin 128, qx q b (ix2 t ⟨d.val, by omega⟩) = qPart (afterSub 0#32) q b (r15 b) (ix2 t d) := fun d => by pointwise [qx]
  have h1 : ∀ d : Fin 128, qx q b (ix2 t ⟨128 + d.val, by omega⟩) = qPart (afterSub 1#32) q b (r31 b) (ix2 t d) := fun d => by pointwise [qx]
  have h2 : ∀ d : Fin 128, qx q b (ix2 t ⟨256 + d.val, by omega⟩) = qPart (afterSub 2#32) q b (r47 b) (ix2 t d) := fun d => by
    pointwise [qx]
    rw [dif_neg (by omega), dif_neg (by omega)]
    exact congrArg _ (congrArg (ix2 t) (Fin.ext (by show 256 + d.val - 128 - 128 = d.val; omega)))
  have g0 : ∀ d : Fin 128, kx k b (ix2 s ⟨d.val, by omega⟩) = kPart (inSub 0#32) k b (r15 b) (ix2 s d) := fun d => by pointwise [kx]
  have g1 : ∀ d : Fin 128, kx k b (ix2 s ⟨128 + d.val, by omega⟩) = kPart (inSub 1#32) k b (r31 b) (ix2 s d) := fun d => by pointwise [kx]
  have g2 : ∀ d : Fin 128, kx k b (ix2 s ⟨256 + d.val, by omega⟩) = kPart (inSub 2#32) k b (r47 b) (ix2 s d) := fun d => by
    pointwise [kx]
    rw [dif_neg (by omega), dif_neg (by omega)]
    exact congrArg _ (congrArg (ix2 s) (Fin.ext (by show 256 + d.val - 128 - 128 = d.val; omega)))
  refine congrArg₂ (· + ·) (congrArg₂ (· + ·) ?_ ?_) ?_
  · exact Finset.sum_congr rfl fun d _ => by
      rw [h0, g0, qPart_read q b t 0 _ _ aft0 (r15_read b), kPart_read k b s 0 _ _ ins0 (r15_read b)]
  · exact Finset.sum_congr rfl fun d _ => by
      rw [h1, g1, qPart_read q b t 1 _ _ aft1 (r31_read b), kPart_read k b s 1 _ _ ins1 (r31_read b)]
  · exact Finset.sum_congr rfl fun d _ => by
      rw [h2, g2, qPart_read q b t 2 _ _ aft2 (r47_read b), kPart_read k b s 2 _ _ ins2 (r47_read b)]

/-- A level's mask, and the mask of the rows in second halves, as comparisons of row numbers. -/
def Mask (h2 h : BitVec 32) (n : ℕ) : Prop :=
  (∀ t s : Fin 64, IntOp.andi (IntOp.cmpi CmpIPredicate.slt (IntOp.xori (BitVec.ofNat 32 t.val) (BitVec.ofNat 32 s.val)) h2)
    (IntOp.andi (IntOp.cmpi CmpIPredicate.ne (IntOp.andi (BitVec.ofNat 32 t.val) h) 0#32)
      (IntOp.cmpi CmpIPredicate.eq (IntOp.andi (BitVec.ofNat 32 s.val) h) 0#32)) = BitVec.ofBool (Cert.Hg.lvl n t s))
  ∧ ∀ t : Fin 64, IntOp.cmpi CmpIPredicate.ne (IntOp.andi (BitVec.ofNat 32 t.val) h) 0#32 = BitVec.ofBool (Cert.Hg.snd n t)

theorem mask1 : Mask 2#32 1#32 1 := ⟨by decide +kernel, by decide +kernel⟩
theorem mask2 : Mask 4#32 2#32 2 := ⟨by decide +kernel, by decide +kernel⟩
theorem mask4 : Mask 8#32 4#32 4 := ⟨by decide +kernel, by decide +kernel⟩
theorem mask8 : Mask 16#32 8#32 8 := ⟨by decide +kernel, by decide +kernel⟩

/-- The scores of one level of halving. -/
theorem lvl_read (h2 h : BitVec 32) (n : ℕ) (hm : Mask h2 h n) (sh : FVec Ideal S64x128 .f32)
    (hs : ∀ (t : Fin 64) (d : Fin 128), sh (ix2 t d) = b (ix2 (Cert.Hg.sp n t) d)) :
    select (lvlMask h2 h) (lvlS h q k b sh) zs (ix2 t s) = Cert.Hg.lvlK (mat q) (mat k) (mat b) n t s := by
  pointwise [lvlMask, lvlS, inSecond, lvlE, zs, zc]
  simp only [hs]
  rw [sel_bif _ _ (hm.1 t s)]
  simp only [sel_bif _ _ (hm.2 _)]
  refine congrArg (fun z => bif Cert.Hg.lvl n t s then z else 0) (Finset.sum_congr rfl fun d _ => ?_)
  cases Cert.Hg.snd n t <;> cases Cert.Hg.snd n s <;> simp only [cond_true, cond_false, zero_mul, mul_zero] <;> rfl

/-- The scores of a chunk. -/
theorem scores_read (h1 : ∀ (t : Fin 64) (d : Fin 128), s1 (ix2 t d) = b (ix2 (Cert.Hg.sp 1 t) d))
    (h2 : ∀ (t : Fin 64) (d : Fin 128), s2 (ix2 t d) = b (ix2 (Cert.Hg.sp 2 t) d))
    (h4 : ∀ (t : Fin 64) (d : Fin 128), s4 (ix2 t d) = b (ix2 (Cert.Hg.sp 4 t) d))
    (h8 : ∀ (t : Fin 64) (d : Fin 128), s8 (ix2 t d) = b (ix2 (Cert.Hg.sp 8 t) d)) :
    scores q k b s1 s2 s4 s8 (ix2 t s) = Cert.Hg.scoreK (mat q) (mat k) (mat b) t s := by
  have hd : select (cmpi .eq rr cc) (broadcastTo S64x64 (shapeCast S64x1 (diagS q k) shapeCasts_S64x1_S64x1) broadcasts_S64x1_S64x64) zs (ix2 t s)
      = bif decide (t = s) then ∑ d : Fin 128, mat q t d * mat k t d else 0 := by
    pointwise [diagS, zs]
    refine sel_bif _ _ ?_ _ _
    revert t s
    decide +kernel
  refine Eq.trans (b := ((((crossS q k b (ix2 t s) + _) + _) + _) + _) + _) rfl ?_
  rw [hd, cross_read, lvl_read q k b t s _ _ 1 mask1 s1 h1, lvl_read q k b t s _ _ 2 mask2 s2 h2, lvl_read q k b t s _ _ 4 mask4 s4 h4,
    lvl_read q k b t s _ _ 8 mask8 s8 h8]
  rfl
end Scores

end Cert.KernelIdeal.Hg

end
-- ==== Proof.PointRead.lean ====
module

public import proofs.«01_k».proof.Proof.KernRead

@[expose] public section

set_option maxRecDepth 16384

noncomputable section

/-! One grid point of the kernel, given the blocks it reads: the state it leaves and the elements it
writes are the recurrence's. -/

namespace Cert.KernelIdeal.Hg

open Idealize.ShloMosaic Idealize.ShloMosaic.Pointwise
open Cert.KernelIdeal Cert.KernelIdeal.Gen Cert.Hg

/-- The chunk of the whole sequence that is chunk `n` of quarter `q4`. -/
def chunkNo (q4 : Fin 4) (n : Fin 32) : Fin 128 := ⟨32 * q4.val + n.val, by omega⟩

/-- The blocks hold the projections of a quarter of one batch and head, its logits and its gains. -/
structure Holds (x : Fin 16384 → Fin 6144 → EReal) (l : Fin 2 → Fin 1024 → EReal) (g : Fin 1024 → EReal)
    (bi : Fin 2) (hi : Fin 8) (q4 : Fin 4)
    (x0 x1 x2 x3 : Vec Ideal S2048x128 .f32) (x4 : Vec Ideal S2x128 .f32) (x5 : Vec Ideal S1x128 .f32) : Prop where
  q : ∀ n t d, x0 (ix2 ⟨64 * n.val + t.val, by omega⟩ d) = x (rowOf bi (chunkNo q4 n) t) ⟨(chan hi d).val, by omega⟩
  a : ∀ n t d, x1 (ix2 ⟨64 * n.val + t.val, by omega⟩ d) = aIn x bi hi (chunkNo q4 n) t d
  v : ∀ n t d, x2 (ix2 ⟨64 * n.val + t.val, by omega⟩ d) = vIn x bi hi (chunkNo q4 n) t d
  o : ∀ n t d, x3 (ix2 ⟨64 * n.val + t.val, by omega⟩ d) = x (rowOf bi (chunkNo q4 n) t) ⟨3072 + (chan hi d).val, by omega⟩
  l : ∀ i d, x4 (ix2 i d) = lIn l hi d i
  g : ∀ d, x5 (ix2 0 d) = g (chan hi d)

variable {x : Fin 16384 → Fin 6144 → EReal} {l : Fin 2 → Fin 1024 → EReal} {g : Fin 1024 → EReal}
  {bi : Fin 2} {hi : Fin 8} {q4 : Fin 4}
  {x0 x1 x2 x3 : Vec Ideal S2048x128 .f32} {x4 : Vec Ideal S2x128 .f32} {x5 : Vec Ideal S1x128 .f32}
  (H : Holds x l g bi hi q4 x0 x1 x2 x3 x4 x5) (hl : ∀ i c, max (l i c) (-(l i c)) < ⊤)

include H in
theorem q_at (n : Fin 32) : mat (rows (qAll x0) n) = qIn x bi hi (chunkNo q4 n) := by
  funext t d
  show rows (qAll x0) n (ix2 t d) = _
  rw [rows_read, q_read, H.q]
  rfl

include H in
theorem gate_at (n : Fin 32) (t : Fin 64) (d : Fin 128) :
    Cert.Hg.forget (fun i => x4 (ix2 i d)) (x1 (ix2 ⟨64 * n.val + t.val, by omega⟩ d))
      = Cert.Hg.forget (lIn l hi d) (aIn x bi hi (chunkNo q4 n) t d) := by
  rw [H.a, show (fun i => x4 (ix2 i d)) = lIn l hi d from funext fun i => H.l i d]

include H in
theorem k_at (n : Fin 32) : mat (rows (kAll x4 x1) n) = kIn x l bi hi (chunkNo q4 n) := by
  funext t d
  show rows (kAll x4 x1) n (ix2 t d) = _
  rw [rows_read, k_read, gate_at H]
  rfl

include H in
theorem v_at (n : Fin 32) : mat (rows (vAll x2) n) = vIn x bi hi (chunkNo q4 n) := by
  funext t d
  show rows (vAll x2) n (ix2 t d) = _
  rw [rows_read, v_read, H.v]

include H hl in
theorem b_at (n : Fin 32) : mat (cols (bAll (lAll x4 x1)) n) = bK (bIn x l bi hi (chunkNo q4 n)) := by
  funext t d
  show cols (bAll (lAll x4 x1)) n (ix2 t d) = _
  rw [cols_read, b_read]
  refine Eq.trans (Finset.sum_congr rfl fun s _ => ?_) (sum_kern (lIn l hi) (aIn x bi hi (chunkNo q4 n)) (fun d i => hl i (chan hi d)) t d)
  rw [l_read, gate_at H]

theorem exp_bR (r : ℝ) : Ideal.exp ((r : ℝ) : EReal) = ((Real.exp r : ℝ) : EReal) := rfl

theorem exp_sub_bR (r s : ℝ) : Ideal.exp (((r : ℝ) : EReal) - ((s : ℝ) : EReal)) = ((Real.exp (r - s) : ℝ) : EReal) := by
  rw [← EReal.coe_sub, exp_bR]

include H hl in
/-- The state after any number of the point's chunks. -/
theorem st_at (st : FVec Ideal S128x128 .f32) (hst : ∀ e d, st (ix2 e d) = stOf x l bi hi (32 * q4.val) d e) :
    ∀ j : ℕ, j ≤ 32 → ∀ e d, stAt (kAll x4 x1) (bAll (lAll x4 x1)) (vAll x2) st j (ix2 e d) = stOf x l bi hi (32 * q4.val + j) d e
  | 0, _, e, d => hst e d
  | j + 1, hj, e, d => by
    have hj' : j < 32 := hj
    rw [stAt, dif_pos hj', next_read, st_at st hst j hj'.le e d]
    have hk := k_at H ⟨j, hj'⟩
    have hv := v_at H ⟨j, hj'⟩
    have hb := b_at H hl ⟨j, hj'⟩
    have ek : ∀ s, rows (kAll x4 x1) ⟨j, hj'⟩ (ix2 s d) = _ := fun s => congrFun (congrFun hk s) d
    have ev : ∀ s, rows (vAll x2) ⟨j, hj'⟩ (ix2 s e) = _ := fun s => congrFun (congrFun hv s) e
    have eb : ∀ s, cols (bAll (lAll x4 x1)) ⟨j, hj'⟩ (ix2 s d) = _ := fun s => congrFun (congrFun hb s) d
    refine Eq.trans ?_ (refSt_succ (kIn x l bi hi) (fun n => bR (bIn x l bi hi n)) (vIn x bi hi) (chunkNo q4 ⟨j, hj'⟩) d e).symm
    rw [eb 63, exp2_scaled, exp_bR, mul_comm]
    refine congrArg₂ (· + ·) rfl (Finset.sum_congr rfl fun s _ => ?_)
    rw [ek, ev, eb, exp2_sub, exp_sub_bR, mul_comm]

include H hl in
/-- The outputs of a chunk of the point. -/
theorem out_at (st : FVec Ideal S128x128 .f32) (hst : ∀ e d, st (ix2 e d) = stOf x l bi hi (32 * q4.val) d e) (n : Fin 32) (t : Fin 64) (e : Fin 128) :
    outAt (qAll x0) (kAll x4 x1) (bAll (lAll x4 x1)) (vAll x2) st n (ix2 t e) = outOf x l bi hi (chunkNo q4 n) t e := by
  have hq := q_at H n
  have hk := k_at H n
  have hv := v_at H n
  have hb := b_at H hl n
  have eq : ∀ d, rows (qAll x0) n (ix2 t d) = _ := fun d => congrFun (congrFun hq t) d
  have ev : ∀ s, rows (vAll x2) n (ix2 s e) = _ := fun s => congrFun (congrFun hv s) e
  have eb : ∀ s d, cols (bAll (lAll x4 x1)) n (ix2 s d) = _ := fun s d => congrFun (congrFun hb s) d
  have es : ∀ s, scoresAt (qAll x0) (kAll x4 x1) (bAll (lAll x4 x1)) n (ix2 t s)
      = scoreR (qIn x bi hi (chunkNo q4 n)) (kIn x l bi hi (chunkNo q4 n)) (bR (bIn x l bi hi (chunkNo q4 n))) t s := fun s => by
    rw [scoresAt, scores_read _ _ _ _ _ _ _ t s (fun t d => by rw [cols_read, split1_read, cols_read])
      (fun t d => by rw [cols_read, split2_read, cols_read]) (fun t d => by rw [cols_read, split4_read, cols_read])
      (fun t d => by rw [cols_read, split8_read, cols_read]), hq, hk, hb]
    exact score_eq _ _ _ (fun s t h d => B_anti (lIn l hi) _ (fun d i => hl i (chan hi d)) s t h d) t s
  rw [outAt, out_read]
  refine congrArg₂ (· + ·) (Finset.sum_congr rfl fun d _ => ?_) (Finset.sum_congr rfl fun s _ => ?_)
  · rw [eq, eb, exp2_scaled, st_at H hl st hst n.val n.isLt.le e d, ← exp_bR]
    rfl
  · rw [es, ev]

include H hl in
/-- The state a point leaves. -/
theorem stBlk_at (st : FVec Ideal S128x128 .f32) (hst : ∀ e d, st (ix2 e d) = stOf x l bi hi (32 * q4.val) d e) (e d : Fin 128) :
    stBlk x1 x2 x4 st (ix2 e d) = stOf x l bi hi (32 * (q4.val + 1)) d e :=
  st_at H hl st hst 32 le_rfl e d

include H hl in
/-- An element of the block a point writes. -/
theorem outBlk_at (st : FVec Ideal S128x128 .f32) (hst : ∀ e d, st (ix2 e d) = stOf x l bi hi (32 * q4.val) d e) (n : Fin 32) (t : Fin 64)
    (d : Fin 128) :
    outBlk x0 x1 x2 x3 x4 x5 st (ix2 ⟨64 * n.val + t.val, by omega⟩ d) = resultOf x l g bi hi (chunkNo q4 n) t d := by
  have ho : (fun e => tall (outAt (qAll x0) (kAll x4 x1) (bAll (lAll x4 x1)) (vAll x2) st) (ix2 ⟨64 * n.val + t.val, by omega⟩ e))
      = outOf x l bi hi (chunkNo q4 n) t := funext fun e => by
    rw [tall_read, out_at H hl st hst]
  rw [outBlk, norm_read, ho, H.g, H.o]
  rfl

end Cert.KernelIdeal.Hg

end
-- ==== Proof.Opened.lean ====
module

public import proofs.«01_k».proof.Proof.Chunk
public import proofs.«01_k».proof.Proof.Gen.KernelIdeal.Frame
public import Idealize.ShloMosaic.Lib.Pipeline.Value

@[expose] public section

set_option maxRecDepth 16384
set_option maxHeartbeats 2000000

noncomputable section

/-! What the printed kernel leaves in its output block and in its state after one grid point is what
`outBlk` and `stBlk` name. -/

namespace Cert.KernelIdeal.Hg

open Idealize.ShloMosaic Cert.KernelIdeal Cert.KernelIdeal.Gen

variable {F : FTy → Type} [FloatOps F] [Named F]

section
variable (c : Dev nD) (i : grid0.Coords) (arg3 : Memref sig .tc .vmem S2048x128 .f32) (harg3 : arg3.IsWhole)
  (arg4 : Memref sig .tc .vmem S2048x128 .f32) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2x128 .f32) (harg7 : arg7.IsWhole)
  (arg8 : Memref sig .tc .vmem S1x128 .f32) (harg8 : arg8.IsWhole) (arg9 : Memref sig .tc .vmem S2048x128 .bf16) (harg9 : arg9.IsWhole)
  (arg10 : Memref sig .tc .vmem S128x128 .f32) (harg10 : arg10.IsWhole)
  (x0 x1 x2 x3 : Vec F S2048x128 .f32) (x4 : Vec F S2x128 .f32) (x5 : Vec F S1x128 .f32) (st : Vec F S128x128 .f32)

theorem z2 : (![0, 0] : Fin 2 → Nat) = fun _ => 0 := by decide

theorem e3 : View.ld (View.read (Elt F) arg3.view (harg3.unread x0)) (Rect.unit ![0, 0] ![2048, 128] inb_S2048x128_S2048x128_0_0) = x0 := by
  rw [harg3.read_unread]; exact View.ld_unit_zero (S := S2048x128) z2 _ _

theorem e4 : View.ld (View.read (Elt F) arg4.view (harg4.unread x1)) (Rect.unit ![0, 0] ![2048, 128] inb_S2048x128_S2048x128_0_0) = x1 := by
  rw [harg4.read_unread]; exact View.ld_unit_zero (S := S2048x128) z2 _ _

theorem e5 : View.ld (View.read (Elt F) arg5.view (harg5.unread x2)) (Rect.unit ![0, 0] ![2048, 128] inb_S2048x128_S2048x128_0_0) = x2 := by
  rw [harg5.read_unread]; exact View.ld_unit_zero (S := S2048x128) z2 _ _

theorem e6 : View.ld (View.read (Elt F) arg6.view (harg6.unread x3)) (Rect.unit ![0, 0] ![2048, 128] inb_S2048x128_S2048x128_0_0) = x3 := by
  rw [harg6.read_unread]; exact View.ld_unit_zero (S := S2048x128) z2 _ _

theorem e7 : View.ld (View.read (Elt F) arg7.view (harg7.unread x4)) (Rect.unit ![0, 0] ![2, 128] inb_S2x128_S2x128_0_0) = x4 := by
  rw [harg7.read_unread]; exact View.ld_unit_zero (S := S2x128) z2 _ _

theorem e8 : View.ld (View.read (Elt F) arg8.view (harg8.unread x5)) (Rect.unit ![0, 0] ![1, 128] inb_S1x128_S1x128_0_0) = x5 := by
  rw [harg8.read_unread]; exact View.ld_unit_zero (S := S1x128) z2 _ _

theorem e10 : View.ld (View.read (Elt F) arg10.view (harg10.unread st)) (Rect.unit ![0, 0] ![128, 128] inb_S128x128_S128x128_0_0) = st := by
  rw [harg10.read_unread]; exact View.ld_unit_zero (S := S128x128) z2 _ _

/-- At the other points: the state. -/
theorem soutB (hc0 : ¬cond0_0 i) : sout0_B_0 c i arg3 harg3 arg4 harg4 arg5 harg5 arg6 harg6 arg7 harg7 arg8 harg8 arg9 harg9 arg10 harg10 hc0 x0 x1 x2 x3 x4 x5 st = stBlk x1 x2 x4 st := by
  unfold sout0_B_0
  rw [View.read_writes_eq_canon _ _ _ (scover0_B_0 c i arg3 harg3 arg4 harg4 arg5 harg5 arg6 harg6 arg7 harg7 arg8 harg8 arg9 harg9 arg10 harg10 hc0 x0 x1 x2 x3 x4 x5 st)]
  unfold kernelRun0_B
  dsimp only
  sl_unfold_words
  simp only [View.readAt_eq_ld]
  refine (View.canon_unit_zero z2 _ _).trans ?_
  refine Eq.trans (b := shapeCast S128x128 (
      stBlk (View.ld (View.read (Elt F) arg4.view (harg4.unread x1)) (Rect.unit ![0, 0] ![2048, 128] inb_S2048x128_S2048x128_0_0)) (View.ld (View.read (Elt F) arg5.view (harg5.unread x2)) (Rect.unit ![0, 0] ![2048, 128] inb_S2048x128_S2048x128_0_0)) (View.ld (View.read (Elt F) arg7.view (harg7.unread x4)) (Rect.unit ![0, 0] ![2, 128] inb_S2x128_S2x128_0_0)) (View.ld (View.read (Elt F) arg10.view (harg10.unread st)) (Rect.unit ![0, 0] ![128, 128] inb_S128x128_S128x128_0_0))) shapeCasts_S128x128_S128x128) rfl ?_
  rw [shapeCast_self, e4 arg4 harg4 x1, e5 arg5 harg5 x2, e7 arg7 harg7 x4, e10 arg10 harg10 st]

/-- At the other points: the output block. -/
theorem outB (hc0 : ¬cond0_0 i) : out0_B_6 c i arg3 harg3 arg4 harg4 arg5 harg5 arg6 harg6 arg7 harg7 arg8 harg8 arg9 harg9 arg10 harg10 hc0 x0 x1 x2 x3 x4 x5 st = outBlk x0 x1 x2 x3 x4 x5 st := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 st)]
  unfold kernelRun0_B
  dsimp only
  sl_unfold_words
  simp only [View.readAt_eq_ld]
  refine (View.canon_unit_zero z2 _ _).trans ?_
  refine Eq.trans (b := outBlk (View.ld (View.read (Elt F) arg3.view (harg3.unread x0)) (Rect.unit ![0, 0] ![2048, 128] inb_S2048x128_S2048x128_0_0)) (View.ld (View.read (Elt F) arg4.view (harg4.unread x1)) (Rect.unit ![0, 0] ![2048, 128] inb_S2048x128_S2048x128_0_0)) (View.ld (View.read (Elt F) arg5.view (harg5.unread x2)) (Rect.unit ![0, 0] ![2048, 128] inb_S2048x128_S2048x128_0_0)) (View.ld (View.read (Elt F) arg6.view (harg6.unread x3)) (Rect.unit ![0, 0] ![2048, 128] inb_S2048x128_S2048x128_0_0)) (View.ld (View.read (Elt F) arg7.view (harg7.unread x4)) (Rect.unit ![0, 0] ![2, 128] inb_S2x128_S2x128_0_0)) (View.ld (View.read (Elt F) arg8.view (harg8.unread x5)) (Rect.unit ![0, 0] ![1, 128] inb_S1x128_S1x128_0_0)) (View.ld (View.read (Elt F) arg10.view (harg10.unread st)) (Rect.unit ![0, 0] ![128, 128] inb_S128x128_S128x128_0_0))) rfl ?_
  rw [e3 arg3 harg3 x0, e4 arg4 harg4 x1, e5 arg5 harg5 x2, e6 arg6 harg6 x3, e7 arg7 harg7 x4, e8 arg8 harg8 x5, e10 arg10 harg10 st]

/-- At the first point of a run: the state. -/
theorem soutA (hc0 : cond0_0 i) : sout0_A_0 c i arg3 harg3 arg4 harg4 arg5 harg5 arg6 harg6 arg7 harg7 arg8 harg8 arg9 harg9 arg10 harg10 hc0 x0 x1 x2 x3 x4 x5 = stBlk x1 x2 x4 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld]
  refine (View.canon_cons_unit_zero z2 _ _ _).trans ?_
  rw [View.readCov_unit_zero _ z2]
  refine Eq.trans (b := shapeCast S128x128 (
      stBlk (View.ld (View.read (Elt F) arg4.view (harg4.unread x1)) (Rect.unit ![0, 0] ![2048, 128] inb_S2048x128_S2048x128_0_0)) (View.ld (View.read (Elt F) arg5.view (harg5.unread x2)) (Rect.unit ![0, 0] ![2048, 128] inb_S2048x128_S2048x128_0_0)) (View.ld (View.read (Elt F) arg7.view (harg7.unread x4)) (Rect.unit ![0, 0] ![2, 128] inb_S2x128_S2x128_0_0)) (k0_pay1 (F := F))) shapeCasts_S128x128_S128x128) rfl ?_
  rw [shapeCast_self, e4 arg4 harg4 x1, e5 arg5 harg5 x2, e7 arg7 harg7 x4]

/-- At the first point of a run: the output block. -/
theorem outA (hc0 : cond0_0 i) : out0_A_6 c i arg3 harg3 arg4 harg4 arg5 harg5 arg6 harg6 arg7 harg7 arg8 harg8 arg9 harg9 arg10 harg10 hc0 x0 x1 x2 x3 x4 x5 = outBlk x0 x1 x2 x3 x4 x5 (k0_pay1 (F := F)) := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld]
  refine (View.canon_unit_zero z2 _ _).trans ?_
  rw [View.readCov_unit_zero _ z2]
  refine Eq.trans (b := outBlk (View.ld (View.read (Elt F) arg3.view (harg3.unread x0)) (Rect.unit ![0, 0] ![2048, 128] inb_S2048x128_S2048x128_0_0)) (View.ld (View.read (Elt F) arg4.view (harg4.unread x1)) (Rect.unit ![0, 0] ![2048, 128] inb_S2048x128_S2048x128_0_0)) (View.ld (View.read (Elt F) arg5.view (harg5.unread x2)) (Rect.unit ![0, 0] ![2048, 128] inb_S2048x128_S2048x128_0_0)) (View.ld (View.read (Elt F) arg6.view (harg6.unread x3)) (Rect.unit ![0, 0] ![2048, 128] inb_S2048x128_S2048x128_0_0)) (View.ld (View.read (Elt F) arg7.view (harg7.unread x4)) (Rect.unit ![0, 0] ![2, 128] inb_S2x128_S2x128_0_0)) (View.ld (View.read (Elt F) arg8.view (harg8.unread x5)) (Rect.unit ![0, 0] ![1, 128] inb_S1x128_S1x128_0_0)) (k0_pay1 (F := F))) rfl ?_
  rw [e3 arg3 harg3 x0, e4 arg4 harg4 x1, e5 arg5 harg5 x2, e6 arg6 harg6 x3, e7 arg7 harg7 x4, e8 arg8 harg8 x5]

end

end Cert.KernelIdeal.Hg

end
-- ==== Proof.ArrRead.lean ====
module

public import proofs.«01_k».proof.Proof.PointRead
public import proofs.«01_k».proof.Proof.Opened
public import proofs.«01_k».proof.Proof.Gen.KernelIdeal.Value

@[expose] public section

set_option maxRecDepth 16384

noncomputable section

/-! The kernel's output array, element by element: what each grid point reads of the arguments, what
it carries to the next, and what it writes back. -/

namespace Cert.KernelIdeal.Hg

open Idealize.ShloMosaic Idealize.ShloMosaic.Pointwise Idealize.ShloMosaic.TcCoe Idealize.SL.Sem
open Cert.KernelIdeal Cert.KernelIdeal.Gen Cert.Hg

variable (m : (ℓ : Loc nD τ sig) → Buf (Elt Ideal) ℓ) (c : Dev nD)

/-- The projections, by row and column. -/
abbrev xM (r : Fin 16384) (j : Fin 6144) : EReal := (m ((c : Thread nD τ).loc main_arg0) : Vec Ideal S16384x6144 .f32) (ix2 r j)
/-- The logits, by row and channel. -/
abbrev lM (i : Fin 2) (j : Fin 1024) : EReal := (m ((c : Thread nD τ).loc main_arg1) : Vec Ideal S2x1024 .f32) (ix2 i j)
/-- The gains, by channel. -/
abbrev gM (j : Fin 1024) : EReal := (m ((c : Thread nD τ).loc main_arg2) : Vec Ideal S1x1024 .f32) (ix2 0 j)

/-- The grid point of a quarter of a batch and head. -/
def pt (bi : Fin 2) (hi : Fin 8) (q4 : Fin 4) : Fin cfg0.N :=
  ⟨32 * bi.val + 4 * hi.val + q4.val, by rw [show cfg0.N = 64 from N_0]; omega⟩

theorem idx0 : ∀ (bi : Fin 2) (hi : Fin 8) (q4 : Fin 4), win0_0.index (pt bi hi q4) 0 = 4 * bi.val + q4.val ∧ win0_0.index (pt bi hi q4) 1 = hi.val := by
  decide +kernel
theorem idx1 : ∀ (bi : Fin 2) (hi : Fin 8) (q4 : Fin 4), win0_1.index (pt bi hi q4) 0 = 4 * bi.val + q4.val ∧ win0_1.index (pt bi hi q4) 1 = 8 + hi.val := by
  decide +kernel
theorem idx2 : ∀ (bi : Fin 2) (hi : Fin 8) (q4 : Fin 4), win0_2.index (pt bi hi q4) 0 = 4 * bi.val + q4.val ∧ win0_2.index (pt bi hi q4) 1 = 16 + hi.val := by
  decide +kernel
theorem idx3 : ∀ (bi : Fin 2) (hi : Fin 8) (q4 : Fin 4), win0_3.index (pt bi hi q4) 0 = 4 * bi.val + q4.val ∧ win0_3.index (pt bi hi q4) 1 = 24 + hi.val := by
  decide +kernel
theorem idx4 : ∀ (bi : Fin 2) (hi : Fin 8) (q4 : Fin 4), win0_4.index (pt bi hi q4) 0 = 0 ∧ win0_4.index (pt bi hi q4) 1 = hi.val := by
  decide +kernel
theorem idx5 : ∀ (bi : Fin 2) (hi : Fin 8) (q4 : Fin 4), win0_5.index (pt bi hi q4) 0 = 0 ∧ win0_5.index (pt bi hi q4) 1 = hi.val := by
  decide +kernel
theorem idx6 : ∀ (bi : Fin 2) (hi : Fin 8) (q4 : Fin 4), win0_6.index (pt bi hi q4) 0 = 4 * bi.val + q4.val ∧ win0_6.index (pt bi hi q4) 1 = hi.val := by
  decide +kernel

/-- The gains the kernel's window reads are the third argument's. -/
theorem V_gain (j : Fin 1024) : (V m c main_v1 : Vec Ideal S1x1024 .f32) (ix2 0 j) = gM m c j := by
  have e : (V m c main_v1 : Vec Ideal S1x1024 .f32)
      = shapeCast S1x1024 (shapeCast S1024 (m ((c : Thread nD τ).loc main_arg2) : Vec Ideal S1x1024 .f32) shapeCasts_S1x1024_S1024) shapeCasts_S1024_S1x1024 := by
    rfl
  rw [e]
  pointwise

variable (bi : Fin 2) (hi : Fin 8) (q4 : Fin 4)

theorem blk_x0 (r : Fin 2048) (d : Fin 128) : (iblk m c 0 (pt bi hi q4) : Vec Ideal S2048x128 .f32) (ix2 r d)
    = xM m c ⟨(4 * bi.val + q4.val) * 2048 + r.val, by omega⟩ ⟨hi.val * 128 + d.val, by omega⟩ := by
  have hx := idx0 bi hi q4
  unfold iblk
  rw [View.read_apply]
  show V m c main_arg0 _ = _
  rw [V_main_arg0]
  refine congrArg (m (c.tc.loc main_arg0)) (funext fun a => Fin.ext ?_)
  match a with
  | ⟨0, _⟩ => show win0_0.index (pt bi hi q4) 0 * 2048 + 1 * r.val = (4 * bi.val + q4.val) * 2048 + r.val; rw [hx.1]; omega
  | ⟨1, _⟩ => show win0_0.index (pt bi hi q4) 1 * 128 + 1 * d.val = hi.val * 128 + d.val; rw [hx.2]; omega

theorem blk_x1 (r : Fin 2048) (d : Fin 128) : (iblk m c 1 (pt bi hi q4) : Vec Ideal S2048x128 .f32) (ix2 r d)
    = xM m c ⟨(4 * bi.val + q4.val) * 2048 + r.val, by omega⟩ ⟨1024 + (hi.val * 128 + d.val), by omega⟩ := by
  have hx := idx1 bi hi q4
  unfold iblk
  rw [View.read_apply]
  show V m c main_arg0 _ = _
  rw [V_main_arg0]
  refine congrArg (m (c.tc.loc main_arg0)) (funext fun a => Fin.ext ?_)
  match a with
  | ⟨0, _⟩ => show win0_1.index (pt bi hi q4) 0 * 2048 + 1 * r.val = (4 * bi.val + q4.val) * 2048 + r.val; rw [hx.1]; omega
  | ⟨1, _⟩ => show win0_1.index (pt bi hi q4) 1 * 128 + 1 * d.val = 1024 + (hi.val * 128 + d.val); rw [hx.2]; omega

theorem blk_x2 (r : Fin 2048) (d : Fin 128) : (iblk m c 2 (pt bi hi q4) : Vec Ideal S2048x128 .f32) (ix2 r d)
    = xM m c ⟨(4 * bi.val + q4.val) * 2048 + r.val, by omega⟩ ⟨2048 + (hi.val * 128 + d.val), by omega⟩ := by
  have hx := idx2 bi hi q4
  unfold iblk
  rw [View.read_apply]
  show V m c main_arg0 _ = _
  rw [V_main_arg0]
  refine congrArg (m (c.tc.loc main_arg0)) (funext fun a => Fin.ext ?_)
  match a with
  | ⟨0, _⟩ => show win0_2.index (pt bi hi q4) 0 * 2048 + 1 * r.val = (4 * bi.val + q4.val) * 2048 + r.val; rw [hx.1]; omega
  | ⟨1, _⟩ => show win0_2.index (pt bi hi q4) 1 * 128 + 1 * d.val = 2048 + (hi.val * 128 + d.val); rw [hx.2]; omega

theorem blk_x3 (r : Fin 2048) (d : Fin 128) : (iblk m c 3 (pt bi hi q4) : Vec Ideal S2048x128 .f32) (ix2 r d)
    = xM m c ⟨(4 * bi.val + q4.val) * 2048 + r.val, by omega⟩ ⟨3072 + (hi.val * 128 + d.val), by omega⟩ := by
  have hx := idx3 bi hi q4
  unfold iblk
  rw [View.read_apply]
  show V m c main_arg0 _ = _
  rw [V_main_arg0]
  refine congrArg (m (c.tc.loc main_arg0)) (funext fun a => Fin.ext ?_)
  match a with
  | ⟨0, _⟩ => show win0_3.index (pt bi hi q4) 0 * 2048 + 1 * r.val = (4 * bi.val + q4.val) * 2048 + r.val; rw [hx.1]; omega
  | ⟨1, _⟩ => show win0_3.index (pt bi hi q4) 1 * 128 + 1 * d.val = 3072 + (hi.val * 128 + d.val); rw [hx.2]; omega

/-- The block of the logits, at an element. -/
theorem blk_l (i : Fin 2) (d : Fin 128) : (iblk m c 4 (pt bi hi q4) : Vec Ideal S2x128 .f32) (ix2 i d) = lM m c i (chan hi d) := by
  have hx := idx4 bi hi q4
  unfold iblk
  rw [View.read_apply]
  show V m c main_arg1 _ = _
  rw [V_main_arg1]
  refine congrArg (m (c.tc.loc main_arg1)) (funext fun a => Fin.ext ?_)
  match a with
  | ⟨0, _⟩ => show win0_4.index (pt bi hi q4) 0 * 2 + 1 * i.val = i.val; rw [hx.1]; omega
  | ⟨1, _⟩ => show win0_4.index (pt bi hi q4) 1 * 128 + 1 * d.val = hi.val * 128 + d.val; rw [hx.2]; omega

/-- The block of the gains, at an element. -/
theorem blk_g (d : Fin 128) : (iblk m c 5 (pt bi hi q4) : Vec Ideal S1x128 .f32) (ix2 0 d) = gM m c (chan hi d) := by
  have hx := idx5 bi hi q4
  rw [← V_gain]
  unfold iblk
  rw [View.read_apply]
  show V m c main_v1 _ = _
  refine congrArg (V m c main_v1) (funext fun a => Fin.ext ?_)
  match a with
  | ⟨0, _⟩ => show win0_5.index (pt bi hi q4) 0 * 1 + 1 * 0 = 0; rw [hx.1]
  | ⟨1, _⟩ => show win0_5.index (pt bi hi q4) 1 * 128 + 1 * d.val = hi.val * 128 + d.val; rw [hx.2]; omega

/-- What a grid point reads: its quarter of a batch and head, its logits and its gains. -/
theorem holds_pt : Holds (xM m c) (lM m c) (gM m c) bi hi q4 (iblk m c 0 (pt bi hi q4)) (iblk m c 1 (pt bi hi q4)) (iblk m c 2 (pt bi hi q4))
    (iblk m c 3 (pt bi hi q4)) (iblk m c 4 (pt bi hi q4)) (iblk m c 5 (pt bi hi q4)) where
  q n t d := (blk_x0 m c bi hi q4 _ d).trans (congrArg₂ (xM m c)
    (Fin.ext (by show (4 * bi.val + q4.val) * 2048 + (64 * n.val + t.val) = bi.val * 8192 + ((32 * q4.val + n.val) * 64 + t.val); omega)) rfl)
  a n t d := (blk_x1 m c bi hi q4 _ d).trans (congrArg₂ (xM m c)
    (Fin.ext (by show (4 * bi.val + q4.val) * 2048 + (64 * n.val + t.val) = bi.val * 8192 + ((32 * q4.val + n.val) * 64 + t.val); omega)) rfl)
  v n t d := (blk_x2 m c bi hi q4 _ d).trans (congrArg₂ (xM m c)
    (Fin.ext (by show (4 * bi.val + q4.val) * 2048 + (64 * n.val + t.val) = bi.val * 8192 + ((32 * q4.val + n.val) * 64 + t.val); omega)) rfl)
  o n t d := (blk_x3 m c bi hi q4 _ d).trans (congrArg₂ (xM m c)
    (Fin.ext (by show (4 * bi.val + q4.val) * 2048 + (64 * n.val + t.val) = bi.val * 8192 + ((32 * q4.val + n.val) * 64 + t.val); omega)) rfl)
  l i d := blk_l m c bi hi q4 i d
  g d := blk_g m c bi hi q4 d

/-- The state every batch and head starts from is zero. -/
theorem start_zero (x : Fin 16384 → Fin 6144 → EReal) (l : Fin 2 → Fin 1024 → EReal) (e d : Fin 128) :
    (k0_pay1 (F := Ideal)) (ix2 e d) = stOf x l bi hi 0 d e := by
  pointwise [k0_pay1]
  rfl

variable (hl : ∀ i j, max (lM m c i j) (-(lM m c i j)) < ⊤)

theorem pt_first (h : q4.val = 0) : (pt bi hi q4).val % 4 = 0 := by
  show (32 * bi.val + 4 * hi.val + q4.val) % 4 = 0; omega
theorem pt_later (h : q4.val ≠ 0) : ¬(pt bi hi q4).val % 4 = 0 := by
  show ¬(32 * bi.val + 4 * hi.val + q4.val) % 4 = 0; omega

include hl in
/-- What the scratch carries after each quarter. -/
theorem carried : ∀ (j : ℕ) (hj : j < 4) (e d : Fin 128),
    (outsAt0 m c (pt bi hi ⟨j, hj⟩).val (pt bi hi ⟨j, hj⟩).isLt).2 (ix2 e d) = stOf (xM m c) (lM m c) bi hi (32 * (j + 1)) d e
  | 0, hj, e, d => by
    rw [outsAt0_A m c (pt bi hi ⟨0, hj⟩) (pt_first bi hi _ rfl)]
    dsimp only
    rw [soutA]
    exact stBlk_at (holds_pt m c bi hi ⟨0, hj⟩) hl _ (start_zero bi hi _ _) e d
  | j + 1, hj, e, d => by
    rw [outsAt0_B m c (pt bi hi ⟨j + 1, hj⟩) (pt_later bi hi _ (Nat.succ_ne_zero j))]
    dsimp only
    rw [soutB]
    exact stBlk_at (holds_pt m c bi hi ⟨j + 1, hj⟩) hl _ (carried j (Nat.lt_of_succ_lt hj)) e d

include hl in
/-- What a grid point leaves in its output block. -/
theorem block_at (n : Fin 32) (t : Fin 64) (d : Fin 128) :
    (outsAt0 m c (pt bi hi q4).val (pt bi hi q4).isLt).1 (ix2 ⟨64 * n.val + t.val, by omega⟩ d)
      = resultOf (xM m c) (lM m c) (gM m c) bi hi (chunkNo q4 n) t d := by
  obtain ⟨j, hj⟩ := q4
  cases j with
  | zero =>
    rw [outsAt0_A m c (pt bi hi ⟨0, hj⟩) (pt_first bi hi _ rfl)]
    dsimp only
    rw [outA]
    exact outBlk_at (holds_pt m c bi hi ⟨0, hj⟩) hl _ (start_zero bi hi _ _) n t d
  | succ j =>
    rw [outsAt0_B m c (pt bi hi ⟨j + 1, hj⟩) (pt_later bi hi _ (Nat.succ_ne_zero j))]
    dsimp only
    rw [outB]
    exact outBlk_at (holds_pt m c bi hi ⟨j + 1, hj⟩) hl _ (carried m c bi hi hl j (Nat.lt_of_succ_lt hj)) n t d

include hl in
/-- The kernel's output array, at an element. -/
theorem arr_at (n : Fin 32) (t : Fin 64) (d : Fin 128) :
    ((dats m 0 c).arrAt 6 cfg0.N : Vec Ideal S16384x1024 .bf16) (ix2 (rowOf bi (chunkNo q4 n) t) (chan hi d))
      = resultOf (xM m c) (lM m c) (gM m c) bi hi (chunkNo q4 n) t d := by
  have hx := idx6 bi hi q4
  have h := congrFun (Cert.KernelIdeal.Value.blocks6 m c (pt bi hi q4) (flush0_6 _)) (ix2 ⟨64 * n.val + t.val, by omega⟩ d : S2048x128.Idx)
  rw [View.read_apply, Cert.KernelIdeal.Value.flushed6] at h
  refine Eq.trans ?_ (h.trans (block_at m c bi hi q4 hl n t d))
  show _ = (dats m 0 c).arrAt 6 cfg0.N _
  refine congrArg ((dats m 0 c).arrAt 6 cfg0.N) (funext fun a => Fin.ext ?_)
  match a with
  | ⟨0, _⟩ =>
    show bi.val * 8192 + ((32 * q4.val + n.val) * 64 + t.val) = win0_6.index (pt bi hi q4) 0 * 2048 + 1 * (64 * n.val + t.val)
    rw [hx.1]; omega
  | ⟨1, _⟩ => show hi.val * 128 + d.val = win0_6.index (pt bi hi q4) 1 * 128 + 1 * d.val; rw [hx.2]; omega

end Cert.KernelIdeal.Hg

end
-- ==== Proof.RefRun.lean ====
module

public import proofs.«01_k».proof.Proof.Gen.ReferenceIdeal.Run
public import proofs.«01_k».proof.Proof.Gen.ReferenceIdeal.Step

@[expose] public section

set_option maxRecDepth 8192

noncomputable section

/-! The reference's run: its result is what the operations after the loop make of the last of 128
states, each the step of the one before it. -/

namespace Cert.ReferenceIdeal.Hg

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The buffers carried by the loop hold state `s`, before trip `j`. -/
structure Carries (V : Valuation τ sig (Elt F)) (s : State F) (j : ℕ) : Prop where
  st : V (Proc.devRef .tc main_v52_6) = s.main_v52_6
  out : V (Proc.devRef .tc main_v52_7) = s.main_v52_7
  q : V (Proc.devRef .tc main_v52_0) = s.main_v52_0
  k : V (Proc.devRef .tc main_v52_1) = s.main_v52_1
  v : V (Proc.devRef .tc main_v52_2) = s.main_v52_2
  b : V (Proc.devRef .tc main_v52_3) = s.main_v52_3
  ctr : V (Proc.devRef .tc main_v52_5) = constantI S_ 32 (BitVec.ofNat 32 j)
  mask : V (Proc.devRef .tc main_v52_4) = K_main_v49 (F := F)

section

variable {V : Valuation τ sig (Elt F)} {s : State F} {j : ℕ}

/-- The trip's queries. -/
theorem q_read (h : Carries V s j) : res_main_while0b_v76 V = b5 j s := by
  unfold res_main_while0b_v76 b5 b4
  rw [h.q, h.ctr]
  rfl

/-- The trip's keys. -/
theorem k_read (h : Carries V s j) : res_main_while0b_v77 V = b11 j s := by
  unfold res_main_while0b_v77 b11 b10
  rw [h.k, h.ctr]
  rfl

/-- The trip's values. -/
theorem v_read (h : Carries V s j) : res_main_while0b_v78 V = b17 j s := by
  unfold res_main_while0b_v78 b17 b16
  rw [h.v, h.ctr]
  rfl

/-- The trip's running sums. -/
theorem b_read (h : Carries V s j) : res_main_while0b_v79 V = b23 j s := by
  unfold res_main_while0b_v79 b23 b22
  rw [h.b, h.ctr]
  rfl

/-- The trip's running sums at the chunk's last row. -/
theorem end_read (h : Carries V s j) : res_main_while0b_v98 V = b47 j s := by
  unfold res_main_while0b_v98 b47
  rw [b_read h]

/-- The state after the trip. -/
theorem st_step (h : Carries V s j) : Cert.ReferenceIdeal.Value.step_main_v52_6 V = b58 j s := by
  unfold Cert.ReferenceIdeal.Value.step_main_v52_6
  rw [k_read h, v_read h, b_read h, end_read h, h.st]
  rfl

/-- The outputs after the trip. -/
theorem out_step (h : Carries V s j) : Cert.ReferenceIdeal.Value.step_main_v52_7 V = b65 j s := by
  unfold Cert.ReferenceIdeal.Value.step_main_v52_7
  rw [q_read h, k_read h, v_read h, b_read h, h.st, h.out, h.mask, h.ctr]
  rfl

/-- One trip goes to the next state. -/
theorem carries_step (h : Carries V s j) : Carries (STEP V) (step j s) (j + 1) where
  st := (STEP_main_v52_6 V).trans (st_step h)
  out := (STEP_main_v52_7 V).trans (out_step h)
  q := (STEP_main_v52_0 V).trans h.q
  k := (STEP_main_v52_1 V).trans h.k
  v := (STEP_main_v52_2 V).trans h.v
  b := (STEP_main_v52_3 V).trans h.b
  ctr := (STEP_main_v52_5 V).trans (by
    unfold step_main_v52_5
    rw [h.ctr]
    funext i
    show BitVec.ofNat 32 j + 1#32 = BitVec.ofNat 32 (j + 1)
    rw [BitVec.ofNat_add])
  mask := (STEP_main_v52_4 V).trans h.mask

end

variable (m : (ℓ : Loc nD τ sig) → Buf (Elt F) ℓ) (c : Dev nD)

set_option maxRecDepth 65536 in
set_option maxHeartbeats 500000 in
/-- The operations before the loop leave the first state. -/
theorem carries_entry : Carries (entryContents preI m c)
    (init (m ((c.tc : Thread nD τ).loc main_arg0)) (m ((c.tc : Thread nD τ).loc main_arg1))) 0 := by
  constructor <;> (simp only [entryContents, afterL_cons, afterL_nil]; after_reads_simp) <;> rfl

/-- The states of the loop, of the first two arguments. -/
def states (x : (⟨S16384x6144, .f32⟩ : BufTy).Contents (Elt F)) (l : (⟨S2x1024, .f32⟩ : BufTy).Contents (Elt F)) : ℕ → State F
  | 0 => init x l
  | n + 1 => step n (states x l n)

/-- Before every trip the loop carries that trip's state. -/
theorem carries_iter : ∀ k, Carries (STEP^[k] (entryContents preI m c))
    (states (m ((c.tc : Thread nD τ).loc main_arg0)) (m ((c.tc : Thread nD τ).loc main_arg1)) k) k
  | 0 => carries_entry m c
  | k + 1 => by
    rw [Function.iterate_succ_apply']
    exact carries_step (carries_iter k)

/-- Every run of the reference ends with its result made of state 128, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v75) = R_main_v75
          (states (m ((c.tc : Thread nD τ).loc main_arg0)) (m ((c.tc : Thread nD τ).loc main_arg1)) 128)
          (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    refine ⟨(h c).1.trans ?_, (h c).2⟩
    have hk := carries_iter m c 128
    unfold out_main_v75 R_main_v75
    rw [hk.out, iter_main_arg0 m c 128, iter_main_arg2 m c 128]
    rfl) (Value.run m ρ)

end Cert.ReferenceIdeal.Hg

end
-- ==== Proof.RefRead.lean ====
module

public import proofs.«01_k».proof.Proof.Rec
public import proofs.«01_k».proof.Proof.RefRun
public import Idealize.ShloMosaic.Lib.Pointwise

@[expose] public section

set_option maxRecDepth 16384

noncomputable section

/-! The reference's states and result, read element by element. -/

namespace Cert.ReferenceIdeal.Hg

open Idealize.ShloMosaic Idealize.ShloMosaic.Pointwise
open Cert.ReferenceIdeal Cert.ReferenceIdeal.Gen Cert.ReferenceIdeal.Step

/-- The start a trip's slices are taken at. -/
abbrev startAt (j : ℕ) : Fin 5 → Int := fun k => BitVec.toInt
  ((![constantI S_ 32 (BitVec.ofNat 32 j), constantI S_ 32 0#32, constantI S_ 32 0#32, constantI S_ 32 0#32,
    constantI S_ 32 0#32] : Fin 5 → (⟨S_, .i32⟩ : BufTy).Contents (Elt Ideal)) k (Shape.Idx.first h_S_))

/-- On the chunks' axis the start is the trip's number. -/
theorem start0 (h) : ∀ j : Fin 128, Host.clampedStart S128x2x8x64x128 S1x2x8x64x128 h (startAt j.val) 0 = j.val := by
  have key : ∀ j : Fin 128, (min (max (BitVec.toInt (BitVec.ofNat 32 j.val)) 0) ((128 - 1 : ℕ) : Int)).toNat = j.val := by
    decide +kernel
  exact key

theorem start1 (h) (j : ℕ) : Host.clampedStart S128x2x8x64x128 S1x2x8x64x128 h (startAt j) 1 = 0 := by rfl
theorem start2 (h) (j : ℕ) : Host.clampedStart S128x2x8x64x128 S1x2x8x64x128 h (startAt j) 2 = 0 := by rfl
theorem start3 (h) (j : ℕ) : Host.clampedStart S128x2x8x64x128 S1x2x8x64x128 h (startAt j) 3 = 0 := by rfl
theorem start4 (h) (j : ℕ) : Host.clampedStart S128x2x8x64x128 S1x2x8x64x128 h (startAt j) 4 = 0 := by rfl

/-- A trip's slice of an array of chunks is that trip's chunk. -/
theorem slice_read (a : FVec Ideal S128x2x8x64x128 .f32) (h) (h') (j : Fin 128) (bi : Fin 2) (hi : Fin 8) (t : Fin 64) (d : Fin 128) :
    shapeCast S2x8x64x128 (Host.dynamicSlice S1x2x8x64x128 a (startAt j.val) h) h' (ix4 bi hi t d) = a (ix5 j bi hi t d) := by
  pointwise
  simp only [start0 _ j, start1, start2, start3, start4, zero_add]

theorem q_at (s : State Ideal) (j : Fin 128) (bi : Fin 2) (hi : Fin 8) (t : Fin 64) (d : Fin 128) :
    b5 j.val s (ix4 bi hi t d) = s.main_v52_0 (ix5 j bi hi t d) := slice_read _ _ _ _ _ _ _ _
theorem k_at (s : State Ideal) (j : Fin 128) (bi : Fin 2) (hi : Fin 8) (t : Fin 64) (d : Fin 128) :
    b11 j.val s (ix4 bi hi t d) = s.main_v52_1 (ix5 j bi hi t d) := slice_read _ _ _ _ _ _ _ _
theorem v_at (s : State Ideal) (j : Fin 128) (bi : Fin 2) (hi : Fin 8) (t : Fin 64) (d : Fin 128) :
    b17 j.val s (ix4 bi hi t d) = s.main_v52_2 (ix5 j bi hi t d) := slice_read _ _ _ _ _ _ _ _
theorem b_at (s : State Ideal) (j : Fin 128) (bi : Fin 2) (hi : Fin 8) (t : Fin 64) (d : Fin 128) :
    b23 j.val s (ix4 bi hi t d) = s.main_v52_3 (ix5 j bi hi t d) := slice_read _ _ _ _ _ _ _ _

/-- The state after a trip, at an element. -/
theorem st_at (j : Fin 128) (s : State Ideal) (bi : Fin 2) (hi : Fin 8) (d e : Fin 128) :
    b58 j.val s (ix4 bi hi d e) = Ideal.exp (s.main_v52_3 (ix5 j bi hi 63 d)) * s.main_v52_6 (ix4 bi hi d e)
      + ∑ x : Fin 64, s.main_v52_1 (ix5 j bi hi x d) * Ideal.exp (s.main_v52_3 (ix5 j bi hi 63 d) - s.main_v52_3 (ix5 j bi hi x d))
        * s.main_v52_2 (ix5 j bi hi x e) := by
  pointwise [b58, b57, b56, b55, b54, b53, b52, b51, b50, b49, b48, b47]
  simp only [k_at, v_at, b_at]

/-- The mask of the rows at or before a row. -/
theorem causal : ∀ t x : Fin 64, (Scalar.select (IntOp.cmpi CmpIPredicate.sge (IntOp.addi (BitVec.ofNat 32 t.val) 0#32) (BitVec.ofNat 32 x.val)) 1#1
    0#1) = if x ≤ t then 1#1 else 0#1 := by decide +kernel

/-- A trip's outputs, at an element. -/
theorem o_at (j : Fin 128) (s : State Ideal) (bi : Fin 2) (hi : Fin 8) (t : Fin 64) (e : Fin 128) :
    b59 j.val s (ix4 bi hi t e)
      = (∑ x : Fin 128, s.main_v52_0 (ix5 j bi hi t x) * Ideal.exp (s.main_v52_3 (ix5 j bi hi t x)) * s.main_v52_6 (ix4 bi hi x e))
        + ∑ x : Fin 64, Cert.Hg.scoreR (fun t d => s.main_v52_0 (ix5 j bi hi t d)) (fun t d => s.main_v52_1 (ix5 j bi hi t d))
            (fun t d => s.main_v52_3 (ix5 j bi hi t d)) t x * s.main_v52_2 (ix5 j bi hi x e) := by
  pointwise [b59, b46, b45, b44, b43, b42, b41, b40, b39, b38, b37, b36, b35, b34, b33, b32, b31, b30, b29, b28, b27, b26, b25,
    b24, K_main_v49, K_main_v48, K_main_call3_v4, K_main_v47, K_main_call3_v0, K_main_call3_v1, K_main_call3_v2,
    K_main_call3_v3, K_main_call3_v5, K_main_call3_c, K_main_call3_c_0, K_main_c]
  simp only [q_at, k_at, v_at, b_at, causal]
  refine congrArg₂ (· + ·) rfl (Finset.sum_congr rfl fun x _ => congrArg₂ (· * ·) (Finset.sum_congr rfl fun d _ => ?_) rfl)
  by_cases h : x ≤ t
  · simp [h, Scalar.select]
  · simp [h, Scalar.select, Cert.Hg.negInf]

/-- The outputs after a trip: the trip's chunk is its outputs, the others are kept. -/
theorem out_at (j : Fin 128) (s : State Ideal) (n : Fin 128) (bi : Fin 2) (hi : Fin 8) (t : Fin 64) (e : Fin 128) :
    b65 j.val s (ix5 n bi hi t e) = if n = j then b59 j.val s (ix4 bi hi t e) else s.main_v52_7 (ix5 n bi hi t e) := by
  pointwise [b65, b64, b63, b62, b61, b60]
  simp only [start0 _ j, start1, start2, start3, start4, Nat.sub_zero, Nat.zero_le, and_true, Nat.lt_succ_iff]
  simp only [← le_antisymm_iff]
  by_cases h : n = j
  · subst h; simp
  · have h' : ¬ j.val = n.val := fun e => h (Fin.ext e.symm)
    simp [h, h']

/-- The window of one chunk's rows. -/
abbrev W64 : Shape := ⟨5, ![1, 1, 1, 64, 1]⟩

theorem numel64 : W64.numel = 64 := by decide +kernel

/-- Position `n` of the window is its row `n`. -/
theorem w_row : ∀ n : Fin 64, (W64.rowMajor.symm (n.cast numel64.symm) 3).val = n.val := by decide +kernel

/-- A fold by addition from zero is the sum. -/
theorem foldl_sum {N M : ℕ} (h : N = M) (g : Fin N → EReal) :
    (List.finRange N).foldl (fun r n => r + g n) 0 = ∑ n : Fin M, g (n.cast h.symm) := by
  subst h
  rw [Fin.sum_univ_def, List.sum_eq_foldl, List.foldl_map]
  rfl

/-- The running sums of the rows of each chunk. -/
theorem window_sum (a : FVec Ideal S128x2x8x64x128 .f32) (z : FVec Ideal S_ .f32) (hz : ∀ i, z i = 0) (h) (hu)
    (n : Fin 128) (bi : Fin 2) (hi : Fin 8) (t : Fin 64) (d : Fin 128) :
    Host.reduceWindowAdd ![1, 1, 1, 64, 1] ![1, 1, 1, 1, 1] ![0, 0, 0, 63, 0] ![0, 0, 0, 0, 0] a z h hu (ix5 n bi hi t d)
      = ∑ s : Fin 64, if s ≤ t then a (ix5 n bi hi s d) else 0 := by
  change Ideal.hostReduceWindowAdd (t := S128x2x8x64x128) (s := S128x2x8x64x128) ![1, 1, 1, 64, 1] ![1, 1, 1, 1, 1] ![0, 0, 0, 63, 0] ![0, 0, 0, 0, 0] h a
    (z (Shape.Idx.first hu)) (ix5 n bi hi t d) = _
  rw [hz]
  unfold Ideal.hostReduceWindowAdd Host.reduceWindow
  refine (foldl_sum numel64 _).trans (Fintype.sum_equiv (Equiv.addRight (t + 1)) _ _ fun w => ?_)
  have ht := t.isLt
  have hw := w.isLt
  have e3 : (W64.rowMajor.symm (w.cast numel64.symm) 3).val = w.val := w_row w
  have e0 : (W64.rowMajor.symm (w.cast numel64.symm) 0).val = 0 := Nat.lt_one_iff.mp (W64.rowMajor.symm (w.cast numel64.symm) 0).isLt
  have e1 : (W64.rowMajor.symm (w.cast numel64.symm) 1).val = 0 := Nat.lt_one_iff.mp (W64.rowMajor.symm (w.cast numel64.symm) 1).isLt
  have e2 : (W64.rowMajor.symm (w.cast numel64.symm) 2).val = 0 := Nat.lt_one_iff.mp (W64.rowMajor.symm (w.cast numel64.symm) 2).isLt
  have e4 : (W64.rowMajor.symm (w.cast numel64.symm) 4).val = 0 := Nat.lt_one_iff.mp (W64.rowMajor.symm (w.cast numel64.symm) 4).isLt
  have hs : ((Equiv.addRight (t + 1)) w).val = (w.val + (t.val + 1)) % 64 := by
    show (w + (t + 1)).val = _
    rw [Fin.val_add, Fin.val_add]
    show (w.val + (t.val + 1) % 64) % 64 = _
    omega
  dsimp only
  split
  · next hin =>
    have h3 := hin 3
    change 63 ≤ t.val * 1 + (W64.rowMajor.symm (w.cast numel64.symm) 3).val
      ∧ t.val * 1 + (W64.rowMajor.symm (w.cast numel64.symm) 3).val - 63 < 64 at h3
    rw [e3] at h3
    rw [if_pos (by rw [Fin.le_def, hs]; omega)]
    refine congrArg a (funext fun b => Fin.ext ?_)
    match b with
    | ⟨0, _⟩ => show n.val * 1 + (W64.rowMajor.symm (w.cast numel64.symm) 0).val - 0 = n.val; omega
    | ⟨1, _⟩ => show bi.val * 1 + (W64.rowMajor.symm (w.cast numel64.symm) 1).val - 0 = bi.val; omega
    | ⟨2, _⟩ => show hi.val * 1 + (W64.rowMajor.symm (w.cast numel64.symm) 2).val - 0 = hi.val; omega
    | ⟨3, _⟩ => show t.val * 1 + (W64.rowMajor.symm (w.cast numel64.symm) 3).val - 63 = ((Equiv.addRight (t + 1)) w).val; omega
    | ⟨4, _⟩ => show d.val * 1 + (W64.rowMajor.symm (w.cast numel64.symm) 4).val - 0 = d.val; omega
  · next hin =>
    rw [if_neg fun hle => hin fun b => by
      rw [Fin.le_def, hs] at hle
      match b with
      | ⟨0, _⟩ => show 0 ≤ n.val * 1 + (W64.rowMajor.symm (w.cast numel64.symm) 0).val ∧ n.val * 1 + (W64.rowMajor.symm (w.cast numel64.symm) 0).val - 0 < 128; omega
      | ⟨1, _⟩ => show 0 ≤ bi.val * 1 + (W64.rowMajor.symm (w.cast numel64.symm) 1).val ∧ bi.val * 1 + (W64.rowMajor.symm (w.cast numel64.symm) 1).val - 0 < 2; omega
      | ⟨2, _⟩ => show 0 ≤ hi.val * 1 + (W64.rowMajor.symm (w.cast numel64.symm) 2).val ∧ hi.val * 1 + (W64.rowMajor.symm (w.cast numel64.symm) 2).val - 0 < 8; omega
      | ⟨3, _⟩ => show 63 ≤ t.val * 1 + (W64.rowMajor.symm (w.cast numel64.symm) 3).val ∧ t.val * 1 + (W64.rowMajor.symm (w.cast numel64.symm) 3).val - 63 < 64; omega
      | ⟨4, _⟩ => show 0 ≤ d.val * 1 + (W64.rowMajor.symm (w.cast numel64.symm) 4).val ∧ d.val * 1 + (W64.rowMajor.symm (w.cast numel64.symm) 4).val - 0 < 128; omega]

/-- The window of two rows. -/
abbrev W2 : Shape := ⟨2, ![2, 1]⟩
theorem numel2 : W2.numel = 2 := by decide +kernel
theorem w2_row : ∀ n : Fin 2, (W2.rowMajor.symm (n.cast numel2.symm) 0).val = n.val := by decide +kernel

/-- The first of the running sums of two rows is the first row. -/
theorem window_first (a : FVec Ideal S2x1024 .f32) (z : FVec Ideal S_ .f32) (hz : ∀ i, z i = 0) (h) (hu) (c : Fin 1024) :
    Host.reduceWindowAdd ![2, 1] ![1, 1] ![1, 0] ![0, 0] a z h hu (ix2 (0 : Fin 2) c) = a (ix2 (0 : Fin 2) c) := by
  change Ideal.hostReduceWindowAdd (t := S2x1024) (s := S2x1024) ![2, 1] ![1, 1] ![1, 0] ![0, 0] h a (z (Shape.Idx.first hu)) (ix2 (0 : Fin 2) c) = _
  rw [hz]
  unfold Ideal.hostReduceWindowAdd Host.reduceWindow
  refine (foldl_sum numel2 _).trans ((Fin.sum_univ_two _).trans ?_)
  have e0 : (W2.rowMajor.symm ((0 : Fin 2).cast numel2.symm) 0).val = 0 := w2_row 0
  have e1 : (W2.rowMajor.symm ((1 : Fin 2).cast numel2.symm) 0).val = 1 := w2_row 1
  have f1 : (W2.rowMajor.symm ((1 : Fin 2).cast numel2.symm) 1).val = 0 := Nat.lt_one_iff.mp (W2.rowMajor.symm ((1 : Fin 2).cast numel2.symm) 1).isLt
  have hc := c.isLt
  dsimp only
  rw [dif_neg (fun hin => by
      have := (hin 0).1
      change 1 ≤ 0 * 1 + (W2.rowMajor.symm ((0 : Fin 2).cast numel2.symm) 0).val at this
      omega), zero_add,
    dif_pos (fun b => by
      match b with
      | ⟨0, _⟩ => show 1 ≤ 0 * 1 + (W2.rowMajor.symm ((1 : Fin 2).cast numel2.symm) 0).val ∧ 0 * 1 + (W2.rowMajor.symm ((1 : Fin 2).cast numel2.symm) 0).val - 1 < 2; omega
      | ⟨1, _⟩ => show 0 ≤ c.val * 1 + (W2.rowMajor.symm ((1 : Fin 2).cast numel2.symm) 1).val ∧ c.val * 1 + (W2.rowMajor.symm ((1 : Fin 2).cast numel2.symm) 1).val - 0 < 1024; omega)]
  refine congrArg a (funext fun b => Fin.ext ?_)
  match b with
  | ⟨0, _⟩ => show 0 * 1 + (W2.rowMajor.symm ((1 : Fin 2).cast numel2.symm) 0).val - 1 = 0; omega
  | ⟨1, _⟩ => show c.val * 1 + (W2.rowMajor.symm ((1 : Fin 2).cast numel2.symm) 1).val - 0 = c.val; omega

open Cert.Hg

variable (x : (⟨S16384x6144, .f32⟩ : BufTy).Contents (Elt Ideal)) (l : (⟨S2x1024, .f32⟩ : BufTy).Contents (Elt Ideal))

/-- The projections by row and column. -/
abbrev xF (r : Fin 16384) (c : Fin 6144) : EReal := x (ix2 r c)
/-- The logits by row and column. -/
abbrev lF (r : Fin 2) (c : Fin 1024) : EReal := l (ix2 r c)

theorem q_init (n : Fin 128) (bi : Fin 2) (hi : Fin 8) (t : Fin 64) (d : Fin 128) :
    A_main_v39 x l (ix5 n bi hi t d) = qIn (xF x) bi hi n t d := by
  pointwise [A_main_v39, A_main_v38, A_main_v37, A_main_v35, A_main_call1_v5, A_main_call1_v3, A_main_call1_v1, A_main_call1_v0, A_main_v1, A_main_v0, K_main_v36, K_main_cst_6, K_main_call1_v4, K_main_call1_v2, K_main_call1_cst, K_main_call1_cst_0]
  rfl

theorem v_init (n : Fin 128) (bi : Fin 2) (hi : Fin 8) (t : Fin 64) (d : Fin 128) :
    A_main_v43 x l (ix5 n bi hi t d) = vIn (xF x) bi hi n t d := by
  pointwise [A_main_v43, A_main_v42, A_main_v3, A_main_v0]
  rfl

theorem low_init (c : Fin 1024) : A_main_v17 x l (ix1 c) = low (fun i => lF l i c) := by
  have h0 : A_main_v17 x l (ix1 c) = A_main_v15 x l (ix2 0 c) := by pointwise [A_main_v17, A_main_v16]
  rw [h0, A_main_v15, window_first _ _ (fun i => by pointwise [K_main_call0_call0_v0, K_main_call0_call0_cst])]
  pointwise [A_main_v14, A_main_v13, A_main_v12, A_main_v11, A_main_v10, A_main_v9, A_main_v8, A_main_v7, A_main_v6, A_main_v4, K_main_cst, K_main_cst_1, K_main_v5, K_main_cst_0]
  have hm := max_top2 (fun i => lF l i c)
  unfold top2 at hm
  rw [hm]
  rfl

theorem k_init (n : Fin 128) (bi : Fin 2) (hi : Fin 8) (t : Fin 64) (d : Fin 128) :
    A_main_v41 x l (ix5 n bi hi t d) = kIn (xF x) (lF l) bi hi n t d := by
  pointwise [A_main_v41, A_main_v40, A_main_v34, A_main_v31, A_main_v30, A_main_v29, A_main_v28, A_main_v27, A_main_v26, A_main_v25, A_main_v23, A_main_v21, A_main_v20, A_main_v19, K_main_v18, K_main_v22, K_main_v24, K_main_v33, K_main_cst_2, K_main_cst_3, K_main_cst_4, K_main_cst_5, A_main_v2, A_main_v0]
  rw [low_init]
  rfl

theorem log_init (n : Fin 128) (bi : Fin 2) (hi : Fin 8) (t : Fin 64) (d : Fin 128) :
    A_main_v45 x l (ix5 n bi hi t d) = Ideal.log (forget (lIn (lF l) hi d) (aIn (xF x) bi hi n t d)) := by
  pointwise [A_main_v45, A_main_v44, A_main_v32, A_main_v31, A_main_v30, A_main_v29, A_main_v28, A_main_v27, A_main_v26, A_main_v25, A_main_v23, A_main_v21, A_main_v20, A_main_v19, K_main_v18, K_main_v22, K_main_v24, K_main_v33, K_main_cst_2, K_main_cst_3, K_main_cst_4, K_main_cst_5, A_main_v2, A_main_v0]
  rw [low_init]
  rfl

variable (hl : ∀ i c, max (lF l i c) (-(lF l i c)) < ⊤)

include hl in
theorem b_init (n : Fin 128) (bi : Fin 2) (hi : Fin 8) (t : Fin 64) (d : Fin 128) :
    A_main_v46 x l (ix5 n bi hi t d) = bR (bIn (xF x) (lF l) bi hi n) t d := by
  rw [A_main_v46, window_sum _ _ (fun i => by pointwise [K_main_call2_call0_v0, K_main_call2_call0_cst])]
  simp only [log_init]
  exact sum_ref _ _ (fun d i => hl i _) t d

/-- The queries, keys, values and running sums are carried unchanged. -/
theorem kept (n : ℕ) : (states x l n).main_v52_0 = A_main_v39 x l ∧ (states x l n).main_v52_1 = A_main_v41 x l
    ∧ (states x l n).main_v52_2 = A_main_v43 x l ∧ (states x l n).main_v52_3 = A_main_v46 x l := by
  induction n with
  | zero => exact ⟨rfl, rfl, rfl, rfl⟩
  | succ n ih => exact ih

include hl in
/-- The state carried before chunk `n`. -/
theorem state_eq (bi : Fin 2) (hi : Fin 8) (d e : Fin 128) : ∀ n ≤ 128,
    (states x l n).main_v52_6 (ix4 bi hi d e) = stOf (xF x) (lF l) bi hi n d e := by
  intro n
  induction n with
  | zero => intro _; exact Ideal.ofBits_zero_f32
  | succ n ih =>
    intro hn
    refine (st_at ⟨n, hn⟩ (states x l n) bi hi d e).trans ((refSt_succ _ _ _ ⟨n, hn⟩ d e).trans ?_).symm
    obtain ⟨h0, h1, h2, h3⟩ := kept x l n
    rw [ih (by omega), h1, h2, h3]
    simp only [k_init, v_init, b_init x l hl]
    rfl

include hl in
/-- The outputs after `n` trips, on the chunks done. -/
theorem outs_eq (bi : Fin 2) (hi : Fin 8) (t : Fin 64) (e : Fin 128) : ∀ n ≤ 128, ∀ j : Fin 128, j.val < n →
    (states x l n).main_v52_7 (ix5 j bi hi t e) = outOf (xF x) (lF l) bi hi j t e := by
  intro n
  induction n with
  | zero => intro _ j hj; omega
  | succ n ih =>
    intro hn j hj
    refine (out_at ⟨n, hn⟩ (states x l n) j bi hi t e).trans ?_
    by_cases h : j = ⟨n, hn⟩
    · rw [if_pos h, o_at, h]
      obtain ⟨h0, h1, h2, h3⟩ := kept x l n
      rw [h0, h1, h2, h3]
      simp only [q_init, k_init, v_init, b_init x l hl, state_eq x l hl _ _ _ _ n (by omega)]
      rfl
    · rw [if_neg h]
      exact ih (by omega) j (by have : j.val ≠ n := fun e => h (Fin.ext e); omega)

/-- The result of a state's outputs, at an element. -/
theorem result_of (s : State Ideal) (g : (⟨S1x1024, .f32⟩ : BufTy).Contents (Elt Ideal)) (bi : Fin 2) (hi : Fin 8) (n : Fin 128) (t : Fin 64) (d : Fin 128)
    (o : Fin 128 → EReal) (ho : ∀ e, s.main_v52_7 (ix5 n bi hi t e) = o e) (r : Fin 16384) (c : Fin 1024)
    (e1 : r.val % 8192 / 64 = n.val) (e2 : r.val / 8192 = bi.val) (e3 : c.val / 128 = hi.val) (e4 : r.val % 8192 % 64 = t.val)
    (e5 : c.val % 128 = d.val) :
    R_main_v75 s x g (ix2 r c) = gated o d (g (ix2 0 c)) (x (ix2 r ⟨3072 + c.val, by omega⟩)) := by
  pointwise [R_main_v75]
  simp only [e1, e2, e3, e4, e5, Fin.eta, ho]
  rfl

include hl in
/-- The reference's result, at an element. -/
theorem result_eq (g : (⟨S1x1024, .f32⟩ : BufTy).Contents (Elt Ideal)) (bi : Fin 2) (hi : Fin 8) (n : Fin 128) (t : Fin 64) (d : Fin 128) :
    R_main_v75 (states x l 128) x g (ix2 (rowOf bi n t) (chan hi d))
      = resultOf (xF x) (lF l) (fun c => g (ix2 0 c)) bi hi n t d :=
  result_of x (states x l 128) g bi hi n t d _ (fun e => outs_eq x l hl bi hi t e 128 le_rfl n n.isLt) _ _
    (by unfold rowOf; dsimp only; omega) (by unfold rowOf; dsimp only; omega) (by unfold chan; dsimp only; omega)
    (by unfold rowOf; dsimp only; omega) (by unfold chan; dsimp only; omega)

end Cert.ReferenceIdeal.Hg

end
-- ==== Proof.Alg.lean ====
module

public import proofs.«01_k».proof.Defs
public import proofs.«01_k».proof.Proof.ArrRead
public import proofs.«01_k».proof.Proof.RefRead
public import proofs.«01_k».proof.Proof.RefRun
public import proofs.«01_k».proof.Proof.Gen.Pre_finite_logits

@[expose] public section

set_option maxRecDepth 16384

noncomputable section

/-! The kernel and the reference agree over the extended reals, for finite logits. -/

namespace Cert.Hg

open Idealize.ShloMosaic Idealize.ShloMosaic.Pointwise Idealize.ShloMosaic.TcCoe Idealize.SL.Sem

/-- Every element of the result is a token and channel of some quarter of a batch and head. -/
theorem cover (i : Shape.Idx ⟨2, ![16384, 1024]⟩) : ∃ (bi : Fin 2) (hi : Fin 8) (q4 : Fin 4) (n : Fin 32) (t : Fin 64) (d : Fin 128),
    i = ix2 (rowOf bi (Cert.KernelIdeal.Hg.chunkNo q4 n) t) (chan hi d) := by
  have h0 : (i 0).val < 16384 := (i 0).isLt
  have h1 : (i 1).val < 1024 := (i 1).isLt
  refine ⟨⟨(i 0).val / 8192, by omega⟩, ⟨(i 1).val / 128, by omega⟩, ⟨(i 0).val / 2048 % 4, by omega⟩, ⟨(i 0).val / 64 % 32, by omega⟩,
    ⟨(i 0).val % 64, by omega⟩, ⟨(i 1).val % 128, by omega⟩, funext fun a => Fin.ext ?_⟩
  match a with
  | ⟨0, _⟩ =>
    show (i 0).val = (i 0).val / 8192 * 8192 + ((32 * ((i 0).val / 2048 % 4) + (i 0).val / 64 % 32) * 64 + (i 0).val % 64)
    omega
  | ⟨1, _⟩ =>
    show (i 1).val = (i 1).val / 128 * 128 + (i 1).val % 128
    omega

/-- The precondition, at a logit: its absolute value is below infinity. -/
theorem finite_of_pre (m : (ℓ : Loc Cert.KernelIdeal.nD Cert.KernelIdeal.τ Cert.KernelIdeal.sig) → Buf (Elt Ideal) ℓ)
    (h : Cert.Pre_KernelIdeal_finite_logits m) (c : Dev Cert.KernelIdeal.nD) (i : Fin 2) (j : Fin 1024) :
    max (Cert.KernelIdeal.Hg.lM m c i j) (-(Cert.KernelIdeal.Hg.lM m c i j)) < ⊤ := by
  have e := congrFun (h c) (ix2 i j)
  revert e
  unfold Cert.Pre_finite_logits.fn
  dsimp only
  pointwise
  rw [show Ideal.ofBits .f32 2139095040#32 = ⊤ by simp [Ideal.ofBits, Ideal.ieee]]
  intro e
  by_contra hn
  exact absurd ((congrArg BitVec.ofBool (decide_eq_false hn)).symm.trans e) (by decide)

/-- For finite logits the kernel's result is the reference's, element by element. -/
theorem alg : Cert.algebraic_KernelIdeal_ReferenceIdeal_pre_finite_logits := by
  intro m ρ m' ρ' hpre hagree
  refine ⟨fun c => (Cert.KernelIdeal.Gen.dats m 0 c).arrAt 6 Cert.KernelIdeal.cfg0.N, Cert.KernelIdeal.Value.run_blocks m ρ, ?_⟩
  refine (θ_run _ _ _).mono (fun r h c => ⟨(h c).1.trans ?_, (h c).2⟩) (Cert.ReferenceIdeal.Hg.run m' ρ')
  obtain ⟨a0, a1, a2⟩ := hagree c
  funext i
  obtain ⟨bi, hi, q4, n, t, d, rfl⟩ := cover i
  have hl := finite_of_pre m hpre c
  refine Eq.trans ?_ (Cert.KernelIdeal.Hg.arr_at m c bi hi q4 hl n t d).symm
  rw [a0, a1, a2]
  exact Cert.ReferenceIdeal.Hg.result_eq _ _ hl _ bi hi _ t d

end Cert.Hg

end
-- ==== Proof.MoePre.lean ====
/-
  What the precondition says of the expert kernel's tables, and that such tables place every block inside its array.
-/
module

public import proofs.«01_k».proof.Defs
public import proofs.«01_k».proof.Proof.Gen.Pre_tables_in_range
public import Idealize.ShloMosaic.Lib.Pipeline.ValueKit

@[expose] public section

namespace Cert.Moe

open Idealize.ShloMosaic

/-- The tables are in range: every tile's expert is one of 32, and at least one tile is used. -/
structure InRange (te : Fin 160 → BitVec 32) (nt : BitVec 32) : Prop where
  expert : ∀ t, (te t).toNat < 32
  used : 1 ≤ nt.toInt

theorem one_and {x y : BitVec 1} (h : x &&& y = 1#1) : x = 1#1 ∧ y = 1#1 := by
  revert h; revert x y; decide

theorem one_of_ofBool {b : Bool} (h : BitVec.ofBool b = 1#1) : b = true := by cases b <;> simp_all

/-- A word that is, signed, at least 0 and less than 32 is a natural number less than 32. -/
theorem lt_of_signed {x : BitVec 32} (h0 : (0#32).sle x = true) (h1 : x.slt 32#32 = true) : x.toNat < 32 := by
  rw [BitVec.sle_iff_toInt_le] at h0; rw [BitVec.slt_iff_toInt_lt] at h1
  simp only [BitVec.toInt_zero] at h0
  rw [show (32#32 : BitVec 32).toInt = 32 from by decide] at h1
  rw [BitVec.toInt_eq_toNat_cond] at h0 h1
  split at h0 <;> simp_all <;> omega

/-- The precondition at every device's arrays puts the tables in range. -/
theorem inRange [Cert.Pre_tables_in_range.Facts] {F : FTy → Type} [FloatOps F] (te : IVec Pre_tables_in_range.S160 32) (nt : IVec Pre_tables_in_range.S1 32) (a2) (a3) (a4) (a5)
    (h : Cert.Pre_tables_in_range.fn (F := F) te nt a2 a3 a4 a5 = fun _ => 1#1) :
    InRange (fun t => te (ix1 t)) (nt (ix1 0)) := by
  have key : ∀ t : Fin 160, (te (ix1 t)).toNat < 32 ∧ 1 ≤ (nt (ix1 0)).toInt := fun t => by
    have e := congrFun h (ix1 t)
    simp only [Pre_tables_in_range.fn, andi, cmpi, constantI, IntOp.cmpi, IntOp.andi, broadcastInDim] at e
    obtain ⟨e1, e3⟩ := one_and e
    obtain ⟨e1, e2⟩ := one_and e1
    refine ⟨lt_of_signed (one_of_ofBool e1) (one_of_ofBool e2), ?_⟩
    have e3 := one_of_ofBool e3
    rw [BitVec.sle_iff_toInt_le] at e3
    have s : ∀ y : Pre_tables_in_range.S1.Idx, y = ix1 0 := fun y => by
      funext a; fin_cases a; exact Subsingleton.elim (α := Fin 1) _ _
    unfold shapeCast at e3
    rw [s (Shape.reshapeEquiv _ _)] at e3
    exact e3
  exact ⟨fun t => (key t).1, (key 0).2⟩

/-- The tile whose rows a grid point fetches: its own, or the last used one. -/
def rowTile (t : Fin 160) (nt : BitVec 32) : BitVec 32 := Scalar.minsi (BitVec.ofNat 32 t.val) (Scalar.subi nt 1#32)

theorem toInt_point (t : Fin 160) : (BitVec.ofNat 32 t.val).toInt = t.val := by
  rw [BitVec.toInt_eq_toNat_cond, BitVec.toNat_ofNat, Nat.mod_eq_of_lt (by omega)]; split <;> omega

theorem toInt_pred {nt : BitVec 32} (h : 1 ≤ nt.toInt) : (nt - 1#32).toInt = nt.toInt - 1 := by
  have := nt.toInt_lt
  rw [BitVec.toInt_sub, show (1#32 : BitVec 32).toInt = 1 from by decide]
  rw [Int.bmod_eq_of_le] <;> omega

theorem toNat_pred {nt : BitVec 32} (h : 1 ≤ nt.toInt) : ((nt - 1#32).toNat : Int) = nt.toInt - 1 := by
  have e := toInt_pred h
  rw [BitVec.toInt_eq_toNat_cond] at e
  split at e <;> omega

theorem toNat_point (t : Fin 160) : (BitVec.ofNat 32 t.val).toNat = t.val := by
  rw [BitVec.toNat_ofNat, Nat.mod_eq_of_lt (by omega)]

/-- It is one of the array's tiles. -/
theorem rowTile_lt (t : Fin 160) {nt : BitVec 32} (h : 1 ≤ nt.toInt) : (rowTile t nt).toNat < 160 := by
  unfold rowTile Scalar.minsi IntOp.minsi Scalar.subi IntOp.subi
  have hp := toInt_pred h
  split
  · rw [toNat_point]; omega
  · rename_i hs
    rw [BitVec.slt_iff_toInt_lt, toInt_point, hp] at hs
    have e := toNat_pred h
    omega

/-- A used tile is below the tiles' number. -/
theorem used_iff (t : Fin 160) (nt : BitVec 32) : (BitVec.ofNat 32 t.val).slt nt = true ↔ (t.val : Int) < nt.toInt := by
  rw [BitVec.slt_iff_toInt_lt, toInt_point]

/-- A used tile fetches its own rows. -/
theorem rowTile_used (t : Fin 160) {nt : BitVec 32} (h : (t.val : Int) < nt.toInt) : (rowTile t nt).toNat = t.val := by
  unfold rowTile Scalar.minsi IntOp.minsi Scalar.subi IntOp.subi
  have hp := toInt_pred (nt := nt) (by omega)
  split
  · exact toNat_point t
  · rename_i hs
    rw [BitVec.slt_iff_toInt_lt, toInt_point, hp] at hs
    have e := toNat_pred (nt := nt) (by omega)
    omega

end Cert.Moe
-- ==== Proof.MoeRunB.lean ====
/-
  The expert kernel at the words as the kernel has them, run from ANY tables in range: what each grid point leaves, and what the
  whole launch leaves.
-/
module

public import proofs.«01_k».proof.Proof.Gen.Kernel2.Launch
public import proofs.«01_k».proof.Proof.Gen.Kernel2.Flash.Runs
public import Idealize.ShloMosaic.Lib.Pipeline.Frame
public import Idealize.ShloMosaic.Lib.Claim
public import Idealize.ShloMosaic.Lib.Pipeline.ValueKit

@[expose] public section

set_option maxRecDepth 16384

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The propositions the body's triple is stated in. -/
abbrev Pr : Type _ := sProp (MT nD τ sig Unit (Elt Bits) ℕ (UR sig nD τ) ℕ)

/-! ## The two conditions of the body -/

theorem cond1_iff (i : grid0.Coords) (v : BitVec 32) : k0_cond1 i v = 1#1 ↔ (BitVec.ofNat 32 (i 0).val).slt v = true := by
  unfold k0_cond1
  cases h : (BitVec.ofNat 32 (i 0).val).slt v <;> simp [Scalar.cmpi, Scalar.extui, IntOp.cmpi, h]

theorem cond2_iff (i : grid0.Coords) (v : BitVec 32) : k0_cond2 i v = 1#1 ↔ (BitVec.ofNat 32 (i 0).val).slt v = false := by
  unfold k0_cond2
  cases h : (BitVec.ofNat 32 (i 0).val).slt v <;> simp [Scalar.cmpi, Scalar.extui, IntOp.cmpi, BitVec.sle_eq_not_slt, h]

theorem cond2_of_not (i : grid0.Coords) (v : BitVec 32) (h : ¬k0_cond1 i v = 1#1) : k0_cond2 i v = 1#1 := by
  rw [cond1_iff, Bool.not_eq_true] at h; exact (cond2_iff i v).2 h

theorem not_cond2_of (i : grid0.Coords) (v : BitVec 32) (h : k0_cond1 i v = 1#1) : ¬k0_cond2 i v = 1#1 := by
  rw [cond1_iff] at h; rw [cond2_iff, h]; decide

variable (a : (pcfg0 (F := Bits)).Adm)
variable (m : (ℓ : Loc nD τ sig) → Buf (Elt Bits) ℓ) (ρ : Dev nD → PrngReg)

/-! ## The launch at the tables `a` -/

/-- The pipeline at the tables. -/
abbrev C : Pipeline.Cfg sig Λ₀ := cfg0 (F := Bits) a

/-- The experts' table and the tile count's. -/
abbrev tE : S160.Idx → BitVec 32 := a.1 (0 : Fin 2)
abbrev tN : S1.Idx → BitVec 32 := a.1 (1 : Fin 2)

/-- The tile count, as the body reads it. -/
abbrev cnt : BitVec 32 :=
  View.readAt (Elt Bits) (tbM0_1).view (Rect.unit (s := S1) ![0] S1.size inb_S1_S1_0).toLoadRect (tN a)
    (Shape.Idx.first (numel1_S1.symm ▸ Nat.one_pos))

abbrev pt (t : Fin (C a).N) : grid0.Coords := (C a).grid.coords t

abbrev b0 (t : Fin (C a).N) : Memref sig .tc .vmem S256x2048 .f32 := spec0_0.stage ((C a).slots t (0 : Fin 5))
abbrev b1 (t : Fin (C a).N) : Memref sig .tc .vmem S1x2048x512 .f32 := spec0_1.stage ((C a).slots t (1 : Fin 5))
abbrev b2 (t : Fin (C a).N) : Memref sig .tc .vmem S1x2048x512 .f32 := spec0_2.stage ((C a).slots t (2 : Fin 5))
abbrev b3 (t : Fin (C a).N) : Memref sig .tc .vmem S1x512x2048 .f32 := spec0_3.stage ((C a).slots t (3 : Fin 5))
abbrev b4 (t : Fin (C a).N) : Memref sig .tc .vmem S256x2048 .f32 := spec0_4.stage ((C a).slots t (4 : Fin 5))
theorem w0 (t : Fin (C a).N) : (b0 a t).IsWhole := hstage0_0 (((C a).slots t (0 : Fin 5)).cast nbuf0_0)
theorem w1 (t : Fin (C a).N) : (b1 a t).IsWhole := hstage0_1 (((C a).slots t (1 : Fin 5)).cast nbuf0_1)
theorem w2 (t : Fin (C a).N) : (b2 a t).IsWhole := hstage0_2 (((C a).slots t (2 : Fin 5)).cast nbuf0_2)
theorem w3 (t : Fin (C a).N) : (b3 a t).IsWhole := hstage0_3 (((C a).slots t (3 : Fin 5)).cast nbuf0_3)
theorem w4 (t : Fin (C a).N) : (b4 a t).IsWhole := hstage0_4 (((C a).slots t (4 : Fin 5)).cast nbuf0_4)

/-- Window `w`'s block at point `t`, of the array at launch. -/
def blk (c : Dev nD) (w : Fin (C a).W) (t : Fin (C a).N) : (((C a).win w).xblock (pt a t)).Idx → Elt Bits ((C a).win w).elt :=
  (((C a).win w).blk t).view.read (Elt Bits) (m (((C a).win w).arr.view.loc (c : Thread nD τ)))

theorem idle4 (t : Fin (C a).N) : (C a).idle (4 : Fin 5) ((C a).grid.coords t) = false := by
  show (!(k0_cond1 (pt a t) ((a.1 : pre0.Contents (Elt Bits)).atD 1 ![0]) == 1#1)
    && !(k0_cond2 (pt a t) ((a.1 : pre0.Contents (Elt Bits)).atD 1 ![0]) == 1#1)) = false
  by_cases h : k0_cond1 (pt a t) ((a.1 : pre0.Contents (Elt Bits)).atD 1 ![0]) = 1#1
  · simp [h]
  · simp [cond2_of_not _ _ h]

/-- What point `t` leaves in the output's buffer: the tile through its expert, or zeros past the last tile. -/
def left (c : Dev nD) (t : Fin (C a).N) : S256x2048.Idx → Elt Bits .f32 :=
  if k0_cond1 (pt a t) (cnt a) = 1#1 then
    k0_pay1 (F := Bits) (blk a m c (0 : Fin 5) t) (blk a m c (1 : Fin 5) t) (blk a m c (2 : Fin 5) t) (blk a m c (3 : Fin 5) t)
  else k0_pay2 (F := Bits)

/-- The launch's data: the arrays, and what each buffer holds after each point. -/
def dats (_ : Fin 1) (c : Dev nD) : Dat τ (Elt Bits) Unit ℕ (UR sig nD τ) ℕ (C a) c where
  A w := m (((C a).win w).arr.view.loc (c : Thread nD τ))
  after w t := match w with
    | ⟨0, _⟩ => blk a m c (0 : Fin 5) t
    | ⟨1, _⟩ => blk a m c (1 : Fin 5) t
    | ⟨2, _⟩ => blk a m c (2 : Fin 5) t
    | ⟨3, _⟩ => blk a m c (3 : Fin 5) t
    | ⟨4, _⟩ => left a m c t
  Φ _ := iprop(Pipeline.ΦA spec0 c ∗ Pipeline.ΦT pre0 a.1 c)
  q _ := fullShare
  owed _ := 0

theorem after0 (c : Dev nD) (t : Fin (C a).N) : (dats a m 0 c).after (0 : Fin 5) t = blk a m c (0 : Fin 5) t := rfl
theorem after1 (c : Dev nD) (t : Fin (C a).N) : (dats a m 0 c).after (1 : Fin 5) t = blk a m c (1 : Fin 5) t := rfl
theorem after2 (c : Dev nD) (t : Fin (C a).N) : (dats a m 0 c).after (2 : Fin 5) t = blk a m c (2 : Fin 5) t := rfl
theorem after3 (c : Dev nD) (t : Fin (C a).N) : (dats a m 0 c).after (3 : Fin 5) t = blk a m c (3 : Fin 5) t := rfl
theorem after4 (c : Dev nD) (t : Fin (C a).N) : (dats a m 0 c).after (4 : Fin 5) t = left a m c t := rfl

/-- An input's buffer holds its block when the body runs. -/
theorem before0 (c : Dev nD) (t : Fin (C a).N) (d) : (dats a m 0 c).before (0 : Fin 5) t d = blk a m c (0 : Fin 5) t :=
  ((dats a m 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (C a).N) (d) : (dats a m 0 c).before (1 : Fin 5) t d = blk a m c (1 : Fin 5) t :=
  ((dats a m 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (C a).N) (d) : (dats a m 0 c).before (2 : Fin 5) t d = blk a m c (2 : Fin 5) t :=
  ((dats a m 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (C a).N) (d) : (dats a m 0 c).before (3 : Fin 5) t d = blk a m c (3 : Fin 5) t :=
  ((dats a m 0 c).before_in_eq_fetched (3 : Fin 5) rfl (fun _ => rfl) (fun _ _ _ => rfl) (fun t => by rw [after3]; unfold Dat.blockOf blk; rfl) t d).trans
    (by unfold Dat.fetched Dat.blockOf blk; rfl)

/-- What the body stores at a used tile, over any buffer, reads back as the tile through its expert. -/
theorem read_used (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole)
    (T0 : S160.Idx → Elt Bits .i32) (T1 : S1.Idx → Elt Bits .i32)
    (x0 : S256x2048.Idx → Elt Bits .f32) (x1 x2 : S1x2048x512.Idx → Elt Bits .f32) (x3 : S1x512x2048.Idx → Elt Bits .f32) (h1) (h2) :
    out0_A_4 c i arg3 harg3 arg4 harg4 arg5 harg5 arg6 harg6 arg7 harg7 T0 T1 x0 x1 x2 x3 h1 h2 = k0_pay1 (F := Bits) x0 x1 x2 x3 := by
  frame_out
  simp only [View.read_rep]

/-- What the body stores past the last tile reads back as zeros. -/
theorem read_unused (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole)
    (T0 : S160.Idx → Elt Bits .i32) (T1 : S1.Idx → Elt Bits .i32)
    (x0 : S256x2048.Idx → Elt Bits .f32) (x1 x2 : S1x2048x512.Idx → Elt Bits .f32) (x3 : S1x512x2048.Idx → Elt Bits .f32) (h1) (h2) :
    out0_B_4 c i arg3 harg3 arg4 harg4 arg5 harg5 arg6 harg6 arg7 harg7 T0 T1 x0 x1 x2 x3 h1 h2 = k0_pay2 (F := Bits) := by
  frame_out

/-- The body on its buffers at point `t`, as the launch calls it. -/
abbrev bodyAt (t : Fin (C a).N) : Prog (TpuEff nD τ sig (Elt Bits) Λ₀ .tc) PUnit :=
  cc0_moe (pt a t) (Memref.whole main_arg0) (Memref.isWhole_whole _) (Memref.whole main_arg1) (Memref.isWhole_whole _)
    (b0 a t) (w0 a t) (b1 a t) (w1 a t) (b2 a t) (w2 a t) (b3 a t) (w3 a t) (b4 a t) (w4 a t)

/-- The tables' halves, one by one. -/
theorem tables_eq (c : Dev nD) :
    (Pipeline.ΦT pre0 a.1 c : Pr)
      = iprop((tbM0_0.view.loc (c : Thread nD τ) ↦{fullShare.right} tE a) ∗ (tbM0_1.view.loc (c : Thread nD τ) ↦{fullShare.right} tN a)) := by
  unfold Pipeline.ΦT Pipeline.prefHeld
  rw [show (Finset.univ : Finset (Fin 2)) = insert (0 : Fin 2) {(1 : Fin 2)} from by decide,
    bigSep_insert (by decide), bigSep_singleton]
  rfl

set_option maxHeartbeats 4000000 in
/-- The body at point `t`: from the inputs' blocks and any output buffer, to the output as `left` says. -/
theorem body (c : Dev nD) (t : Fin (C a).N) :
    iprop((dats a m 0 c).Φ t.castSucc ∗ (dats a m 0 c).owesAt () t.castSucc
        ∗ (∃ d, owns (c : Thread nD τ) (b0 a t) fullShare ((dats a m 0 c).before (0 : Fin 5) t d))
        ∗ (∃ d, owns (c : Thread nD τ) (b1 a t) fullShare ((dats a m 0 c).before (1 : Fin 5) t d))
        ∗ (∃ d, owns (c : Thread nD τ) (b2 a t) fullShare ((dats a m 0 c).before (2 : Fin 5) t d))
        ∗ (∃ d, owns (c : Thread nD τ) (b3 a t) fullShare ((dats a m 0 c).before (3 : Fin 5) t d))
        ∗ (∃ d, owns (c : Thread nD τ) (b4 a t) fullShare ((dats a m 0 c).before (4 : Fin 5) t d)))
      ⊢ wp frame (wpE (defs₀ (F := Bits)) Variants.none c none) Set.univ (bodyAt a t) fun _ =>
          iprop((dats a m 0 c).Φ t.succ ∗ (dats a m 0 c).owesAt () t.succ
            ∗ bigSep Finset.univ fun w : Fin (C a).W =>
                match (C a).idle w ((C a).grid.coords t) with
                | true =>
                  match ((C a).win w).flush t with
                  | false => iprop(∃ d, owns (c : Thread nD τ) (((C a).win w).stage ((C a).slots t w)) fullShare ((dats a m 0 c).before w t d))
                  | true => owns (c : Thread nD τ) (((C a).win w).stage ((C a).slots t w)) fullShare ((dats a m 0 c).after w t)
                | false => owns (c : Thread nD τ) (((C a).win w).stage ((C a).slots t w)) fullShare ((dats a m 0 c).after w t)) := by
  rw [bigSep_W0]
  have i4 := idle4 a t
  rewrite [i4]
  simp only [before0, before1, before2, before3, after0, after1, after2, after3, after4]
  rewrite [show (dats a m 0 c).Φ t.succ = iprop(Pipeline.ΦA spec0 c ∗ Pipeline.ΦT pre0 a.1 c) from rfl,
    show (dats a m 0 c).Φ t.castSucc = iprop(Pipeline.ΦA spec0 c ∗ Pipeline.ΦT pre0 a.1 c) from rfl,
    show (dats a m 0 c).owesAt () t.succ = (dats a m 0 c).owesAt () t.castSucc from rfl, tables_eq]
  by_cases h1 : k0_cond1 (pt a t) (cnt a) = 1#1
  · have h2 := not_cond2_of _ _ h1
    rw [show left a m c t = out0_A_4 c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2 from by
        unfold left; rw [if_pos h1]; exact (read_used c (pt a t) _ _ _ _ _ _ _ _ _ _ _ _ _ _ _ _ h1 h2).symm]
    iintro ⟨⟨HA, HT0, HT1⟩, Ho, ⟨%d0, H0⟩, ⟨%d1, H1⟩, ⟨%d2, H2⟩, ⟨%d3, H3⟩, ⟨%d4, H4⟩⟩
    iapply ((kernelRun0_A c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have h2 := cond2_of_not _ _ h1
    rw [show left a m c t = out0_B_4 c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2 from by
        unfold left; rw [if_neg h1]; exact (read_unused c (pt a t) _ _ _ _ _ _ _ _ _ _ _ _ _ _ _ _ h1 h2).symm]
    iintro ⟨⟨HA, HT0, HT1⟩, Ho, ⟨%d0, H0⟩, ⟨%d1, H1⟩, ⟨%d2, H2⟩, ⟨%d3, H3⟩, ⟨%d4, H4⟩⟩
    iapply ((kernelRun0_B c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body obligation, at every point. -/
theorem obligation (c : Dev nD) : BodyObligation (dats a m 0 c) (defs₀ (F := Bits)) Variants.none () Set.univ := fun t => by
  rw [bigSep_W0]
  exact body a m c t

theorem share_eq (c : Dev nD) (w : Fin (C a).W) : (dats a m 0 c).share w = fullShare := by unfold Dat.share; split <;> rfl

/-- What a final state holds: every array at what the launch writes back, every other buffer as it was, every counter
    at zero. -/
theorem run (hpf : ∀ (c : Dev nD) (k : Fin 2), m ((c.tc : Thread nD τ).loc (pre0.ref k)) = a.1 k) :
    θ_run (defs (F := Bits)) (onTc (τ := τ) (main (F := Bits))) ⟨m, fun _ => 0, ρ⟩
      (fun r => Pipeline.FramePost (Pipeline.pin (pcfgs (F := Bits)) fun _ => a) (dats a m) 0 (fun c b => m ((c.tc : Thread nD τ).loc b)) r
        ∧ r.2.sem = fun _ => 0) :=
  Pipeline.θ_run_frameP pcfgs (fun _ => a) (dats a m) 0 (launch0 (F := Bits)) defs₀ Variants.none m ρ main
    (hbody := fun c => (obligation a m c).loose) (hshare := share_eq a m) (howed := fun _ _ => rfl)
    (V := fun c b => m ((c.tc : Thread nD τ).loc b))
    (hmain := Pipeline.hmainP_region _ _ _ _ _ _ fun c => rfl)
    (hA := fun _ _ => rfl) (hpf := hpf) (hΦ := fun _ _ => rfl) (Q' := _) (hQ' := fun _ h => h)

end Cert.Kernel2.Moe
end
-- ==== Proof.MoeFrameB.lean ====
/-
  The expert kernel from the precondition: the tables place every block inside its array, and the launch ends with its
  arguments as they were and every counter at zero.
-/
module

public import proofs.«01_k».proof.Proof.MoePre
public import proofs.«01_k».proof.Proof.MoeRunB

@[expose] public section

set_option maxRecDepth 16384

noncomputable section

namespace Cert.Kernel2.Moe

open Cert.Kernel2 Cert.Kernel2.Gen Cert.Moe
open Idealize.ShloMosaic
open Idealize.ShloMosaic.TcCoe Idealize.SL.Sem

/-- The block of an expert's weights a grid point fetches is its tile's expert's. -/
theorem expert_at (pf : pre0.Contents (Elt Bits)) (i : grid0.Coords) :
    (pf.at 0 (Rect.unit (s := S160) ![(Scalar.indexCast (BitVec.ofNat 32 (i 0).val)).toNat] S1.size (k0_off1_inb i)) numel1_S1 : BitVec 32)
      = pf 0 (ix1 (i 0)) := by
  show pf 0 _ = _
  congr 1
  funext a
  fin_cases a
  apply Fin.ext
  show (Scalar.indexCast (BitVec.ofNat 32 (i 0).val)).toNat + 0 * 1 = (i 0).val
  have := toNat_point (i 0)
  simpa [Scalar.indexCast] using this

theorem count_at (pf : pre0.Contents (Elt Bits)) :
    (pf.at 1 (Rect.unit (s := S1) ![0] S1.size inb_S1_S1_0) numel1_S1 : BitVec 32) = pf 1 (ix1 0) := by
  show pf 1 _ = _
  congr 1
  funext a
  fin_cases a
  exact Subsingleton.elim (α := Fin 1) _ _

theorem transform0 (pf : pre0.Contents (Elt Bits)) (i : grid0.Coords) :
    cc0_transform_0 inb_S1_S1_0 numel1_S1 pf i = ![(rowTile (i 0) (pf 1 (ix1 0))).toNat, 0] := by
  have e := count_at pf
  exact congrArg (fun v : BitVec 32 => (![(rowTile (i 0) v).toNat, 0] : Fin 2 → ℕ)) e

theorem transform1 (pf : pre0.Contents (Elt Bits)) (i : grid0.Coords) :
    cc0_transform_1 k0_off1_inb numel1_S1 pf i = ![(pf 0 (ix1 (i 0)) : BitVec 32).toNat, 0, 0] := by
  have e := expert_at pf i
  exact congrArg (fun v : BitVec 32 => (![v.toNat, 0, 0] : Fin 3 → ℕ)) e

theorem transform2 (pf : pre0.Contents (Elt Bits)) (i : grid0.Coords) :
    cc0_transform_2 k0_off1_inb numel1_S1 pf i = ![(pf 0 (ix1 (i 0)) : BitVec 32).toNat, 0, 0] := by
  have e := expert_at pf i
  exact congrArg (fun v : BitVec 32 => (![v.toNat, 0, 0] : Fin 3 → ℕ)) e

theorem transform3 (pf : pre0.Contents (Elt Bits)) (i : grid0.Coords) :
    cc0_transform_3 k0_off1_inb numel1_S1 pf i = ![(pf 0 (ix1 (i 0)) : BitVec 32).toNat, 0, 0] := by
  have e := expert_at pf i
  exact congrArg (fun v : BitVec 32 => (![v.toNat, 0, 0] : Fin 3 → ℕ)) e

/-- Tables in range place every block inside its array. -/
theorem ok_of_inRange (pf : pre0.Contents (Elt Bits)) (h : InRange (fun t => pf 0 (ix1 t)) (pf 1 (ix1 0))) : ok0 pf := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [transform0]
    have := rowTile_lt (i 0) h.used
    fin_cases a
    · show ((rowTile (i 0) (pf 1 (ix1 0))).toNat + 1) * 256 ≤ 40960
      omega
    · exact le_refl _
  · rw [transform1]
    have := h.expert (i 0)
    fin_cases a
    · show ((pf 0 (ix1 (i 0)) : BitVec 32).toNat + 1) * 1 ≤ 32
      omega
    · exact le_refl _
    · exact le_refl _
  · rw [transform2]
    have := h.expert (i 0)
    fin_cases a
    · show ((pf 0 (ix1 (i 0)) : BitVec 32).toNat + 1) * 1 ≤ 32
      omega
    · exact le_refl _
    · exact le_refl _
  · rw [transform3]
    have := h.expert (i 0)
    fin_cases a
    · show ((pf 0 (ix1 (i 0)) : BitVec 32).toNat + 1) * 1 ≤ 32
      omega
    · exact le_refl _
    · exact le_refl _

variable (m : (ℓ : Loc nD τ sig) → Buf (Elt Bits) ℓ) (ρ : Dev nD → PrngReg)

/-- The tables at launch. -/
def tabs : pre0.Contents (Elt Bits) := fun k => m (((0 : Dev nD).tc : Thread nD τ).loc (pre0.ref k))

theorem inRange_tabs (h : Cert.Pre_Kernel2 m) : InRange (fun t => tabs m 0 (ix1 t)) (tabs m 1 (ix1 0)) :=
  inRange _ _ _ _ _ _ (h 0)

/-- The launch's tables, in range. -/
def adm (h : Cert.Pre_Kernel2 m) : (pcfg0 (F := Bits)).Adm := ⟨tabs m, ok_of_inRange _ (inRange_tabs m h)⟩

theorem adm_eq (h : Cert.Pre_Kernel2 m) (c : Dev nD) (k : Fin 2) : m ((c.tc : Thread nD τ).loc (pre0.ref k)) = (adm m h).1 k := by
  rw [Subsingleton.elim c (0 : Dev nD)]; rfl

/-- The launch's run, from the precondition. -/
theorem run_pre (h : Cert.Pre_Kernel2 m) :
    θ_run (defs (F := Bits)) (onTc (τ := τ) (main (F := Bits))) ⟨m, fun _ => 0, ρ⟩
      (fun r => (∀ c : Dev nD,
        r.2.mem ((c.tc : Thread nD τ).loc main_v0) = (dats (adm m h) m 0 c).arrAt (4 : Fin 5) (C (adm m h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) ∧ r.2.sem = fun _ => 0) :=
  (θ_run defs _ _).mono (fun r hr => ⟨fun c =>
      ⟨hr.1.out_eq c (4 : Fin 5), hr.1.rest_eq c main_arg0 (show main_arg0 ∈ Pipeline.restRefs sig spec0 by decide), hr.1.rest_eq c main_arg1 (show main_arg1 ∈ Pipeline.restRefs sig spec0 by decide),
        hr.1.in_eq c (0 : Fin 5) rfl, hr.1.in_eq c (1 : Fin 5) rfl, hr.1.in_eq c (2 : Fin 5) rfl, hr.1.in_eq c (3 : Fin 5) rfl⟩, hr.2⟩)
    (run (adm m h) m ρ (adm_eq m h))

/-- The launch ends with its arguments as they were and every counter at zero. -/
theorem frame : Cert.quiescent_Kernel2 := fun m ρ h =>
  (θ_run defs _ _).mono (fun r hr => ⟨fun c => (hr.1 c).2, hr.2⟩) (run_pre m ρ h)

end Cert.Kernel2.Moe
end
-- ==== Proof.MoeRun.lean ====
/-
  The expert kernel at the ideal reading, run from ANY tables in range: what each grid point leaves, and what the
  whole launch leaves.
-/
module

public import proofs.«01_k».proof.Proof.Gen.Kernel2Ideal.Launch
public import proofs.«01_k».proof.Proof.Gen.Kernel2Ideal.Flash.Runs
public import Idealize.ShloMosaic.Lib.Pipeline.Frame
public import Idealize.ShloMosaic.Lib.Claim
public import Idealize.ShloMosaic.Lib.Pipeline.ValueKit

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The propositions the body's triple is stated in. -/
abbrev Pr : Type _ := sProp (MT nD τ sig Unit (Elt Ideal) ℕ (UR sig nD τ) ℕ)

/-! ## The two conditions of the body -/

theorem cond1_iff (i : grid0.Coords) (v : BitVec 32) : k0_cond1 i v = 1#1 ↔ (BitVec.ofNat 32 (i 0).val).slt v = true := by
  unfold k0_cond1
  cases h : (BitVec.ofNat 32 (i 0).val).slt v <;> simp [Scalar.cmpi, Scalar.extui, IntOp.cmpi, h]

theorem cond2_iff (i : grid0.Coords) (v : BitVec 32) : k0_cond2 i v = 1#1 ↔ (BitVec.ofNat 32 (i 0).val).slt v = false := by
  unfold k0_cond2
  cases h : (BitVec.ofNat 32 (i 0).val).slt v <;> simp [Scalar.cmpi, Scalar.extui, IntOp.cmpi, BitVec.sle_eq_not_slt, h]

theorem cond2_of_not (i : grid0.Coords) (v : BitVec 32) (h : ¬k0_cond1 i v = 1#1) : k0_cond2 i v = 1#1 := by
  rw [cond1_iff, Bool.not_eq_true] at h; exact (cond2_iff i v).2 h

theorem not_cond2_of (i : grid0.Coords) (v : BitVec 32) (h : k0_cond1 i v = 1#1) : ¬k0_cond2 i v = 1#1 := by
  rw [cond1_iff] at h; rw [cond2_iff, h]; decide

variable (a : (pcfg0 (F := Ideal)).Adm)
variable (m : (ℓ : Loc nD τ sig) → Buf (Elt Ideal) ℓ) (ρ : Dev nD → PrngReg)

/-! ## The launch at the tables `a` -/

/-- The pipeline at the tables. -/
abbrev C : Pipeline.Cfg sig Λ₀ := cfg0 (F := Ideal) a

/-- The experts' table and the tile count's. -/
abbrev tE : S160.Idx → BitVec 32 := a.1 (0 : Fin 2)
abbrev tN : S1.Idx → BitVec 32 := a.1 (1 : Fin 2)

/-- The tile count, as the body reads it. -/
abbrev cnt : BitVec 32 :=
  View.readAt (Elt Ideal) (tbM0_1).view (Rect.unit (s := S1) ![0] S1.size inb_S1_S1_0).toLoadRect (tN a)
    (Shape.Idx.first (numel1_S1.symm ▸ Nat.one_pos))

abbrev pt (t : Fin (C a).N) : grid0.Coords := (C a).grid.coords t

abbrev b0 (t : Fin (C a).N) : Memref sig .tc .vmem S256x2048 .f32 := spec0_0.stage ((C a).slots t (0 : Fin 5))
abbrev b1 (t : Fin (C a).N) : Memref sig .tc .vmem S1x2048x512 .f32 := spec0_1.stage ((C a).slots t (1 : Fin 5))
abbrev b2 (t : Fin (C a).N) : Memref sig .tc .vmem S1x2048x512 .f32 := spec0_2.stage ((C a).slots t (2 : Fin 5))
abbrev b3 (t : Fin (C a).N) : Memref sig .tc .vmem S1x512x2048 .f32 := spec0_3.stage ((C a).slots t (3 : Fin 5))
abbrev b4 (t : Fin (C a).N) : Memref sig .tc .vmem S256x2048 .f32 := spec0_4.stage ((C a).slots t (4 : Fin 5))
theorem w0 (t : Fin (C a).N) : (b0 a t).IsWhole := hstage0_0 (((C a).slots t (0 : Fin 5)).cast nbuf0_0)
theorem w1 (t : Fin (C a).N) : (b1 a t).IsWhole := hstage0_1 (((C a).slots t (1 : Fin 5)).cast nbuf0_1)
theorem w2 (t : Fin (C a).N) : (b2 a t).IsWhole := hstage0_2 (((C a).slots t (2 : Fin 5)).cast nbuf0_2)
theorem w3 (t : Fin (C a).N) : (b3 a t).IsWhole := hstage0_3 (((C a).slots t (3 : Fin 5)).cast nbuf0_3)
theorem w4 (t : Fin (C a).N) : (b4 a t).IsWhole := hstage0_4 (((C a).slots t (4 : Fin 5)).cast nbuf0_4)

/-- Window `w`'s block at point `t`, of the array at launch. -/
def blk (c : Dev nD) (w : Fin (C a).W) (t : Fin (C a).N) : (((C a).win w).xblock (pt a t)).Idx → Elt Ideal ((C a).win w).elt :=
  (((C a).win w).blk t).view.read (Elt Ideal) (m (((C a).win w).arr.view.loc (c : Thread nD τ)))

theorem idle4 (t : Fin (C a).N) : (C a).idle (4 : Fin 5) ((C a).grid.coords t) = false := by
  show (!(k0_cond1 (pt a t) ((a.1 : pre0.Contents (Elt Ideal)).atD 1 ![0]) == 1#1)
    && !(k0_cond2 (pt a t) ((a.1 : pre0.Contents (Elt Ideal)).atD 1 ![0]) == 1#1)) = false
  by_cases h : k0_cond1 (pt a t) ((a.1 : pre0.Contents (Elt Ideal)).atD 1 ![0]) = 1#1
  · simp [h]
  · simp [cond2_of_not _ _ h]

/-- What point `t` leaves in the output's buffer: the tile through its expert, or zeros past the last tile. -/
def left (c : Dev nD) (t : Fin (C a).N) : S256x2048.Idx → Elt Ideal .f32 :=
  if k0_cond1 (pt a t) (cnt a) = 1#1 then
    k0_pay1 (F := Ideal) (blk a m c (0 : Fin 5) t) (blk a m c (1 : Fin 5) t) (blk a m c (2 : Fin 5) t) (blk a m c (3 : Fin 5) t)
  else k0_pay2 (F := Ideal)

/-- The launch's data: the arrays, and what each buffer holds after each point. -/
def dats (_ : Fin 1) (c : Dev nD) : Dat τ (Elt Ideal) Unit ℕ (UR sig nD τ) ℕ (C a) c where
  A w := m (((C a).win w).arr.view.loc (c : Thread nD τ))
  after w t := match w with
    | ⟨0, _⟩ => blk a m c (0 : Fin 5) t
    | ⟨1, _⟩ => blk a m c (1 : Fin 5) t
    | ⟨2, _⟩ => blk a m c (2 : Fin 5) t
    | ⟨3, _⟩ => blk a m c (3 : Fin 5) t
    | ⟨4, _⟩ => left a m c t
  Φ _ := iprop(Pipeline.ΦA spec0 c ∗ Pipeline.ΦT pre0 a.1 c)
  q _ := fullShare
  owed _ := 0

theorem after0 (c : Dev nD) (t : Fin (C a).N) : (dats a m 0 c).after (0 : Fin 5) t = blk a m c (0 : Fin 5) t := rfl
theorem after1 (c : Dev nD) (t : Fin (C a).N) : (dats a m 0 c).after (1 : Fin 5) t = blk a m c (1 : Fin 5) t := rfl
theorem after2 (c : Dev nD) (t : Fin (C a).N) : (dats a m 0 c).after (2 : Fin 5) t = blk a m c (2 : Fin 5) t := rfl
theorem after3 (c : Dev nD) (t : Fin (C a).N) : (dats a m 0 c).after (3 : Fin 5) t = blk a m c (3 : Fin 5) t := rfl
theorem after4 (c : Dev nD) (t : Fin (C a).N) : (dats a m 0 c).after (4 : Fin 5) t = left a m c t := rfl

/-- An input's buffer holds its block when the body runs. -/
theorem before0 (c : Dev nD) (t : Fin (C a).N) (d) : (dats a m 0 c).before (0 : Fin 5) t d = blk a m c (0 : Fin 5) t :=
  ((dats a m 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (C a).N) (d) : (dats a m 0 c).before (1 : Fin 5) t d = blk a m c (1 : Fin 5) t :=
  ((dats a m 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (C a).N) (d) : (dats a m 0 c).before (2 : Fin 5) t d = blk a m c (2 : Fin 5) t :=
  ((dats a m 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (C a).N) (d) : (dats a m 0 c).before (3 : Fin 5) t d = blk a m c (3 : Fin 5) t :=
  ((dats a m 0 c).before_in_eq_fetched (3 : Fin 5) rfl (fun _ => rfl) (fun _ _ _ => rfl) (fun t => by rw [after3]; unfold Dat.blockOf blk; rfl) t d).trans
    (by unfold Dat.fetched Dat.blockOf blk; rfl)

/-- What the body stores at a used tile, over any buffer, reads back as the tile through its expert. -/
theorem read_used (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole)
    (T0 : S160.Idx → Elt Ideal .i32) (T1 : S1.Idx → Elt Ideal .i32)
    (x0 : S256x2048.Idx → Elt Ideal .f32) (x1 x2 : S1x2048x512.Idx → Elt Ideal .f32) (x3 : S1x512x2048.Idx → Elt Ideal .f32) (h1) (h2) :
    out0_A_4 c i arg3 harg3 arg4 harg4 arg5 harg5 arg6 harg6 arg7 harg7 T0 T1 x0 x1 x2 x3 h1 h2 = k0_pay1 (F := Ideal) x0 x1 x2 x3 := by
  frame_out
  simp only [View.read_rep]

/-- What the body stores past the last tile reads back as zeros. -/
theorem read_unused (c : Dev nD) (i : grid0.Coords) (arg3 : Memref sig .tc .vmem S256x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .f32) (harg7 : arg7.IsWhole)
    (T0 : S160.Idx → Elt Ideal .i32) (T1 : S1.Idx → Elt Ideal .i32)
    (x0 : S256x2048.Idx → Elt Ideal .f32) (x1 x2 : S1x2048x512.Idx → Elt Ideal .f32) (x3 : S1x512x2048.Idx → Elt Ideal .f32) (h1) (h2) :
    out0_B_4 c i arg3 harg3 arg4 harg4 arg5 harg5 arg6 harg6 arg7 harg7 T0 T1 x0 x1 x2 x3 h1 h2 = k0_pay2 (F := Ideal) := by
  frame_out

/-- The body on its buffers at point `t`, as the launch calls it. -/
abbrev bodyAt (t : Fin (C a).N) : Prog (TpuEff nD τ sig (Elt Ideal) Λ₀ .tc) PUnit :=
  cc0_moe (pt a t) (Memref.whole main_arg0) (Memref.isWhole_whole _) (Memref.whole main_arg1) (Memref.isWhole_whole _)
    (b0 a t) (w0 a t) (b1 a t) (w1 a t) (b2 a t) (w2 a t) (b3 a t) (w3 a t) (b4 a t) (w4 a t)

/-- The tables' halves, one by one. -/
theorem tables_eq (c : Dev nD) :
    (Pipeline.ΦT pre0 a.1 c : Pr)
      = iprop((tbM0_0.view.loc (c : Thread nD τ) ↦{fullShare.right} tE a) ∗ (tbM0_1.view.loc (c : Thread nD τ) ↦{fullShare.right} tN a)) := by
  unfold Pipeline.ΦT Pipeline.prefHeld
  rw [show (Finset.univ : Finset (Fin 2)) = insert (0 : Fin 2) {(1 : Fin 2)} from by decide,
    bigSep_insert (by decide), bigSep_singleton]
  rfl

set_option maxHeartbeats 4000000 in
/-- The body at point `t`: from the inputs' blocks and any output buffer, to the output as `left` says. -/
theorem body (c : Dev nD) (t : Fin (C a).N) :
    iprop((dats a m 0 c).Φ t.castSucc ∗ (dats a m 0 c).owesAt () t.castSucc
        ∗ (∃ d, owns (c : Thread nD τ) (b0 a t) fullShare ((dats a m 0 c).before (0 : Fin 5) t d))
        ∗ (∃ d, owns (c : Thread nD τ) (b1 a t) fullShare ((dats a m 0 c).before (1 : Fin 5) t d))
        ∗ (∃ d, owns (c : Thread nD τ) (b2 a t) fullShare ((dats a m 0 c).before (2 : Fin 5) t d))
        ∗ (∃ d, owns (c : Thread nD τ) (b3 a t) fullShare ((dats a m 0 c).before (3 : Fin 5) t d))
        ∗ (∃ d, owns (c : Thread nD τ) (b4 a t) fullShare ((dats a m 0 c).before (4 : Fin 5) t d)))
      ⊢ wp frame (wpE (defs₀ (F := Ideal)) Variants.none c none) Set.univ (bodyAt a t) fun _ =>
          iprop((dats a m 0 c).Φ t.succ ∗ (dats a m 0 c).owesAt () t.succ
            ∗ bigSep Finset.univ fun w : Fin (C a).W =>
                match (C a).idle w ((C a).grid.coords t) with
                | true =>
                  match ((C a).win w).flush t with
                  | false => iprop(∃ d, owns (c : Thread nD τ) (((C a).win w).stage ((C a).slots t w)) fullShare ((dats a m 0 c).before w t d))
                  | true => owns (c : Thread nD τ) (((C a).win w).stage ((C a).slots t w)) fullShare ((dats a m 0 c).after w t)
                | false => owns (c : Thread nD τ) (((C a).win w).stage ((C a).slots t w)) fullShare ((dats a m 0 c).after w t)) := by
  rw [bigSep_W0]
  have i4 := idle4 a t
  rewrite [i4]
  simp only [before0, before1, before2, before3, after0, after1, after2, after3, after4]
  rewrite [show (dats a m 0 c).Φ t.succ = iprop(Pipeline.ΦA spec0 c ∗ Pipeline.ΦT pre0 a.1 c) from rfl,
    show (dats a m 0 c).Φ t.castSucc = iprop(Pipeline.ΦA spec0 c ∗ Pipeline.ΦT pre0 a.1 c) from rfl,
    show (dats a m 0 c).owesAt () t.succ = (dats a m 0 c).owesAt () t.castSucc from rfl, tables_eq]
  by_cases h1 : k0_cond1 (pt a t) (cnt a) = 1#1
  · have h2 := not_cond2_of _ _ h1
    rw [show left a m c t = out0_A_4 c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2 from by
        unfold left; rw [if_pos h1]; exact (read_used c (pt a t) _ _ _ _ _ _ _ _ _ _ _ _ _ _ _ _ h1 h2).symm]
    iintro ⟨⟨HA, HT0, HT1⟩, Ho, ⟨%d0, H0⟩, ⟨%d1, H1⟩, ⟨%d2, H2⟩, ⟨%d3, H3⟩, ⟨%d4, H4⟩⟩
    iapply ((kernelRun0_A c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have h2 := cond2_of_not _ _ h1
    rw [show left a m c t = out0_B_4 c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2 from by
        unfold left; rw [if_neg h1]; exact (read_unused c (pt a t) _ _ _ _ _ _ _ _ _ _ _ _ _ _ _ _ h1 h2).symm]
    iintro ⟨⟨HA, HT0, HT1⟩, Ho, ⟨%d0, H0⟩, ⟨%d1, H1⟩, ⟨%d2, H2⟩, ⟨%d3, H3⟩, ⟨%d4, H4⟩⟩
    iapply ((kernelRun0_B c (pt a t) (b0 a t) (w0 a t) (b1 a t) (w1 a t) (b2 a t) (w2 a t) (b3 a t) (w3 a t) (b4 a t) (w4 a t)
      (tE a) (tN a) (blk a m c (0 : Fin 5) t) (blk a m c (1 : Fin 5) t) (blk a m c (2 : Fin 5) t) (blk a m c (3 : Fin 5) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body obligation, at every point. -/
theorem obligation (c : Dev nD) : BodyObligation (dats a m 0 c) (defs₀ (F := Ideal)) Variants.none () Set.univ := fun t => by
  rw [bigSep_W0]
  exact body a m c t

theorem share_eq (c : Dev nD) (w : Fin (C a).W) : (dats a m 0 c).share w = fullShare := by unfold Dat.share; split <;> rfl

/-- What a final state holds: every array at what the launch writes back, every other buffer as it was, every counter
    at zero. -/
theorem run (hpf : ∀ (c : Dev nD) (k : Fin 2), m ((c.tc : Thread nD τ).loc (pre0.ref k)) = a.1 k) :
    θ_run (defs (F := Ideal)) (onTc (τ := τ) (main (F := Ideal))) ⟨m, fun _ => 0, ρ⟩
      (fun r => Pipeline.FramePost (Pipeline.pin (pcfgs (F := Ideal)) fun _ => a) (dats a m) 0 (fun c b => m ((c.tc : Thread nD τ).loc b)) r
        ∧ r.2.sem = fun _ => 0) :=
  Pipeline.θ_run_frameP pcfgs (fun _ => a) (dats a m) 0 (launch0 (F := Ideal)) defs₀ Variants.none m ρ main
    (hbody := fun c => (obligation a m c).loose) (hshare := share_eq a m) (howed := fun _ _ => rfl)
    (V := fun c b => m ((c.tc : Thread nD τ).loc b))
    (hmain := Pipeline.hmainP_region _ _ _ _ _ _ fun c => rfl)
    (hA := fun _ _ => rfl) (hpf := hpf) (hΦ := fun _ _ => rfl) (Q' := _) (hQ' := fun _ h => h)

end Cert.Kernel2Ideal.Moe
end
-- ==== Proof.MoeFrame.lean ====
/-
  The expert kernel from the precondition: the tables place every block inside its array, and the launch ends with its
  arguments as they were and every counter at zero.
-/
module

public import proofs.«01_k».proof.Proof.MoePre
public import proofs.«01_k».proof.Proof.MoeRun

@[expose] public section

set_option maxRecDepth 16384

noncomputable section

namespace Cert.Kernel2Ideal.Moe

open Cert.Kernel2Ideal Cert.Kernel2Ideal.Gen Cert.Moe
open Idealize.ShloMosaic
open Idealize.ShloMosaic.TcCoe Idealize.SL.Sem

/-- The block of an expert's weights a grid point fetches is its tile's expert's. -/
theorem expert_at (pf : pre0.Contents (Elt Ideal)) (i : grid0.Coords) :
    (pf.at 0 (Rect.unit (s := S160) ![(Scalar.indexCast (BitVec.ofNat 32 (i 0).val)).toNat] S1.size (k0_off1_inb i)) numel1_S1 : BitVec 32)
      = pf 0 (ix1 (i 0)) := by
  show pf 0 _ = _
  congr 1
  funext a
  fin_cases a
  apply Fin.ext
  show (Scalar.indexCast (BitVec.ofNat 32 (i 0).val)).toNat + 0 * 1 = (i 0).val
  have := toNat_point (i 0)
  simpa [Scalar.indexCast] using this

theorem count_at (pf : pre0.Contents (Elt Ideal)) :
    (pf.at 1 (Rect.unit (s := S1) ![0] S1.size inb_S1_S1_0) numel1_S1 : BitVec 32) = pf 1 (ix1 0) := by
  show pf 1 _ = _
  congr 1
  funext a
  fin_cases a
  exact Subsingleton.elim (α := Fin 1) _ _

theorem transform0 (pf : pre0.Contents (Elt Ideal)) (i : grid0.Coords) :
    cc0_transform_0 inb_S1_S1_0 numel1_S1 pf i = ![(rowTile (i 0) (pf 1 (ix1 0))).toNat, 0] := by
  have e := count_at pf
  exact congrArg (fun v : BitVec 32 => (![(rowTile (i 0) v).toNat, 0] : Fin 2 → ℕ)) e

theorem transform1 (pf : pre0.Contents (Elt Ideal)) (i : grid0.Coords) :
    cc0_transform_1 k0_off1_inb numel1_S1 pf i = ![(pf 0 (ix1 (i 0)) : BitVec 32).toNat, 0, 0] := by
  have e := expert_at pf i
  exact congrArg (fun v : BitVec 32 => (![v.toNat, 0, 0] : Fin 3 → ℕ)) e

theorem transform2 (pf : pre0.Contents (Elt Ideal)) (i : grid0.Coords) :
    cc0_transform_2 k0_off1_inb numel1_S1 pf i = ![(pf 0 (ix1 (i 0)) : BitVec 32).toNat, 0, 0] := by
  have e := expert_at pf i
  exact congrArg (fun v : BitVec 32 => (![v.toNat, 0, 0] : Fin 3 → ℕ)) e

theorem transform3 (pf : pre0.Contents (Elt Ideal)) (i : grid0.Coords) :
    cc0_transform_3 k0_off1_inb numel1_S1 pf i = ![(pf 0 (ix1 (i 0)) : BitVec 32).toNat, 0, 0] := by
  have e := expert_at pf i
  exact congrArg (fun v : BitVec 32 => (![v.toNat, 0, 0] : Fin 3 → ℕ)) e

/-- Tables in range place every block inside its array. -/
theorem ok_of_inRange (pf : pre0.Contents (Elt Ideal)) (h : InRange (fun t => pf 0 (ix1 t)) (pf 1 (ix1 0))) : ok0 pf := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [transform0]
    have := rowTile_lt (i 0) h.used
    fin_cases a
    · show ((rowTile (i 0) (pf 1 (ix1 0))).toNat + 1) * 256 ≤ 40960
      omega
    · exact le_refl _
  · rw [transform1]
    have := h.expert (i 0)
    fin_cases a
    · show ((pf 0 (ix1 (i 0)) : BitVec 32).toNat + 1) * 1 ≤ 32
      omega
    · exact le_refl _
    · exact le_refl _
  · rw [transform2]
    have := h.expert (i 0)
    fin_cases a
    · show ((pf 0 (ix1 (i 0)) : BitVec 32).toNat + 1) * 1 ≤ 32
      omega
    · exact le_refl _
    · exact le_refl _
  · rw [transform3]
    have := h.expert (i 0)
    fin_cases a
    · show ((pf 0 (ix1 (i 0)) : BitVec 32).toNat + 1) * 1 ≤ 32
      omega
    · exact le_refl _
    · exact le_refl _

variable (m : (ℓ : Loc nD τ sig) → Buf (Elt Ideal) ℓ) (ρ : Dev nD → PrngReg)

/-- The tables at launch. -/
def tabs : pre0.Contents (Elt Ideal) := fun k => m (((0 : Dev nD).tc : Thread nD τ).loc (pre0.ref k))

theorem inRange_tabs (h : Cert.Pre_Kernel2Ideal m) : InRange (fun t => tabs m 0 (ix1 t)) (tabs m 1 (ix1 0)) :=
  inRange _ _ _ _ _ _ (h 0)

/-- The launch's tables, in range. -/
def adm (h : Cert.Pre_Kernel2Ideal m) : (pcfg0 (F := Ideal)).Adm := ⟨tabs m, ok_of_inRange _ (inRange_tabs m h)⟩

theorem adm_eq (h : Cert.Pre_Kernel2Ideal m) (c : Dev nD) (k : Fin 2) : m ((c.tc : Thread nD τ).loc (pre0.ref k)) = (adm m h).1 k := by
  rw [Subsingleton.elim c (0 : Dev nD)]; rfl

/-- The launch's run, from the precondition. -/
theorem run_pre (h : Cert.Pre_Kernel2Ideal m) :
    θ_run (defs (F := Ideal)) (onTc (τ := τ) (main (F := Ideal))) ⟨m, fun _ => 0, ρ⟩
      (fun r => (∀ c : Dev nD,
        r.2.mem ((c.tc : Thread nD τ).loc main_v0) = (dats (adm m h) m 0 c).arrAt (4 : Fin 5) (C (adm m h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) ∧ r.2.sem = fun _ => 0) :=
  (θ_run defs _ _).mono (fun r hr => ⟨fun c =>
      ⟨hr.1.out_eq c (4 : Fin 5), hr.1.rest_eq c main_arg0 (show main_arg0 ∈ Pipeline.restRefs sig spec0 by decide), hr.1.rest_eq c main_arg1 (show main_arg1 ∈ Pipeline.restRefs sig spec0 by decide),
        hr.1.in_eq c (0 : Fin 5) rfl, hr.1.in_eq c (1 : Fin 5) rfl, hr.1.in_eq c (2 : Fin 5) rfl, hr.1.in_eq c (3 : Fin 5) rfl⟩, hr.2⟩)
    (run (adm m h) m ρ (adm_eq m h))

/-- The launch ends with its arguments as they were and every counter at zero. -/
theorem frame : Cert.quiescent_Kernel2Ideal := fun m ρ h =>
  (θ_run defs _ _).mono (fun r hr => ⟨fun c => (hr.1 c).2, hr.2⟩) (run_pre m ρ h)

end Cert.Kernel2Ideal.Moe
end
-- ==== Proof.MoePoint.lean ====
/-
  One tile through its expert, element by element.
-/
module

public import proofs.«01_k».proof.Proof.Gen.Kernel2Ideal.Skeleton
public import Idealize.ShloMosaic.Lib.Pointwise

@[expose] public section

set_option maxRecDepth 16384

noncomputable section

namespace Cert.Kernel2Ideal.Moe

open Idealize.ShloMosaic Idealize.ShloMosaic.Pointwise
open Cert.Kernel2Ideal Cert.Kernel2Ideal.Gen

/-- A row `x` through an expert's weights: the gated unit's channels, weighted by the down projection's column `y`. -/
def expertRow (x : Fin 2048 → EReal) (wg wu : Fin 2048 → Fin 512 → EReal) (y : Fin 512 → EReal) : EReal :=
  ∑ f : Fin 512, (((∑ d, x d * wg d f) * Ideal.logistic (∑ d, x d * wg d f)) * ∑ d, x d * wu d f) * y f

theorem pay1_read (x0 : Vec Ideal S256x2048 .f32) (x1 x2 : Vec Ideal S1x2048x512 .f32) (x3 : Vec Ideal S1x512x2048 .f32)
    (r : Fin 256) (j : Fin 2048) :
    k0_pay1 x0 x1 x2 x3 (ix2 r j)
      = expertRow (fun d => x0 (ix2 r d)) (fun d f => x1 (ix3 0 d f)) (fun d f => x2 (ix3 0 d f)) (fun f => x3 (ix3 0 f j)) := by
  pointwise [k0_pay1]
  rfl

theorem pay2_read (r : Fin 256) (j : Fin 2048) : k0_pay2 (F := Ideal) (ix2 r j) = 0 := by
  pointwise [k0_pay2]

end Cert.Kernel2Ideal.Moe
end
-- ==== Proof.MoeArr.lean ====
/-
  The expert kernel's output array, element by element.
-/
module

public import proofs.«01_k».proof.Proof.MoeFrame
public import proofs.«01_k».proof.Proof.MoePoint

@[expose] public section

set_option maxRecDepth 16384

noncomputable section

namespace Cert.Kernel2Ideal.Moe

open Cert.Kernel2Ideal Cert.Kernel2Ideal.Gen Cert.Moe
open Idealize.ShloMosaic Idealize.ShloMosaic.Pointwise
open Idealize.ShloMosaic.TcCoe Idealize.SL.Sem
open Idealize.ShloMosaic.Pipeline (Dat Cfg Window)

/-- Tables that are in range: every tile the first expert's, one tile used. -/
def pf₀ : pre0.Contents (Elt Ideal) := fun | ⟨0, _⟩ => fun _ => (0#32 : BitVec 32) | ⟨1, _⟩ => fun _ => (1#32 : BitVec 32) | ⟨_ + 2, h⟩ => absurd h (by simp)

def a₀ : (pcfg0 (F := Ideal)).Adm := ⟨pf₀, ok_of_inRange _ ⟨fun _ => show (0#32 : BitVec 32).toNat < 32 by decide, show 1 ≤ (1#32 : BitVec 32).toInt by decide⟩⟩

variable (a : (pcfg0 (F := Ideal)).Adm)
variable (m : (ℓ : Loc nD τ sig) → Buf (Elt Ideal) ℓ) (c : Dev nD)

theorem coord : ∀ t : Fin grid0.N, (grid0.coords t 0).val = t.val := by decide +kernel

/-- The output's blocks cover it, whatever the tables hold. -/
theorem covers : ((C a).win (4 : Fin 5)).Covers := by
  have h : ((C a₀).win (4 : Fin 5)).Covers := by decide +kernel
  exact h

/-- The rows, by row and column. -/
abbrev hM (p : Fin 40960) (d : Fin 2048) : EReal := (m ((c : Thread nD τ).loc main_arg2) : Vec Ideal S40960x2048 .f32) (ix2 p d)
/-- The gates' weights, by expert. -/
abbrev gM (e : Fin 32) (d : Fin 2048) (f : Fin 512) : EReal := (m ((c : Thread nD τ).loc main_arg3) : Vec Ideal S32x2048x512 .f32) (ix3 e d f)
/-- The up projections' weights, by expert. -/
abbrev uM (e : Fin 32) (d : Fin 2048) (f : Fin 512) : EReal := (m ((c : Thread nD τ).loc main_arg4) : Vec Ideal S32x2048x512 .f32) (ix3 e d f)
/-- The down projections' weights, by expert. -/
abbrev dM (e : Fin 32) (f : Fin 512) (j : Fin 2048) : EReal := (m ((c : Thread nD τ).loc main_arg5) : Vec Ideal S32x512x2048 .f32) (ix3 e f j)

/-- The expert a tile's word names. -/
def expertOf (v : BitVec 32) : Fin 32 := ⟨v.toNat % 32, Nat.mod_lt _ (by decide)⟩

/-- The grid point of tile `t`. -/
def tp (t : Fin 160) : Fin (C a).N := ⟨t.val, by rw [show (C a).N = 160 from N_0]; exact t.isLt⟩

theorem pt_tp (t : Fin 160) : pt a (tp a t) 0 = t := Fin.ext (coord _)

variable (hr : InRange (fun t => tE a (ix1 t)) (tN a (ix1 0)))

theorem blk0 (t : Fin 160) (hu : (t.val : Int) < (tN a (ix1 0)).toInt) (r : Fin 256) (d : Fin 2048) :
    (blk a m c (0 : Fin 5) (tp a t) : Vec Ideal S256x2048 .f32) (ix2 r d) = hM m c ⟨t.val * 256 + r.val, by omega⟩ d := by
  have hx := transform0 a.1 (pt a (tp a t))
  rw [pt_tp] at hx
  unfold blk
  rw [View.read_apply]
  refine congrArg (m (c.tc.loc main_arg2)) (funext fun b => Fin.ext ?_)
  match b with
  | ⟨0, _⟩ =>
    show cc0_transform_0 inb_S1_S1_0 numel1_S1 a.1 (pt a (tp a t)) 0 * 256 + 1 * r.val = t.val * 256 + r.val
    rw [hx]
    show (rowTile t (tN a (ix1 0))).toNat * 256 + 1 * r.val = t.val * 256 + r.val
    rw [rowTile_used t hu]; omega
  | ⟨1, _⟩ =>
    show cc0_transform_0 inb_S1_S1_0 numel1_S1 a.1 (pt a (tp a t)) 1 * 2048 + 1 * d.val = d.val
    rw [hx]
    show 0 * 2048 + 1 * d.val = d.val
    omega

include hr in
theorem blk1 (t : Fin 160) (d : Fin 2048) (f : Fin 512) :
    (blk a m c (1 : Fin 5) (tp a t) : Vec Ideal S1x2048x512 .f32) (ix3 0 d f) = gM m c (expertOf (tE a (ix1 t))) d f := by
  have hx := transform1 a.1 (pt a (tp a t))
  rw [pt_tp] at hx
  have hl : (tE a (ix1 t)).toNat < 32 := hr.expert t
  unfold blk
  rw [View.read_apply]
  refine congrArg (m (c.tc.loc main_arg3)) (funext fun b => Fin.ext ?_)
  match b with
  | ⟨0, _⟩ =>
    show cc0_transform_1 k0_off1_inb numel1_S1 a.1 (pt a (tp a t)) 0 * 1 + 1 * 0 = (tE a (ix1 t)).toNat % 32
    rw [hx]
    show (tE a (ix1 t)).toNat * 1 + 1 * 0 = (tE a (ix1 t)).toNat % 32
    omega
  | ⟨1, _⟩ =>
    show cc0_transform_1 k0_off1_inb numel1_S1 a.1 (pt a (tp a t)) 1 * 2048 + 1 * d.val = d.val
    rw [hx]
    show 0 * 2048 + 1 * d.val = d.val
    omega
  | ⟨2, _⟩ =>
    show cc0_transform_1 k0_off1_inb numel1_S1 a.1 (pt a (tp a t)) 2 * 512 + 1 * f.val = f.val
    rw [hx]
    show 0 * 512 + 1 * f.val = f.val
    omega

include hr in
theorem blk2 (t : Fin 160) (d : Fin 2048) (f : Fin 512) :
    (blk a m c (2 : Fin 5) (tp a t) : Vec Ideal S1x2048x512 .f32) (ix3 0 d f) = uM m c (expertOf (tE a (ix1 t))) d f := by
  have hx := transform2 a.1 (pt a (tp a t))
  rw [pt_tp] at hx
  have hl : (tE a (ix1 t)).toNat < 32 := hr.expert t
  unfold blk
  rw [View.read_apply]
  refine congrArg (m (c.tc.loc main_arg4)) (funext fun b => Fin.ext ?_)
  match b with
  | ⟨0, _⟩ =>
    show cc0_transform_2 k0_off1_inb numel1_S1 a.1 (pt a (tp a t)) 0 * 1 + 1 * 0 = (tE a (ix1 t)).toNat % 32
    rw [hx]
    show (tE a (ix1 t)).toNat * 1 + 1 * 0 = (tE a (ix1 t)).toNat % 32
    omega
  | ⟨1, _⟩ =>
    show cc0_transform_2 k0_off1_inb numel1_S1 a.1 (pt a (tp a t)) 1 * 2048 + 1 * d.val = d.val
    rw [hx]
    show 0 * 2048 + 1 * d.val = d.val
    omega
  | ⟨2, _⟩ =>
    show cc0_transform_2 k0_off1_inb numel1_S1 a.1 (pt a (tp a t)) 2 * 512 + 1 * f.val = f.val
    rw [hx]
    show 0 * 512 + 1 * f.val = f.val
    omega
include hr in
theorem blk3 (t : Fin 160) (f : Fin 512) (j : Fin 2048) :
    (blk a m c (3 : Fin 5) (tp a t) : Vec Ideal S1x512x2048 .f32) (ix3 0 f j) = dM m c (expertOf (tE a (ix1 t))) f j := by
  have hx := transform3 a.1 (pt a (tp a t))
  rw [pt_tp] at hx
  have hl : (tE a (ix1 t)).toNat < 32 := hr.expert t
  unfold blk
  rw [View.read_apply]
  refine congrArg (m (c.tc.loc main_arg5)) (funext fun b => Fin.ext ?_)
  match b with
  | ⟨0, _⟩ =>
    show cc0_transform_3 k0_off1_inb numel1_S1 a.1 (pt a (tp a t)) 0 * 1 + 1 * 0 = (tE a (ix1 t)).toNat % 32
    rw [hx]
    show (tE a (ix1 t)).toNat * 1 + 1 * 0 = (tE a (ix1 t)).toNat % 32
    omega
  | ⟨1, _⟩ =>
    show cc0_transform_3 k0_off1_inb numel1_S1 a.1 (pt a (tp a t)) 1 * 512 + 1 * f.val = f.val
    rw [hx]
    show 0 * 512 + 1 * f.val = f.val
    omega
  | ⟨2, _⟩ =>
    show cc0_transform_3 k0_off1_inb numel1_S1 a.1 (pt a (tp a t)) 2 * 2048 + 1 * j.val = j.val
    rw [hx]
    show 0 * 2048 + 1 * j.val = j.val
    omega

/-- The tile count as the body reads it is the table's word. -/
theorem cnt_eq : cnt a = tN a (ix1 0) := by
  refine congrArg (tN a) (funext fun b => ?_)
  fin_cases b
  exact Subsingleton.elim (α := Fin 1) _ _

/-- A row of a used tile through its tile's expert; zero in a tile past the last. -/
def rowOut (te : Fin 160 → BitVec 32) (nt : BitVec 32) (p : Fin 40960) (j : Fin 2048) : EReal :=
  if ((p.val / 256 : ℕ) : Int) < nt.toInt then
    expertRow (fun d => hM m c p d) (gM m c (expertOf (te ⟨p.val / 256, by omega⟩))) (uM m c (expertOf (te ⟨p.val / 256, by omega⟩)))
      (fun f => dM m c (expertOf (te ⟨p.val / 256, by omega⟩)) f j)
  else 0

include hr in
/-- What tile `t` leaves at row `r` and column `j`. -/
theorem left_read (t : Fin 160) (r : Fin 256) (j : Fin 2048) :
    left a m c (tp a t) (ix2 r j) = rowOut m c (fun t => tE a (ix1 t)) (tN a (ix1 0)) ⟨t.val * 256 + r.val, by omega⟩ j := by
  have ht : (⟨(t.val * 256 + r.val) / 256, by omega⟩ : Fin 160) = t := Fin.ext (by show (t.val * 256 + r.val) / 256 = t.val; omega)
  have hv : (t.val * 256 + r.val) / 256 = t.val := congrArg Fin.val ht
  unfold left rowOut
  have hc : k0_cond1 (pt a (tp a t)) (cnt a) = 1#1 ↔ (t.val : Int) < (tN a (ix1 0)).toInt := by
    rw [cond1_iff, pt_tp, used_iff, cnt_eq]
  simp only [hv]
  by_cases hu : (t.val : Int) < (tN a (ix1 0)).toInt
  · rw [if_pos (hc.2 hu), if_pos hu, pay1_read]
    simp only [blk0 a m c t hu, blk1 a m c hr t, blk2 a m c hr t, blk3 a m c hr t]
  · rw [if_neg (mt hc.1 hu), if_neg hu, pay2_read]

include hr in
/-- The output array, element by element. -/
theorem final : ((dats a m 0 c).arrAt (4 : Fin 5) (C a).N : Vec Ideal S40960x2048 .f32)
    = fun i => rowOut m c (fun t => tE a (ix1 t)) (tN a (ix1 0)) (i 0) (i 1) := by
  refine (dats a m 0 c).arrAt_eq_of_covers (4 : Fin 5) (fun i : S40960x2048.Idx => rowOut m c (fun t => tE a (ix1 t)) (tN a (ix1 0)) (i 0) (i 1)) (covers a) fun t hf y => ?_
  obtain ⟨t, ht⟩ := t
  have ht' : t < 160 := by rw [← show (C a).N = 160 from N_0]; exact ht
  have hl := left_read a m c hr ⟨t, ht'⟩ (y 0) (y 1)
  have hx : cc0_transform_4 (pt a ⟨t, ht⟩) = ![t, 0] := by
    have e := toNat_point (pt a ⟨t, ht⟩ 0)
    rw [show (pt a ⟨t, ht⟩ 0).val = t from coord ⟨t, ht⟩] at e
    show ![(BitVec.ofNat 32 (pt a ⟨t, ht⟩ 0).val).toNat, 0] = ![t, 0]
    rw [show (pt a ⟨t, ht⟩ 0).val = t from coord ⟨t, ht⟩, e]
  refine Eq.trans ?_ (hl.trans ?_)
  · rw [after4]
    refine congrArg (left a m c ⟨t, ht⟩) (funext fun b => Fin.ext ?_)
    match b with
    | ⟨0, _⟩ => rfl
    | ⟨1, _⟩ => rfl
  · refine congrArg₂ (rowOut m c (fun t => tE a (ix1 t)) (tN a (ix1 0))) (Fin.ext ?_) (Fin.ext ?_)
    · show t * 256 + (y 0).val = cc0_transform_4 (pt a ⟨t, ht⟩) 0 * 256 + 1 * (y 0).val
      rw [hx]
      show t * 256 + (y 0).val = t * 256 + 1 * (y 0).val
      omega
    · show (y 1).val = cc0_transform_4 (pt a ⟨t, ht⟩) 1 * 2048 + 1 * (y 1).val
      rw [hx]
      show (y 1).val = 0 * 2048 + 1 * (y 1).val
      omega

end Cert.Kernel2Ideal.Moe
end
-- ==== Proof.MoeRef.lean ====
/-
  The second reference's result, element by element.
-/
module

public import proofs.«01_k».proof.Proof.Gen.Reference2Ideal.Run
public import Idealize.ShloMosaic.Lib.Pointwise

@[expose] public section

set_option maxRecDepth 16384

noncomputable section

namespace Cert.Reference2Ideal.Moe

open Idealize.ShloMosaic Idealize.ShloMosaic.Pointwise Idealize.ShloMosaic.TcCoe Idealize.SL.Sem
open Cert.Reference2Ideal Cert.Reference2Ideal.Gen

/-- Each row's tile, by floor division. -/
def tiles : IVec S40960 32 :=
  select (andi (cmpi .ne (signi (iotaInDim S40960 32 0)) (broadcastInDim S40960 ![] bcast_S_S40960 (signi (id (constantI S_ 32 256#32))))) (cmpi .ne (Host.remsi (iotaInDim S40960 32 0) (broadcastInDim S40960 ![] bcast_S_S40960 (id (constantI S_ 32 256#32)))) (broadcastInDim S40960 ![] bcast_S_S40960 (constantI S_ 32 0#32)))) (subi (Host.divsi (iotaInDim S40960 32 0) (broadcastInDim S40960 ![] bcast_S_S40960 (id (constantI S_ 32 256#32)))) (broadcastInDim S40960 ![] bcast_S_S40960 (constantI S_ 32 1#32))) (Host.divsi (iotaInDim S40960 32 0) (broadcastInDim S40960 ![] bcast_S_S40960 (id (constantI S_ 32 256#32))))

/-- Each row's expert: its tile's, or none past the last tile. -/
def experts (te : IVec S160 32) (nt : IVec S1 32) : IVec S40960 32 :=
  select (cmpi .slt tiles (broadcastInDim S40960 ![] bcast_S_S40960 (shapeCast S_ nt shapeCasts_S1_S_))) (shapeCast S40960 (broadcastInDim S160x256 ![0] bcast_S160_S160x256_0 te) shapeCasts_S160x256_S40960) (broadcastInDim S40960 ![] bcast_S_S40960 (id (constantI S_ 32 4294967295#32)))

theorem row_msb (p : Fin 40960) : (BitVec.ofNat 32 p.val).msb = false := by
  rw [BitVec.msb_eq_false_iff_two_mul_lt, BitVec.toNat_ofNat, Nat.mod_eq_of_lt (by omega)]; omega

theorem not_corner (x : BitVec 32) : ¬IntOp.SDivCorner x (256#32) := by
  intro h
  rcases h with h | h
  · exact absurd h (by decide)
  · exact absurd h.2 (by decide)

theorem row_div (p : Fin 40960) : IntOp.divsi ArithUnit.host (BitVec.ofNat 32 p.val) 256#32 = BitVec.ofNat 32 (p.val / 256) := by
  unfold IntOp.divsi
  rw [if_neg (not_corner _), BitVec.sdiv_eq, row_msb, show (256#32 : BitVec 32).msb = false from by decide]
  apply BitVec.eq_of_toNat_eq
  simp only [BitVec.udiv_eq, BitVec.toNat_udiv, BitVec.toNat_ofNat]
  rw [Nat.mod_eq_of_lt (show p.val < 2 ^ 32 by omega), Nat.mod_eq_of_lt (show p.val / 256 < 2 ^ 32 by omega)]

theorem row_rem (p : Fin 40960) : IntOp.remsi ArithUnit.host (BitVec.ofNat 32 p.val) 256#32 = BitVec.ofNat 32 (p.val % 256) := by
  unfold IntOp.remsi
  rw [if_neg (not_corner _), BitVec.srem_eq, row_msb, show (256#32 : BitVec 32).msb = false from by decide]
  apply BitVec.eq_of_toNat_eq
  simp only [BitVec.toNat_umod, BitVec.toNat_ofNat]
  rw [Nat.mod_eq_of_lt (show p.val < 2 ^ 32 by omega), Nat.mod_eq_of_lt (show p.val % 256 < 2 ^ 32 by omega)]

theorem tiles_at (p : Fin 40960) : tiles (ix1 p) = BitVec.ofNat 32 (p.val / 256) := by
  pointwise [tiles]
  simp only [id, constantI, row_div, row_rem]
  change Scalar.select (IntOp.andi (IntOp.cmpi CmpIPredicate.ne
    (if BitVec.ofNat 32 p.val = 0 then (0 : BitVec 32) else if (BitVec.ofNat 32 p.val).msb = true then -1 else 1) 1)
    (IntOp.cmpi CmpIPredicate.ne (BitVec.ofNat 32 (p.val % 256)) 0#32)) _ _ = _
  rw [row_msb]
  by_cases h : p.val = 0
  · rw [h]; rfl
  · have hne : ¬BitVec.ofNat 32 p.val = 0 := by
      intro e
      have e := congrArg BitVec.toNat e
      rw [BitVec.toNat_ofNat, Nat.mod_eq_of_lt (by omega)] at e
      exact h e
    rw [if_neg hne, if_neg (by decide)]
    rw [show IntOp.cmpi CmpIPredicate.ne (1 : BitVec 32) 1 = 0#1 from by decide]
    simp [IntOp.andi, Scalar.select]

theorem experts_at (te : IVec S160 32) (nt : IVec S1 32) (p : Fin 40960) :
    experts te nt (ix1 p) = if (BitVec.ofNat 32 (p.val / 256)).slt (nt (ix1 0)) then te (ix1 ⟨p.val / 256, by omega⟩) else 4294967295#32 := by
  pointwise [experts]
  rw [tiles_at]
  cases h : (BitVec.ofNat 32 (p.val / 256)).slt (nt (ix1 0)) <;> simp [IntOp.cmpi, h, Scalar.select, constantI]

/-- One where a column's expert is the row's, zero elsewhere. -/
def oneHot (te : IVec S160 32) (nt : IVec S1 32) : FVec Ideal S40960x32 .f32 :=
  uitofp .f32 (cmpi .eq (broadcastInDim S40960x32 ![0, 1] bcast_S40960x1_S40960x32_0_1 (broadcastInDim S40960x1 ![0] bcast_S40960_S40960x1_0 (experts te nt))) (broadcastInDim S40960x32 ![0, 1] bcast_S1x32_S40960x32_0_1 (broadcastInDim S1x32 ![1] bcast_S32_S1x32_1 (iotaInDim S32 32 0))))

/-- Every row's product with every expert's projection. -/
def proj (hs : FVec Ideal S40960x2048 .f32) (w : FVec Ideal S32x2048x512 .f32) : FVec Ideal S40960x32x512 .f32 :=
  Host.dotGeneral dot_S40960x2048_S32x2048x512_S40960x32x512_1_1_0_02_n_n none hs w

/-- The gated unit of every row at every expert. -/
def gated (hs : FVec Ideal S40960x2048 .f32) (wg wu : FVec Ideal S32x2048x512 .f32) : FVec Ideal S40960x32x512 .f32 :=
  mulf (mulf (proj hs wg) (Host.divf (broadcastInDim S40960x32x512 ![] bcast_S_S40960x32x512 (constant S_ .f32 0x3F800000#32)) (addf (broadcastInDim S40960x32x512 ![] bcast_S_S40960x32x512 (constant S_ .f32 0x3F800000#32)) (Host.exp (Host.negf (proj hs wg)))))) (proj hs wu)

/-- The reference's result. -/
def out (te : IVec S160 32) (nt : IVec S1 32) (hs : FVec Ideal S40960x2048 .f32) (wg wu : FVec Ideal S32x2048x512 .f32) (wd : FVec Ideal S32x512x2048 .f32) : FVec Ideal S40960x2048 .f32 :=
  Host.reduceAdd (mulf (broadcastInDim S40960x32x2048 ![0, 1, 2] bcast_S40960x32x1_S40960x32x2048_0_1_2 (broadcastInDim S40960x32x1 ![0, 1] bcast_S40960x32_S40960x32x1_0_1 (oneHot te nt))) (transpose S40960x32x2048 [2, 0, 1] (Host.dotGeneral dot_S32x512x2048_S40960x32x512_S32x2048x40960_1_2_2_0_0_1 none wd (gated hs wg wu)) transposes_S32x2048x40960_S40960x32x2048_2_0_1)) (constant S_ .f32 0x00000000#32) reducesTo_S40960x32x2048_S40960x2048_d1 h_S_

theorem oneHot_at (te : IVec S160 32) (nt : IVec S1 32) (p : Fin 40960) (e : Fin 32) :
    oneHot te nt (ix2 p e) = if experts te nt (ix1 p) = BitVec.ofNat 32 e.val then 1 else 0 := by
  pointwise [oneHot]
  by_cases h : experts te nt (ix1 p) = BitVec.ofNat 32 e.val <;> simp [h, IntOp.cmpi, FloatOps.uitofp]

theorem proj_at (hs : FVec Ideal S40960x2048 .f32) (w : FVec Ideal S32x2048x512 .f32) (p : Fin 40960) (e : Fin 32) (f : Fin 512) :
    proj hs w (ix3 p e f) = ∑ d : Fin 2048, hs (ix2 p d) * w (ix3 e d f) := by
  pointwise [proj]

theorem gated_at (hs : FVec Ideal S40960x2048 .f32) (wg wu : FVec Ideal S32x2048x512 .f32) (p : Fin 40960) (e : Fin 32) (f : Fin 512) :
    gated hs wg wu (ix3 p e f) = proj hs wg (ix3 p e f) * Ideal.logistic (proj hs wg (ix3 p e f)) * proj hs wu (ix3 p e f) := by
  pointwise [gated]
  rfl

theorem out_at (te : IVec S160 32) (nt : IVec S1 32) (hs : FVec Ideal S40960x2048 .f32) (wg wu : FVec Ideal S32x2048x512 .f32) (wd : FVec Ideal S32x512x2048 .f32)
    (p : Fin 40960) (j : Fin 2048) :
    out te nt hs wg wu wd (ix2 p j) = ∑ e : Fin 32, oneHot te nt (ix2 p e) * ∑ f : Fin 512, gated hs wg wu (ix3 p e f) * wd (ix3 e f j) := by
  pointwise [out]
  exact Finset.sum_congr rfl fun x _ => congrArg (_ * ·) (Finset.sum_congr rfl fun f _ => mul_comm _ _)

/-- The reference's result: at a used tile's row the sum keeps its tile's expert alone, past the last tile it keeps none. -/
theorem result_at (te : IVec S160 32) (nt : IVec S1 32) (hs : FVec Ideal S40960x2048 .f32) (wg wu : FVec Ideal S32x2048x512 .f32) (wd : FVec Ideal S32x512x2048 .f32)
    (p : Fin 40960) (j : Fin 2048) (e : Fin 32) (he : te (ix1 ⟨p.val / 256, by omega⟩) = BitVec.ofNat 32 e.val) :
    out te nt hs wg wu wd (ix2 p j) = if (BitVec.ofNat 32 (p.val / 256)).slt (nt (ix1 0)) then
      ∑ f : Fin 512, (((∑ d, hs (ix2 p d) * wg (ix3 e d f)) * Ideal.logistic (∑ d, hs (ix2 p d) * wg (ix3 e d f))) * ∑ d, hs (ix2 p d) * wu (ix3 e d f)) * wd (ix3 e f j)
    else 0 := by
  rw [out_at]
  simp only [oneHot_at, experts_at, gated_at, proj_at]
  split
  · refine (Finset.sum_eq_single e (fun b _ hb => ?_) (fun h => absurd (Finset.mem_univ e) h)).trans ?_
    · rw [if_neg, zero_mul]
      rw [he]
      intro h
      have h := congrArg BitVec.toNat h
      rw [BitVec.toNat_ofNat, BitVec.toNat_ofNat, Nat.mod_eq_of_lt (by omega), Nat.mod_eq_of_lt (by omega)] at h
      exact hb (Fin.ext h.symm)
    · rw [if_pos he, one_mul]
  · refine Finset.sum_eq_zero fun b _ => ?_
    rw [if_neg, zero_mul]
    intro h
    have h := congrArg BitVec.toNat h
    rw [BitVec.toNat_ofNat, BitVec.toNat_ofNat, Nat.mod_eq_of_lt (by omega), Nat.mod_eq_of_lt (by omega)] at h
    omega

end Cert.Reference2Ideal.Moe
end
-- ==== Proof.MoeAlg.lean ====
/-
  The expert kernel and its reference agree.
-/
module

public import proofs.«01_k».proof.Proof.MoeArr
public import proofs.«01_k».proof.Proof.MoeRef

@[expose] public section

set_option maxRecDepth 16384

noncomputable section

/-! The expert kernel and its reference agree over the extended reals, for tables in range. -/

namespace Cert.Moe

open Idealize.ShloMosaic Idealize.ShloMosaic.Pointwise Idealize.ShloMosaic.TcCoe Idealize.SL.Sem

/-- A word below 32 is the word of the expert it names. -/
theorem word_expertOf {v : BitVec 32} (h : v.toNat < 32) : v = BitVec.ofNat 32 (Cert.Kernel2Ideal.Moe.expertOf v).val := by
  apply BitVec.eq_of_toNat_eq
  show v.toNat = (BitVec.ofNat 32 (v.toNat % 32)).toNat
  rw [BitVec.toNat_ofNat]
  omega

/-- For tables in range the reference's result is the kernel's, at every row and column. -/
theorem result_eq (m : (ℓ : Loc Cert.Kernel2Ideal.nD Cert.Kernel2Ideal.τ Cert.Kernel2Ideal.sig) → Buf (Elt Ideal) ℓ) (c : Dev Cert.Kernel2Ideal.nD)
    (te : IVec Cert.Reference2Ideal.S160 32) (nt : IVec Cert.Reference2Ideal.S1 32) (hr : InRange (fun t => te (ix1 t)) (nt (ix1 0)))
    (p : Fin 40960) (j : Fin 2048) :
    Cert.Reference2Ideal.Moe.out te nt (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) (ix2 p j)
      = Cert.Kernel2Ideal.Moe.rowOut m c (fun t => te (ix1 t)) (nt (ix1 0)) p j := by
  have hi := used_iff ⟨p.val / 256, by omega⟩ (nt (ix1 0))
  refine (Cert.Reference2Ideal.Moe.result_at te nt _ _ _ _ p j _ (word_expertOf (hr.expert ⟨p.val / 256, by omega⟩))).trans ?_
  unfold Cert.Kernel2Ideal.Moe.rowOut
  by_cases hu : ((p.val / 256 : ℕ) : Int) < (nt (ix1 0)).toInt
  · rw [if_pos (hi.2 hu), if_pos hu]; rfl
  · rw [if_neg (mt hi.1 hu), if_neg hu]

/-- For tables in range the kernel's result is the reference's. -/
theorem alg : Cert.algebraic_Kernel2Ideal_Reference2Ideal := by
  intro m ρ m' ρ' hpre hagree
  refine ⟨fun c => (Cert.Kernel2Ideal.Moe.dats (Cert.Kernel2Ideal.Moe.adm m hpre) m 0 c).arrAt (4 : Fin 5) (Cert.Kernel2Ideal.Moe.C (Cert.Kernel2Ideal.Moe.adm m hpre)).N,
    (θ_run _ _ _).mono (fun r h => h.1) (Cert.Kernel2Ideal.Moe.run_pre m ρ hpre), ?_⟩
  refine (θ_run _ _ _).mono (fun r h c => ⟨(h c).1.trans ?_, (h c).2⟩) (Cert.Reference2Ideal.Value.run m' ρ')
  obtain ⟨a0, a1, a2, a3, a4, a5⟩ := hagree c
  have hc : c = (0 : Dev Cert.Kernel2Ideal.nD) := Subsingleton.elim _ _
  subst hc
  have hr := Cert.Kernel2Ideal.Moe.inRange_tabs m hpre
  refine Eq.trans ?_ (Cert.Kernel2Ideal.Moe.final (Cert.Kernel2Ideal.Moe.adm m hpre) m 0 hr).symm
  rw [a0, a1, a2, a3, a4, a5]
  funext i
  obtain ⟨p, j, rfl⟩ : ∃ (p : Fin 40960) (j : Fin 2048), i = ix2 p j := ⟨i 0, i 1, eq_ix2 i⟩
  exact result_eq m 0 _ _ hr p j

/-- The reference runs, leaves its arguments, and ends with every semaphore counter at zero. -/
theorem quiet : Cert.quiescent_Reference2Ideal := fun m ρ _ =>
  (θ_run _ _ _).mono (fun r h => ⟨fun c => (h c).2, Idealize.ShloMosaic.sem_eq_zero_of_no_sems (by decide) r.2⟩)
    (Cert.Reference2Ideal.Value.run m ρ)

end Cert.Moe

end
-- ==== Proof.InRun.lean ====
/-
  The input projection's kernel at the ideal reading, on any buffers: a row block's first point (which norms the block
  and projects it) and its other points (which project the normed block that the first one left).
-/
module

public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Claim
public import Idealize.ShloMosaic.Lib.Pipeline.ValueKit

@[expose] public section

set_option maxRecDepth 16384

noncomputable section

namespace Cert.Kernel3Ideal.In

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The propositions the body's triple is stated in. -/
abbrev Pr : Type _ := sProp (MT nD τ sig Unit (Elt Ideal) ℕ (UR sig nD τ) ℕ)

set_option maxHeartbeats 4000000 in
/-- A row block's first point: the pieces its stores leave in the two outputs' buffers and the scratch, with the run
    that leaves them. -/
def runA (c : Dev nD) (i : grid0.Coords) (arg2 : Memref sig .tc .vmem S1024x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S2048x128 .bf16) (harg7 : arg7.IsWhole)
    (arg8 : Memref sig .tc .vmem S1024x1024 .f32) (harg8 : arg8.IsWhole) (arg9 : Memref sig .tc .vmem S1024x128 .f32) (harg9 : arg9.IsWhole)
    (arg10 : Memref sig .tc .vmem S1024x2048 .bf16) (harg10 : arg10.IsWhole) (hc0 : k0_cond1 i = 1#1) (hc1 : ¬k0_cond2 i = 1#1)
    (x0 : Vec Ideal S1024x2048 .f32) (x1 : Vec Ideal S1x1x2048 .f32) (x2 : Vec Ideal S1x1x2048 .f32) (x3 : Vec Ideal S1x2048 .f32)
    (x4 : Vec Ideal S2048x1024 .bf16) (x5 : Vec Ideal S2048x128 .bf16) :
    Σ' (L6 : List (View.Piece (Elt Ideal) S1024x1024 .f32)) (L7 : List (View.Piece (Elt Ideal) S1024x128 .f32)),
      { LS : List (View.Piece (Elt Ideal) S1024x2048 .bf16) //
      ∀ (E : Set ℕ) (K : PUnit → Pr),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Ideal) f L6)
              ∗ (∃ f, arg9.view.loc (c : Thread nD τ) ↦[arg9.view.set]{fullShare} arg9.view.writes (Elt Ideal) f L7)
              ∗ (∃ f, arg10.view.loc (c : Thread nD τ) ↦[arg10.view.set]{fullShare} arg10.view.writes (Elt Ideal) f LS)) -∗ K ⟨⟩))
          ⊢ wp frame (wpE (defs₀ (F := Ideal)) Variants.none c none) E (cc0_inproj i arg2 harg2 arg3 harg3 arg4 harg4 arg5 harg5 arg6 harg6 arg7 harg7 arg8 harg8 arg9 harg9 arg10 harg10) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 4000000 in
/-- Any other point: the pieces its store leaves in the output's buffer, with the run that leaves them. -/
def runB (c : Dev nD) (i : grid0.Coords) (arg2 : Memref sig .tc .vmem S1024x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S2048x128 .bf16) (harg7 : arg7.IsWhole)
    (arg8 : Memref sig .tc .vmem S1024x1024 .f32) (harg8 : arg8.IsWhole) (arg9 : Memref sig .tc .vmem S1024x128 .f32) (harg9 : arg9.IsWhole)
    (arg10 : Memref sig .tc .vmem S1024x2048 .bf16) (harg10 : arg10.IsWhole) (hc0 : ¬k0_cond1 i = 1#1) (hc1 : k0_cond2 i = 1#1)
    (x0 : Vec Ideal S1024x2048 .f32) (x1 : Vec Ideal S1x1x2048 .f32) (x2 : Vec Ideal S1x1x2048 .f32) (x3 : Vec Ideal S1x2048 .f32)
    (x4 : Vec Ideal S2048x1024 .bf16) (x5 : Vec Ideal S2048x128 .bf16) (xh : Vec Ideal S1024x2048 .bf16) (xt : Vec Ideal S1024x128 .f32) :
    { L6 : List (View.Piece (Elt Ideal) S1024x1024 .f32) //
      ∀ (E : Set ℕ) (K : PUnit → Pr),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xt ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Ideal) f L6)
              ∗ owns (c : Thread nD τ) arg9 fullShare xt ∗ owns (c : Thread nD τ) arg10 fullShare xh) -∗ K ⟨⟩))
          ⊢ wp frame (wpE (defs₀ (F := Ideal)) Variants.none c none) E (cc0_inproj i arg2 harg2 arg3 harg3 arg4 harg4 arg5 harg5 arg6 harg6 arg7 harg7 arg8 harg8 arg9 harg9 arg10 harg10) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

end Cert.Kernel3Ideal.In
end
-- ==== Proof.InPoint.lean ====
/-
  One grid point of the input projection over the extended reals, read element by element.
-/
module

public import proofs.«01_k».proof.Proof.InRun
public import Idealize.ShloMosaic.Lib.Pointwise

@[expose] public section

set_option maxRecDepth 16384

noncomputable section

namespace Cert.Kernel3Ideal.In

open Idealize.ShloMosaic Idealize.ShloMosaic.Pointwise
open Cert.Kernel3Ideal Cert.Kernel3Ideal.Gen

/-- A normed and modulated row, at a channel. -/
def hrow (x g sc sh : Fin 2048 → EReal) (k : Fin 2048) : EReal :=
  x k * Ideal.rsqrt (Ideal.div (∑ j, x j * x j) (Ideal.ofBits .f32 0x45000000#32) + Ideal.ofBits .f32 0x358637BD#32) * g k
    * (1 + sc k) + sh k

section
variable (v : Vec Ideal S256x2048 .f32) (g : Vec Ideal S1x2048 .f32) (sc sh : Vec Ideal S1x1x2048 .f32)
variable (r : Fin 256) (k : Fin 2048)

theorem pay3_read : k0_pay3 v g sc sh (ix2 r k)
    = hrow (fun j => v (ix2 r j)) (fun j => g (ix2 0 j)) (fun j => sc (ix3 0 0 j)) (fun j => sh (ix3 0 0 j)) k := by
  pointwise [k0_pay3]
  rfl

theorem pay8_read : k0_pay8 (k0_pay5 v) (k0_pay6 g) (k0_pay7 sc) sh (ix2 r k)
    = hrow (fun j => v (ix2 r j)) (fun j => g (ix2 0 j)) (fun j => sc (ix3 0 0 j)) (fun j => sh (ix3 0 0 j)) k := by
  pointwise [k0_pay8, k0_pay5, k0_pay6, k0_pay7]
  rfl

theorem pay15_read : k0_pay15 (k0_pay10 v) (k0_pay11 g) (k0_pay12 sc) (k0_pay13 sh) (k0_pay14 v) (Scalar.ofBits .f32 0x358637BD#32) (ix2 r k)
    = hrow (fun j => v (ix2 r j)) (fun j => g (ix2 0 j)) (fun j => sc (ix3 0 0 j)) (fun j => sh (ix3 0 0 j)) k := by
  pointwise [k0_pay15, k0_pay10, k0_pay11, k0_pay12, k0_pay13, k0_pay14]
  rfl

theorem pay19_read : k0_pay19 (k0_pay17 v g sc) (k0_pay18 sh) (ix2 r k)
    = hrow (fun j => v (ix2 r j)) (fun j => g (ix2 0 j)) (fun j => sc (ix3 0 0 j)) (fun j => sh (ix3 0 0 j)) k := by
  pointwise [k0_pay19, k0_pay17, k0_pay18]
  rfl
theorem pay4_read : k0_pay4 v g sc sh (ix2 r k) = hrow (fun j => v (ix2 r j)) (fun j => g (ix2 0 j)) (fun j => sc (ix3 0 0 j)) (fun j => sh (ix3 0 0 j)) k := by
  pointwise [k0_pay4]
  exact pay3_read v g sc sh r k

theorem pay9_read : k0_pay9 (k0_pay5 v) (k0_pay6 g) (k0_pay7 sc) sh (ix2 r k) = hrow (fun j => v (ix2 r j)) (fun j => g (ix2 0 j)) (fun j => sc (ix3 0 0 j)) (fun j => sh (ix3 0 0 j)) k := by
  pointwise [k0_pay9]
  exact pay8_read v g sc sh r k

theorem pay16_read : k0_pay16 (k0_pay10 v) (k0_pay11 g) (k0_pay12 sc) (k0_pay13 sh) (k0_pay14 v) (Scalar.ofBits .f32 0x358637BD#32) (ix2 r k) = hrow (fun j => v (ix2 r j)) (fun j => g (ix2 0 j)) (fun j => sc (ix3 0 0 j)) (fun j => sh (ix3 0 0 j)) k := by
  pointwise [k0_pay16]
  exact pay15_read v g sc sh r k

theorem pay20_read : k0_pay20 (k0_pay17 v g sc) (k0_pay18 sh) (ix2 r k) = hrow (fun j => v (ix2 r j)) (fun j => g (ix2 0 j)) (fun j => sc (ix3 0 0 j)) (fun j => sh (ix3 0 0 j)) k := by
  pointwise [k0_pay20]
  exact pay19_read v g sc sh r k
end

theorem pay22_read (w : Vec Ideal S2048x1024 .bf16) (h : FVec Ideal S256x2048 .bf16) (r : Fin 256) (n : Fin 1024) :
    k0_pay22 (k0_pay1 w) h (ix2 r n) = ∑ k : Fin 2048, h (ix2 r k) * w (ix2 k n) := by
  pointwise [k0_pay22, k0_pay1]

theorem pay23_read (w : Vec Ideal S2048x128 .bf16) (h : FVec Ideal S256x2048 .bf16) (r : Fin 256) (n : Fin 128) :
    k0_pay23 h w (ix2 r n) = ∑ k : Fin 2048, h (ix2 r k) * w (ix2 k n) := by
  pointwise [k0_pay23, k0_pay21]

theorem pay2_read (w : Vec Ideal S2048x1024 .bf16) (h : Vec Ideal S1024x2048 .bf16) (r : Fin 1024) (n : Fin 1024) :
    k0_pay2 w h (ix2 r n) = ∑ k : Fin 2048, h (ix2 r k) * w (ix2 k n) := by
  pointwise [k0_pay2, k0_pay1]

theorem pay24_eq (v : FVec Ideal S2048x1024 .bf16) (h : FVec Ideal S256x2048 .bf16) : k0_pay24 v h = k0_pay22 v h := rfl
theorem pay26_eq (v : FVec Ideal S2048x1024 .bf16) (h : FVec Ideal S256x2048 .bf16) : k0_pay26 v h = k0_pay22 v h := rfl
theorem pay28_eq (v : FVec Ideal S2048x1024 .bf16) (a b : FVec Ideal S256x2048 .f32) : k0_pay28 v a b = k0_pay22 v (k0_pay19 a b) := rfl
theorem pay25_eq (v : Vec Ideal S2048x128 .bf16) (h : FVec Ideal S256x2048 .bf16) : k0_pay25 h v = k0_pay23 h v := rfl
theorem pay27_eq (v : Vec Ideal S2048x128 .bf16) (h : FVec Ideal S256x2048 .bf16) : k0_pay27 h v = k0_pay23 h v := rfl
theorem pay29_eq (v : Vec Ideal S2048x128 .bf16) (a b : FVec Ideal S256x2048 .f32) : k0_pay29 a b v = k0_pay23 (k0_pay19 a b) v := rfl

end Cert.Kernel3Ideal.In
end
-- ==== Proof.InVals.lean ====
/-
  What a grid point of the input projection leaves in its buffers, as functions of the blocks it reads.
-/
module

public import proofs.«01_k».proof.Proof.InPoint
public import Idealize.ShloMosaic.Lib.Ring

@[expose] public section

set_option maxRecDepth 16384

noncomputable section

namespace Cert.Kernel3Ideal.In

open Idealize.ShloMosaic Idealize.ShloMosaic.Pointwise Idealize.ShloMosaic.Tactic
open Cert.Kernel3Ideal Cert.Kernel3Ideal.Gen

/-- The normed and modulated row block. -/
def hF (x0 : Vec Ideal S1024x2048 .f32) (x1 x2 : Vec Ideal S1x1x2048 .f32) (x3 : Vec Ideal S1x2048 .f32) : Vec Ideal S1024x2048 .bf16 :=
  fun y => hrow (fun j => x0 (ix2 (y 0) j)) (fun j => x3 (ix2 0 j)) (fun j => x1 (ix3 0 0 j)) (fun j => x2 (ix3 0 0 j)) (y 1)

/-- The row block through one column block of the weights. -/
def oF (h : Vec Ideal S1024x2048 .bf16) (w : Vec Ideal S2048x1024 .bf16) : Vec Ideal S1024x1024 .f32 :=
  fun y => ∑ k : Fin 2048, h (ix2 (y 0) k) * w (ix2 k (y 1))

/-- The row block through the last columns of the weights. -/
def tF (h : Vec Ideal S1024x2048 .bf16) (w : Vec Ideal S2048x128 .bf16) : Vec Ideal S1024x128 .f32 :=
  fun y => ∑ k : Fin 2048, h (ix2 (y 0) k) * w (ix2 k (y 1))

/-- A load of a whole buffer's contents. -/
theorem rd {κ : Kind} {sp : Space} {s : Shape} {e : EltTy} {m : Memref sig κ sp s e} (h : m.IsWhole) (X : s.Idx → Elt Ideal e) (R : Rect s) (y : R.shape.Idx) :
    View.readAt (Elt Ideal) m.view R.toLoadRect (h.unread X) y = X (R.emb y) :=
  congrFun (h.read_unread X) _

theorem emb2 {a b a' b' o : ℕ} (inb) (r : Fin a') (k : Fin b') (r' : Fin a) (k' : Fin b) (hr : r'.val = o + r.val) (hk : k'.val = k.val) :
    (Rect.unit (s := ⟨2, ![a, b]⟩) ![o, 0] ![a', b'] inb).emb (ix2 r k) = ix2 r' k' :=
  Rect.emb_eq_of_coords _ _ _ fun x => by
    fin_cases x
    · show r'.val = o + 1 * r.val; omega
    · show k'.val = 0 + 1 * k.val; omega

theorem emb3 {a : ℕ} (inb) (k : Fin a) :
    (Rect.unit (s := ⟨3, ![1, 1, a]⟩) ![0, 0, 0] ![1, 1, a] inb).emb (ix3 0 0 k) = ix3 0 0 k :=
  Rect.emb_eq_of_coords _ _ _ fun x => by
    fin_cases x
    · rfl
    · rfl
    · show k.val = 0 + 1 * k.val; omega

section
variable (c : Dev nD) (i : grid0.Coords) {arg2 : Memref sig .tc .vmem S1024x2048 .f32} (harg2 : arg2.IsWhole) {arg3 : Memref sig .tc .vmem S1x1x2048 .f32} (harg3 : arg3.IsWhole)
    {arg4 : Memref sig .tc .vmem S1x1x2048 .f32} (harg4 : arg4.IsWhole) {arg5 : Memref sig .tc .vmem S1x2048 .f32} (harg5 : arg5.IsWhole)
    {arg6 : Memref sig .tc .vmem S2048x1024 .bf16} (harg6 : arg6.IsWhole) {arg7 : Memref sig .tc .vmem S2048x128 .bf16} (harg7 : arg7.IsWhole)
    {arg8 : Memref sig .tc .vmem S1024x1024 .f32} (harg8 : arg8.IsWhole) {arg9 : Memref sig .tc .vmem S1024x128 .f32} (harg9 : arg9.IsWhole)
    {arg10 : Memref sig .tc .vmem S1024x2048 .bf16} (harg10 : arg10.IsWhole)
    (hc0 : k0_cond1 i = 1#1) (hc1 : ¬k0_cond2 i = 1#1) (hc0' : ¬k0_cond1 i = 1#1) (hc1' : k0_cond2 i = 1#1)
    (x0 : Vec Ideal S1024x2048 .f32) (x1 : Vec Ideal S1x1x2048 .f32) (x2 : Vec Ideal S1x1x2048 .f32) (x3 : Vec Ideal S1x2048 .f32)
    (x4 : Vec Ideal S2048x1024 .bf16) (x5 : Vec Ideal S2048x128 .bf16) (xh : Vec Ideal S1024x2048 .bf16) (xt : Vec Ideal S1024x128 .f32)

/-- A row of a row block's quarter, normed and modulated. -/
theorem hrow_at {o : ℕ} (inb inb3 inb1 inb2) (r : Fin 256) (k : Fin 2048) (r' : Fin 1024) (hr : r'.val = o + r.val) :
    hrow (fun j => View.readAt (Elt Ideal) arg2.view (Rect.unit (s := S1024x2048) ![o, 0] ![256, 2048] inb).toLoadRect (harg2.unread x0) (ix2 r j))
        (fun j => View.readAt (Elt Ideal) arg5.view (Rect.unit (s := S1x2048) ![0, 0] ![1, 2048] inb3).toLoadRect (harg5.unread x3) (ix2 0 j))
        (fun j => View.readAt (Elt Ideal) arg3.view (Rect.unit (s := S1x1x2048) ![0, 0, 0] ![1, 1, 2048] inb1).toLoadRect (harg3.unread x1) (ix3 0 0 j))
        (fun j => View.readAt (Elt Ideal) arg4.view (Rect.unit (s := S1x1x2048) ![0, 0, 0] ![1, 1, 2048] inb2).toLoadRect (harg4.unread x2) (ix3 0 0 j)) k
      = hF x0 x1 x2 x3 (ix2 r' k) := by
  have e0 : ∀ j : Fin 2048, View.readAt (Elt Ideal) arg2.view (Rect.unit (s := S1024x2048) ![o, 0] ![256, 2048] inb).toLoadRect (harg2.unread x0) (ix2 r j) = x0 (ix2 r' j) :=
    fun j => (rd harg2 x0 _ _).trans (congrArg x0 (emb2 inb r j r' j hr rfl))
  have e3 : ∀ j : Fin 2048, View.readAt (Elt Ideal) arg5.view (Rect.unit (s := S1x2048) ![0, 0] ![1, 2048] inb3).toLoadRect (harg5.unread x3) (ix2 0 j) = x3 (ix2 0 j) :=
    fun j => (rd harg5 x3 _ _).trans (congrArg x3 (emb2 inb3 0 j 0 j rfl rfl))
  have e1 : ∀ j : Fin 2048, View.readAt (Elt Ideal) arg3.view (Rect.unit (s := S1x1x2048) ![0, 0, 0] ![1, 1, 2048] inb1).toLoadRect (harg3.unread x1) (ix3 0 0 j) = x1 (ix3 0 0 j) :=
    fun j => (rd harg3 x1 _ _).trans (congrArg x1 (emb3 inb1 j))
  have e2 : ∀ j : Fin 2048, View.readAt (Elt Ideal) arg4.view (Rect.unit (s := S1x1x2048) ![0, 0, 0] ![1, 1, 2048] inb2).toLoadRect (harg4.unread x2) (ix3 0 0 j) = x2 (ix3 0 0 j) :=
    fun j => (rd harg4 x2 _ _).trans (congrArg x2 (emb3 inb2 j))
  simp only [e0, e1, e2, e3]
  rfl

theorem oF_at (inb4) (h : FVec Ideal S256x2048 .bf16) (r : Fin 256) (n : Fin 1024) (r' : Fin 1024)
    (hh : ∀ k, h (ix2 r k) = hF x0 x1 x2 x3 (ix2 r' k)) :
    k0_pay22 (k0_pay1 (View.readAt (Elt Ideal) arg6.view (Rect.unit (s := S2048x1024) ![0, 0] ![2048, 1024] inb4).toLoadRect (harg6.unread x4))) h (ix2 r n)
      = oF (hF x0 x1 x2 x3) x4 (ix2 r' n) := by
  rw [pay22_read]
  refine Finset.sum_congr rfl fun k _ => ?_
  rw [hh, rd, emb2 inb4 k n k n (Nat.zero_add _).symm rfl]
  rfl

theorem tF_at (inb5) (h : FVec Ideal S256x2048 .bf16) (r : Fin 256) (n : Fin 128) (r' : Fin 1024)
    (hh : ∀ k, h (ix2 r k) = hF x0 x1 x2 x3 (ix2 r' k)) :
    k0_pay23 h (View.readAt (Elt Ideal) arg7.view (Rect.unit (s := S2048x128) ![0, 0] ![2048, 128] inb5).toLoadRect (harg7.unread x5)) (ix2 r n)
      = tF (hF x0 x1 x2 x3) x5 (ix2 r' n) := by
  rw [pay23_read]
  refine Finset.sum_congr rfl fun k _ => ?_
  rw [hh, rd, emb2 inb5 k n k n (Nat.zero_add _).symm rfl]
  rfl

theorem ix2_eta {a b : ℕ} (x : (⟨2, ![a, b]⟩ : Shape).Idx) : x = ix2 (x 0) (x 1) := by
  funext k; fin_cases k <;> rfl

theorem lt_of_row {o : ℕ} (h : o ≤ 768) (r : Fin 256) : o + r.val < 1024 := by omega

/-- The scratch after a row block's first point: the block, normed and modulated. -/
theorem readS (v : View sig .tc .vmem S1024x2048 .bf16) (f : v.ty.Contents (Elt Ideal)) :
    v.read (Elt Ideal) (v.writes (Elt Ideal) f (runA c i arg2 harg2 arg3 harg3 arg4 harg4 arg5 harg5 arg6 harg6 arg7 harg7 arg8 harg8 arg9 harg9 arg10 harg10 hc0 hc1 x0 x1 x2 x3 x4 x5).2.2.1)
      = hF x0 x1 x2 x3 := by
  funext y
  refine View.read_writes_apply_of_pieces v f (hF x0 x1 x2 x3) _ ?_ y (View.cover_of_tiledL (s := S1024x2048) _ ![256, 2048] (by sl_kernel_rfl) y)
  unfold runA
  dsimp only
  simp only [runA.sl.r_1, runA.sl.r_2, runA.sl.r_3, runA.sl.r_5, runA.sl.r_6, runA.sl.r_7, runA.sl.r_8, runA.sl.r_9, runA.sl.r_11, runA.sl.r_12, runA.sl.cst_45]
  simp only [List.forall_mem_cons, List.not_mem_nil, false_implies, implies_true, and_true]
  refine ⟨fun x => ?_, fun x => ?_, fun x => ?_, fun x => ?_⟩ <;> obtain ⟨r, k, rfl⟩ : ∃ (r : Fin 256) (k : Fin 2048), x = ix2 r k := ⟨x 0, x 1, ix2_eta x⟩
  · exact (pay20_read _ _ _ _ r k).trans ((hrow_at harg2 harg3 harg4 harg5 x0 x1 x2 x3 _ _ _ _ r k ⟨768 + r.val, lt_of_row (by decide) r⟩ rfl).trans (congrArg _ (emb2 _ r k _ _ rfl rfl).symm))
  · exact (pay16_read _ _ _ _ r k).trans ((hrow_at harg2 harg3 harg4 harg5 x0 x1 x2 x3 _ _ _ _ r k ⟨512 + r.val, lt_of_row (by decide) r⟩ rfl).trans (congrArg _ (emb2 _ r k _ _ rfl rfl).symm))
  · exact (pay9_read _ _ _ _ r k).trans ((hrow_at harg2 harg3 harg4 harg5 x0 x1 x2 x3 _ _ _ _ r k ⟨256 + r.val, lt_of_row (by decide) r⟩ rfl).trans (congrArg _ (emb2 _ r k _ _ rfl rfl).symm))
  · exact (pay4_read _ _ _ _ r k).trans ((hrow_at harg2 harg3 harg4 harg5 x0 x1 x2 x3 _ _ _ _ r k ⟨0 + r.val, lt_of_row (by decide) r⟩ rfl).trans (congrArg _ (emb2 _ r k _ _ rfl rfl).symm))

/-- The first point of a row block, its column block of the output. -/
theorem readO (v : View sig .tc .vmem S1024x1024 .f32) (f : v.ty.Contents (Elt Ideal)) :
    v.read (Elt Ideal) (v.writes (Elt Ideal) f (runA c i arg2 harg2 arg3 harg3 arg4 harg4 arg5 harg5 arg6 harg6 arg7 harg7 arg8 harg8 arg9 harg9 arg10 harg10 hc0 hc1 x0 x1 x2 x3 x4 x5).1)
      = oF (hF x0 x1 x2 x3) x4 := by
  funext y
  refine View.read_writes_apply_of_pieces v f (oF (hF x0 x1 x2 x3) x4) _ ?_ y (View.cover_of_tiledL (s := S1024x1024) _ ![256, 1024] (by sl_kernel_rfl) y)
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.cst_45]
  simp only [List.forall_mem_cons, List.not_mem_nil, false_implies, implies_true, and_true]
  refine ⟨fun x => ?_, fun x => ?_, fun x => ?_, fun x => ?_⟩ <;> obtain ⟨r, n, rfl⟩ : ∃ (r : Fin 256) (n : Fin 1024), x = ix2 r n := ⟨x 0, x 1, ix2_eta x⟩
  · exact (congrFun (pay28_eq _ _ _) _).trans ((oF_at harg6 x0 x1 x2 x3 x4 _ _ r n ⟨768 + r.val, lt_of_row (by decide) r⟩ fun k =>
      (pay19_read _ _ _ _ r k).trans (hrow_at harg2 harg3 harg4 harg5 x0 x1 x2 x3 _ _ _ _ r k ⟨768 + r.val, lt_of_row (by decide) r⟩ rfl)).trans
        (congrArg _ (emb2 _ r n _ _ rfl rfl).symm))
  · exact (congrFun (pay26_eq _ _) _).trans ((oF_at harg6 x0 x1 x2 x3 x4 _ _ r n ⟨512 + r.val, lt_of_row (by decide) r⟩ fun k =>
      (pay15_read _ _ _ _ r k).trans (hrow_at harg2 harg3 harg4 harg5 x0 x1 x2 x3 _ _ _ _ r k ⟨512 + r.val, lt_of_row (by decide) r⟩ rfl)).trans
        (congrArg _ (emb2 _ r n _ _ rfl rfl).symm))
  · exact (congrFun (pay24_eq _ _) _).trans ((oF_at harg6 x0 x1 x2 x3 x4 _ _ r n ⟨256 + r.val, lt_of_row (by decide) r⟩ fun k =>
      (pay8_read _ _ _ _ r k).trans (hrow_at harg2 harg3 harg4 harg5 x0 x1 x2 x3 _ _ _ _ r k ⟨256 + r.val, lt_of_row (by decide) r⟩ rfl)).trans
        (congrArg _ (emb2 _ r n _ _ rfl rfl).symm))
  · exact ((oF_at harg6 x0 x1 x2 x3 x4 _ _ r n ⟨0 + r.val, lt_of_row (by decide) r⟩ fun k =>
      (pay3_read _ _ _ _ r k).trans (hrow_at harg2 harg3 harg4 harg5 x0 x1 x2 x3 _ _ _ _ r k ⟨0 + r.val, lt_of_row (by decide) r⟩ rfl)).trans
        (congrArg _ (emb2 _ r n _ _ rfl rfl).symm))

/-- The first point of a row block, the last columns. -/
theorem readT (v : View sig .tc .vmem S1024x128 .f32) (f : v.ty.Contents (Elt Ideal)) :
    v.read (Elt Ideal) (v.writes (Elt Ideal) f (runA c i arg2 harg2 arg3 harg3 arg4 harg4 arg5 harg5 arg6 harg6 arg7 harg7 arg8 harg8 arg9 harg9 arg10 harg10 hc0 hc1 x0 x1 x2 x3 x4 x5).2.1)
      = tF (hF x0 x1 x2 x3) x5 := by
  funext y
  refine View.read_writes_apply_of_pieces v f (tF (hF x0 x1 x2 x3) x5) _ ?_ y (View.cover_of_tiledL (s := S1024x128) _ ![256, 128] (by sl_kernel_rfl) y)
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.cst_45]
  simp only [List.forall_mem_cons, List.not_mem_nil, false_implies, implies_true, and_true]
  refine ⟨fun x => ?_, fun x => ?_, fun x => ?_, fun x => ?_⟩ <;> obtain ⟨r, n, rfl⟩ : ∃ (r : Fin 256) (n : Fin 128), x = ix2 r n := ⟨x 0, x 1, ix2_eta x⟩
  · exact (congrFun (pay29_eq _ _ _) _).trans ((tF_at harg7 x0 x1 x2 x3 x5 _ _ r n ⟨768 + r.val, lt_of_row (by decide) r⟩ fun k =>
      (pay19_read _ _ _ _ r k).trans (hrow_at harg2 harg3 harg4 harg5 x0 x1 x2 x3 _ _ _ _ r k ⟨768 + r.val, lt_of_row (by decide) r⟩ rfl)).trans
        (congrArg _ (emb2 _ r n _ _ rfl rfl).symm))
  · exact (congrFun (pay27_eq _ _) _).trans ((tF_at harg7 x0 x1 x2 x3 x5 _ _ r n ⟨512 + r.val, lt_of_row (by decide) r⟩ fun k =>
      (pay15_read _ _ _ _ r k).trans (hrow_at harg2 harg3 harg4 harg5 x0 x1 x2 x3 _ _ _ _ r k ⟨512 + r.val, lt_of_row (by decide) r⟩ rfl)).trans
        (congrArg _ (emb2 _ r n _ _ rfl rfl).symm))
  · exact (congrFun (pay25_eq _ _) _).trans ((tF_at harg7 x0 x1 x2 x3 x5 _ _ r n ⟨256 + r.val, lt_of_row (by decide) r⟩ fun k =>
      (pay8_read _ _ _ _ r k).trans (hrow_at harg2 harg3 harg4 harg5 x0 x1 x2 x3 _ _ _ _ r k ⟨256 + r.val, lt_of_row (by decide) r⟩ rfl)).trans
        (congrArg _ (emb2 _ r n _ _ rfl rfl).symm))
  · exact ((tF_at harg7 x0 x1 x2 x3 x5 _ _ r n ⟨0 + r.val, lt_of_row (by decide) r⟩ fun k =>
      (pay3_read _ _ _ _ r k).trans (hrow_at harg2 harg3 harg4 harg5 x0 x1 x2 x3 _ _ _ _ r k ⟨0 + r.val, lt_of_row (by decide) r⟩ rfl)).trans
        (congrArg _ (emb2 _ r n _ _ rfl rfl).symm))

/-- Any other point, its column block of the output. -/
theorem readB (v : View sig .tc .vmem S1024x1024 .f32) (f : v.ty.Contents (Elt Ideal)) :
    v.read (Elt Ideal) (v.writes (Elt Ideal) f (runB c i arg2 harg2 arg3 harg3 arg4 harg4 arg5 harg5 arg6 harg6 arg7 harg7 arg8 harg8 arg9 harg9 arg10 harg10 hc0' hc1' x0 x1 x2 x3 x4 x5 xh xt).1)
      = oF xh x4 := by
  funext y
  refine View.read_writes_apply_of_pieces v f (oF xh x4) _ ?_ y (View.cover_of_tiledL (s := S1024x1024) _ ![1024, 1024] (by sl_kernel_rfl) y)
  unfold runB
  dsimp only
  simp only [List.forall_mem_cons, List.not_mem_nil, false_implies, implies_true, and_true]
  intro x
  obtain ⟨r, n, rfl⟩ : ∃ (r : Fin 1024) (n : Fin 1024), x = ix2 r n := ⟨x 0, x 1, ix2_eta x⟩
  refine (pay2_read _ _ r n).trans ((Finset.sum_congr rfl fun k _ => ?_).trans (congrArg (oF xh x4) (emb2 _ r n r n (Nat.zero_add _).symm rfl).symm))
  rw [rd, rd, emb2 _ r k r k (Nat.zero_add _).symm rfl, emb2 _ k n k n (Nat.zero_add _).symm rfl]
  rfl
end
end Cert.Kernel3Ideal.In
end
-- ==== Proof.InDat.lean ====
/-
  The input projection at the ideal reading: what each grid point leaves, and what the whole launch leaves. A row
  block's first point norms it into the scratch and leaves the last columns; the five after it keep both.
-/
module

public import proofs.«01_k».proof.Proof.InVals
public import Idealize.ShloMosaic.Lib.Pipeline.Frame
public import Idealize.ShloMosaic.Lib.WordCmp

@[expose] public section

set_option maxRecDepth 16384

noncomputable section

namespace Cert.Kernel3Ideal.In

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The points -/

abbrev pt (t : Fin cfg0.N) : grid0.Coords := grid0.coords t

theorem first_iff (t : Fin cfg0.N) : k0_cond1 (pt t) = 1#1 ↔ t.val % 6 = 0 := by
  have ht : t.val < 96 := Nat.lt_of_lt_of_eq t.isLt N_0
  have e1 : (pt t 1).val = t.val / 1 % 6 := Pipeline.Grid.coords_val t 1 (by decide) rfl
  simp only [k0_cond1, e1]
  word_cmp

theorem rest_iff (t : Fin cfg0.N) : k0_cond2 (pt t) = 1#1 ↔ 1 ≤ t.val % 6 := by
  have ht : t.val < 96 := Nat.lt_of_lt_of_eq t.isLt N_0
  have e1 : (pt t 1).val = t.val / 1 % 6 := Pipeline.Grid.coords_val t 1 (by decide) rfl
  simp only [k0_cond2, e1]
  word_cmp

theorem not_rest (t : Fin cfg0.N) (h : t.val % 6 = 0) : ¬k0_cond2 (pt t) = 1#1 := by rw [rest_iff]; omega
theorem rest (t : Fin cfg0.N) (h : ¬t.val % 6 = 0) : k0_cond2 (pt t) = 1#1 := by rw [rest_iff]; omega

theorem idle6 (t : Fin cfg0.N) : cfg0.idle (6 : Fin 8) (cfg0.grid.coords t) = false := by
  show (!(k0_cond1 (pt t) == 1#1) && !(k0_cond2 (pt t) == 1#1)) = false
  by_cases h : t.val % 6 = 0
  · simp [(first_iff t).2 h]
  · simp [rest t h]

theorem idle7_first (t : Fin cfg0.N) (h : t.val % 6 = 0) : cfg0.idle (7 : Fin 8) (cfg0.grid.coords t) = false := by
  show (!(k0_cond1 (pt t) == 1#1)) = false
  simp [(first_iff t).2 h]

theorem idle7_rest (t : Fin cfg0.N) (h : ¬t.val % 6 = 0) : cfg0.idle (7 : Fin 8) (cfg0.grid.coords t) = true := by
  show (!(k0_cond1 (pt t) == 1#1)) = true
  rw [Bool.not_eq_true', beq_eq_false_iff_ne]
  exact fun h' => h ((first_iff t).1 h')

/-- The first point of the row block of point `n`. -/
def first (n : ℕ) : Fin cfg0.N := ⟨6 * (n / 6) % 96, by rw [show cfg0.N = 96 from N_0]; exact Nat.mod_lt _ (by decide)⟩

theorem first_of (t : Fin cfg0.N) (h : t.val % 6 = 0) : first t.val = t := by
  have ht : t.val < 96 := Nat.lt_of_lt_of_eq t.isLt N_0
  apply Fin.ext; show 6 * (t.val / 6) % 96 = t.val; omega

theorem first_succ (n : ℕ) (h : ¬(n + 1) % 6 = 0) : first (n + 1) = first n := by
  apply Fin.ext; show 6 * ((n + 1) / 6) % 96 = 6 * (n / 6) % 96
  rw [show (n + 1) / 6 = n / 6 from by omega]

/-! ## What the points leave -/

/-- The row block of point `n`, normed and modulated. -/
def hAt (c : Dev nD) (n : ℕ) : Vec Ideal S1024x2048 .bf16 :=
  hF (iblk m c 0 (first n)) (iblk m c 1 (first n)) (iblk m c 2 (first n)) (iblk m c 3 (first n))

def oAt (c : Dev nD) (t : Fin cfg0.N) : Vec Ideal S1024x1024 .f32 := oF (hAt m c t.val) (X0_4 m c t)

def tAt (c : Dev nD) (n : ℕ) : Vec Ideal S1024x128 .f32 := tF (hAt m c n) (iblk m c 5 (first n))

/-- The scratch. -/
abbrev scr : Memref sig .tc .vmem S1024x2048 .bf16 := Memref.whole cc0_scratch0

theorem scratch_eq (c : Dev nD) :
    (Pipeline.ΦA spec0 c : Pr) = iprop(iprop((∃ d, owns (c : Thread nD τ) scr fullShare d)) ∗ (∃ r, prngReg c r)) := by
  unfold Pipeline.ΦA; rw [scopedRest0_eq]; simp only [scr, owns_whole]; try rfl

/-- Before point `n`: the scratch at what the points before it left. -/
def Phi (c : Dev nD) : ℕ → Pr
  | 0 => Pipeline.ΦA spec0 c
  | n + 1 => iprop(owns (c : Thread nD τ) scr fullShare (hAt m c n) ∗ (∃ r, prngReg c r))

/-- The launch's data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => oAt m c t
    | ⟨7, _⟩ => tAt m c t.val
  Φ t := Phi m c t.val
  q _ := fullShare
  owed _ := 0

theorem after0 (c : Dev nD) (t : Fin cfg0.N) : (dats m 0 c).after (0 : Fin 8) t = iblk m c 0 t := rfl
theorem after1 (c : Dev nD) (t : Fin cfg0.N) : (dats m 0 c).after (1 : Fin 8) t = iblk m c 1 t := rfl
theorem after2 (c : Dev nD) (t : Fin cfg0.N) : (dats m 0 c).after (2 : Fin 8) t = iblk m c 2 t := rfl
theorem after3 (c : Dev nD) (t : Fin cfg0.N) : (dats m 0 c).after (3 : Fin 8) t = iblk m c 3 t := rfl
theorem after4 (c : Dev nD) (t : Fin cfg0.N) : (dats m 0 c).after (4 : Fin 8) t = X0_4 m c t := rfl
theorem after5 (c : Dev nD) (t : Fin cfg0.N) : (dats m 0 c).after (5 : Fin 8) t = iblk m c 5 t := rfl
theorem after6 (c : Dev nD) (t : Fin cfg0.N) : (dats m 0 c).after (6 : Fin 8) t = oAt m c t := rfl
theorem after7 (c : Dev nD) (t : Fin cfg0.N) : (dats m 0 c).after (7 : Fin 8) t = tAt m c t.val := rfl
theorem before0 (c : Dev nD) (t : Fin cfg0.N) (d) : (dats m 0 c).before (0 : Fin 8) t d = iblk m c 0 t := before0_0_of m (dats m 0 c) rfl (after0 m c) t d
theorem before1 (c : Dev nD) (t : Fin cfg0.N) (d) : (dats m 0 c).before (1 : Fin 8) t d = iblk m c 1 t := before0_1_of m (dats m 0 c) rfl (after1 m c) t d
theorem before2 (c : Dev nD) (t : Fin cfg0.N) (d) : (dats m 0 c).before (2 : Fin 8) t d = iblk m c 2 t := before0_2_of m (dats m 0 c) rfl (after2 m c) t d
theorem before3 (c : Dev nD) (t : Fin cfg0.N) (d) : (dats m 0 c).before (3 : Fin 8) t d = iblk m c 3 t := before0_3_of m (dats m 0 c) rfl (after3 m c) t d
theorem before4 (c : Dev nD) (t : Fin cfg0.N) (d) : (dats m 0 c).before (4 : Fin 8) t d = X0_4 m c t := before0_4_of m (dats m 0 c) rfl (after4 m c) t d
theorem before5 (c : Dev nD) (t : Fin cfg0.N) (d) : (dats m 0 c).before (5 : Fin 8) t d = iblk m c 5 t := before0_5_of m (dats m 0 c) rfl (after5 m c) t d

/-- Past a row block's first point, the last columns' buffer holds what that point left. -/
theorem before7 (c : Dev nD) : ∀ (n : ℕ) (hn : n < cfg0.N) (h : ¬n % 6 = 0) (d), (dats m 0 c).before (7 : Fin 8) ⟨n, hn⟩ d = tAt m c n
  | 0, _, h, _ => absurd rfl h
  | n + 1, hn, h, d => by
    have hn' : n < cfg0.N := Nat.lt_of_succ_lt hn
    have e : tAt m c (n + 1) = tAt m c n := by unfold tAt hAt; rw [first_succ n h]
    have hf : ((cfg0.win (7 : Fin 8)).flush ⟨n, hn'⟩) = false := by
      rw [Bool.eq_false_iff]; intro hh
      have := (flush0_7 ⟨n, hn'⟩).1 hh
      exact h (by simp only at this; omega)
    unfold Dat.before
    rw [Pipeline.Window.fetch_out _ rfl]
    simp only [Bool.false_eq_true, if_false, Nat.add_sub_cancel, Nat.succ_ne_zero]
    rw [hf]
    simp only [Bool.false_eq_true, if_false]
    by_cases h0 : n % 6 = 0
    · have i7 : idle0 7 (grid0.coords ⟨n, hn'⟩) = false := idle7_first ⟨n, hn'⟩ h0
      rw [i7, e]; rfl
    · have i7 : idle0 7 (grid0.coords ⟨n, hn'⟩) = true := idle7_rest ⟨n, hn'⟩ h0
      rw [i7, e]
      exact ((dats m 0 c).found_eq_before (7 : Fin 8) ⟨n, hn'⟩ d).trans (before7 c n hn' h0 d)

abbrev b0 (t : Fin cfg0.N) : Memref sig .tc .vmem S1024x2048 .f32 := win0_0.stage (cfg0.slots t 0)
theorem w0 (t : Fin cfg0.N) : (b0 t).IsWhole := hstage0_0 ((cfg0.slots t 0).cast nbuf0_0)
abbrev b1 (t : Fin cfg0.N) : Memref sig .tc .vmem S1x1x2048 .f32 := win0_1.stage (cfg0.slots t 1)
theorem w1 (t : Fin cfg0.N) : (b1 t).IsWhole := hstage0_1 ((cfg0.slots t 1).cast nbuf0_1)
abbrev b2 (t : Fin cfg0.N) : Memref sig .tc .vmem S1x1x2048 .f32 := win0_2.stage (cfg0.slots t 2)
theorem w2 (t : Fin cfg0.N) : (b2 t).IsWhole := hstage0_2 ((cfg0.slots t 2).cast nbuf0_2)
abbrev b3 (t : Fin cfg0.N) : Memref sig .tc .vmem S1x2048 .f32 := win0_3.stage (cfg0.slots t 3)
theorem w3 (t : Fin cfg0.N) : (b3 t).IsWhole := hstage0_3 ((cfg0.slots t 3).cast nbuf0_3)
abbrev b4 (t : Fin cfg0.N) : Memref sig .tc .vmem S2048x1024 .bf16 := win0_4.stage (cfg0.slots t 4)
theorem w4 (t : Fin cfg0.N) : (b4 t).IsWhole := hstage0_4 ((cfg0.slots t 4).cast nbuf0_4)
abbrev b5 (t : Fin cfg0.N) : Memref sig .tc .vmem S2048x128 .bf16 := win0_5.stage (cfg0.slots t 5)
theorem w5 (t : Fin cfg0.N) : (b5 t).IsWhole := hstage0_5 ((cfg0.slots t 5).cast nbuf0_5)
abbrev b6 (t : Fin cfg0.N) : Memref sig .tc .vmem S1024x1024 .f32 := win0_6.stage (cfg0.slots t 6)
theorem w6 (t : Fin cfg0.N) : (b6 t).IsWhole := hstage0_6 ((cfg0.slots t 6).cast nbuf0_6)
abbrev b7 (t : Fin cfg0.N) : Memref sig .tc .vmem S1024x128 .f32 := win0_7.stage (cfg0.slots t 7)
theorem w7 (t : Fin cfg0.N) : (b7 t).IsWhole := hstage0_7 ((cfg0.slots t 7).cast nbuf0_7)

set_option maxHeartbeats 4000000 in
/-- A row block's first point, from any scratch. -/
theorem soundA' (c : Dev nD) (t : Fin cfg0.N) (h : t.val % 6 = 0) :
    iprop(iprop((∃ d, owns (c : Thread nD τ) scr fullShare d) ∗ (∃ r, prngReg c r)) ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Ideal)) Variants.none c none) Set.univ (bodyAt0 (F := Ideal) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ owns (c : Thread nD τ) (b7 t) fullShare ((dats m 0 c).after (7 : Fin 8) t)) := by
  have e1 : hAt m c t.val = hF (iblk m c 0 t) (iblk m c 1 t) (iblk m c 2 t) (iblk m c 3 t) := by unfold hAt; rw [first_of t h]
  have e2 : tAt m c t.val = tF (hAt m c t.val) (iblk m c 5 t) := by unfold tAt; rw [first_of t h]
  simp only [before0, before1, before2, before3, before4, before5, after0, after1, after2, after3, after4, after5, after6, after7]
  rw [show (dats m 0 c).Φ t.succ = iprop(owns (c : Thread nD τ) scr fullShare (hAt m c t.val) ∗ (∃ r, prngReg c r)) from rfl,
    show (dats m 0 c).owesAt () t.succ = (dats m 0 c).owesAt () t.castSucc from rfl, oAt, e2, e1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (pt t) (b0 t) (w0 t) (b1 t) (w1 t) (b2 t) (w2 t) (b3 t) (w3 t) (b4 t) (w4 t) (b5 t) (w5 t) (b6 t) (w6 t) (b7 t) (w7 t) scr (Memref.isWhole_whole _) ((first_iff t).2 h) (not_rest t h)
    (iblk m c 0 t) (iblk m c 1 t) (iblk m c 2 t) (iblk m c 3 t) (X0_4 m c t) (iblk m c 5 t)).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%f6, H6⟩, ⟨%f7, H7⟩, ⟨%fs, HS⟩⟩
  isplitl [HS HR]
  · isplitl [HS]
    · unfold owns; iexists _; isplitr; swap
      · iexact HS
      · ipureintro; exact readS c (pt t) _ _ _ _ _ _ _ _ _ _ _ _ _ _ _ _ _ _ _
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact readO c (pt t) _ _ _ _ _ _ _ _ _ _ _ _ _ _ _ _ _ _ _
  · unfold owns; iexists _; isplitr; swap
    · iexact H7
    · ipureintro; exact readT c (pt t) _ _ _ _ _ _ _ _ _ _ _ _ _ _ _ _ _ _ _

theorem Phi_some (c : Dev nD) : ∀ n : ℕ, Phi m c n ⊢ iprop(iprop((∃ d, owns (c : Thread nD τ) scr fullShare d)) ∗ (∃ r, prngReg c r))
  | 0 => by rw [← scratch_eq]; exact .rfl
  | n + 1 => by
    show iprop(owns (c : Thread nD τ) scr fullShare (hAt m c n) ∗ (∃ r, prngReg c r)) ⊢ _
    iintro ⟨Hs, Hr⟩
    isplitl [Hs]; · iexists _; iexact Hs
    iexact Hr

/-- A row block's first point. -/
theorem soundA (c : Dev nD) (t : Fin cfg0.N) (h : t.val % 6 = 0) :
    iprop((dats m 0 c).Φ t.castSucc ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Ideal)) Variants.none c none) Set.univ (bodyAt0 (F := Ideal) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ owns (c : Thread nD τ) (b7 t) fullShare ((dats m 0 c).after (7 : Fin 8) t)) :=
  (BI.sep_mono_l (Phi_some m c t.val)).trans (soundA' m c t h)

set_option maxHeartbeats 4000000 in
/-- A row block's other points. -/
theorem soundB (c : Dev nD) (t : Fin cfg0.N) (h : ¬t.val % 6 = 0) :
    iprop((dats m 0 c).Φ t.castSucc ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Ideal)) Variants.none c none) Set.univ (bodyAt0 (F := Ideal) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ (match (cfg0.win (7 : Fin 8)).flush t with | false => iprop(∃ d, owns (c : Thread nD τ) (b7 t) fullShare ((dats m 0 c).before (7 : Fin 8) t d)) | true => owns (c : Thread nD τ) (b7 t) fullShare ((dats m 0 c).after (7 : Fin 8) t))) := by
  have h7 : (owns (c : Thread nD τ) (b7 t) fullShare (tAt m c t.val) : Pr) ⊢ (match (cfg0.win (7 : Fin 8)).flush t with | false => iprop(∃ d, owns (c : Thread nD τ) (b7 t) fullShare ((dats m 0 c).before (7 : Fin 8) t d)) | true => owns (c : Thread nD τ) (b7 t) fullShare ((dats m 0 c).after (7 : Fin 8) t)) := by
    cases (cfg0.win (7 : Fin 8)).flush t with
    | true => exact .rfl
    | false =>
      show (owns (c : Thread nD τ) (b7 t) fullShare (tAt m c t.val) : Pr) ⊢ iprop(∃ d, owns (c : Thread nD τ) (b7 t) fullShare ((dats m 0 c).before (7 : Fin 8) t d))
      iintro H
      iexists (fun _ => (0 : EReal))
      rw [before7 m c t.val t.isLt h]
      iexact H
  have hb (d) : (dats m 0 c).before (7 : Fin 8) t d = tAt m c t.val := before7 m c t.val t.isLt h d
  simp only [before0, before1, before2, before3, before4, before5, after0, after1, after2, after3, after4, after5, after6]
  rw [show (dats m 0 c).Φ t.succ = iprop(owns (c : Thread nD τ) scr fullShare (hAt m c t.val) ∗ (∃ r, prngReg c r)) from rfl,
    show (dats m 0 c).owesAt () t.succ = (dats m 0 c).owesAt () t.castSucc from rfl, oAt]
  have hΦ : (dats m 0 c).Φ t.castSucc = iprop(owns (c : Thread nD τ) scr fullShare (hAt m c t.val) ∗ (∃ r, prngReg c r)) := by
    show Phi m c t.val = _
    obtain ⟨n, hn⟩ := t
    cases n with
    | zero => exact absurd rfl h
    | succ n =>
      show iprop(owns (c : Thread nD τ) scr fullShare (hAt m c n) ∗ (∃ r, prngReg c r)) = iprop(owns (c : Thread nD τ) scr fullShare (hAt m c (n + 1)) ∗ (∃ r, prngReg c r))
      unfold hAt; rw [first_succ n h]
  rw [hΦ]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (pt t) (b0 t) (w0 t) (b1 t) (w1 t) (b2 t) (w2 t) (b3 t) (w3 t) (b4 t) (w4 t) (b5 t) (w5 t) (b6 t) (w6 t) (b7 t) (w7 t) scr (Memref.isWhole_whole _) (fun h' => h ((first_iff t).1 h')) (rest t h)
    (iblk m c 0 t) (iblk m c 1 t) (iblk m c 2 t) (iblk m c 3 t) (X0_4 m c t) (iblk m c 5 t) (hAt m c t.val) (tAt m c t.val)).2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · rw [← hb d7]; iexact H7
  isplitl [HS]; · iexact HS
  iintro ⟨H0, H1, H2, H3, H4, H5, ⟨%f6, H6⟩, H7, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact readB c (pt t) _ _ _ _ _ _ _ _ _ _ _ _ _ _ _ _ _ _ _ _ _
  iapply h7; iexact H7

/-- The body obligation, at every point. -/
theorem obligation (c : Dev nD) : BodyObligation (dats m 0 c) (defs₀ (F := Ideal)) Variants.none () Set.univ := fun t => by
  rw [bigSep_W0, bigSep_W0]
  show _ ⊢ wp frame (wpE (defs₀ (F := Ideal)) Variants.none c none) Set.univ (bodyAt0 (F := Ideal) t) _
  have i6 := idle6 t
  rewrite [i6]
  by_cases h : t.val % 6 = 0
  · have i7 := idle7_first t h
    rewrite [i7]
    exact soundA m c t h
  · have i7 := idle7_rest t h
    rewrite [i7]
    exact soundB m c t h

theorem share_eq (c : Dev nD) (w : Fin cfg0.W) : (dats m 0 c).share w = fullShare := by unfold Dat.share; split <;> rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [scratch_eq]
  show Phi m c cfg0.N ⊢ _
  rw [show cfg0.N = 95 + 1 from N_0]
  show iprop(owns (c : Thread nD τ) scr fullShare (hAt m c 95) ∗ (∃ r, prngReg c r)) ⊢ _
  iintro ⟨Hs, Hr⟩
  isplitl [Hs]; · iexists _; iexact Hs
  iexact Hr

set_option backward.isDefEq.respectTransparency.types false in
/-- What a final state holds: every array at what the launch writes back, every other buffer as the launch found it,
    every counter at zero. -/
theorem run :
    θ_run (defs (F := Ideal)) (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := share_eq m) (howed := fun _ _ => rfl)
    (V := V m) (hmain := hmain m Variants.none) (hA := fun _ _ => rfl) (hin := hin m) (hout := hout m)

end Cert.Kernel3Ideal.In
end
-- ==== Proof.InArr.lean ====
/-
  The input projection's two output arrays, element by element.
-/
module

public import proofs.«01_k».proof.Proof.InDat
public import proofs.«01_k».proof.Defs

@[expose] public section

set_option maxRecDepth 16384

noncomputable section

/-! What the launch writes, as functions of the arguments: each row normed, modulated and taken through the weights. -/

namespace Cert.Kernel3Ideal.In

open Idealize.ShloMosaic Idealize.ShloMosaic.Pointwise Idealize.ShloMosaic.TcCoe Idealize.SL.Sem
open Cert.Kernel3Ideal Cert.Kernel3Ideal.Gen

variable (m : (ℓ : Loc nD τ sig) → Buf (Elt Ideal) ℓ) (ρ : Dev nD → PrngReg) (c : Dev nD)

/-- The launch's run: both outputs, the arguments as they were, every counter at zero. -/
theorem run_all :
    θ_run (defs (F := Ideal)) (onTc (τ := τ) (main (F := Ideal))) ⟨m, fun _ => 0, ρ⟩
      (fun r => (∀ c : Dev nD,
        r.2.mem ((c.tc : Thread nD τ).loc main_v8_0) = (dats m 0 c).arrAt (6 : Fin 8) cfg0.N
        ∧ r.2.mem ((c.tc : Thread nD τ).loc main_v8_1) = (dats m 0 c).arrAt (7 : Fin 8) cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r hr => ⟨fun c =>
      ⟨hr.1.out_eq c (6 : Fin 8), hr.1.out_eq c (7 : Fin 8),
        (hr.1.rest_eq c main_arg0 (show main_arg0 ∈ Pipeline.restRefs sig spec0 by decide)).trans (V_main_arg0 m c),
        (hr.1.in_eq c (1 : Fin 8) rfl).trans (V_main_arg1 m c), (hr.1.in_eq c (2 : Fin 8) rfl).trans (V_main_arg2 m c),
        (hr.1.rest_eq c main_arg3 (show main_arg3 ∈ Pipeline.restRefs sig spec0 by decide)).trans (V_main_arg3 m c),
        (hr.1.rest_eq c main_arg4 (show main_arg4 ∈ Pipeline.restRefs sig spec0 by decide)).trans (V_main_arg4 m c)⟩, hr.2⟩)
    (run m ρ)

/-- The launch ends with its arguments as they were and every counter at zero. -/
theorem quiet : Cert.quiescent_Kernel3Ideal := fun m ρ _ =>
  (θ_run defs _ _).mono (fun r hr => ⟨fun c => (hr.1 c).2.2, hr.2⟩) (run_all m ρ)

/-- The input, by batch, row and column. -/
abbrev xA (b : Fin 2) (s : Fin 8192) (j : Fin 2048) : EReal := (m ((c : Thread nD τ).loc main_arg0) : Vec Ideal S2x8192x2048 .f32) (ix3 b s j)
/-- The scale less one, by batch and column. -/
abbrev scA (b : Fin 2) (j : Fin 2048) : EReal := (m ((c : Thread nD τ).loc main_arg1) : Vec Ideal S2x1x2048 .f32) (ix3 b 0 j)
/-- The shift, by batch and column. -/
abbrev shA (b : Fin 2) (j : Fin 2048) : EReal := (m ((c : Thread nD τ).loc main_arg2) : Vec Ideal S2x1x2048 .f32) (ix3 b 0 j)
/-- The gains, by column. -/
abbrev gA (j : Fin 2048) : EReal := (m ((c : Thread nD τ).loc main_arg3) : Vec Ideal S1x2048 .f32) (ix2 0 j)
/-- The weights, by row and column. -/
abbrev wA (k : Fin 2048) (n : Fin 6216) : EReal := (m ((c : Thread nD τ).loc main_arg4) : Vec Ideal S1x2048x6216 .f32) (ix3 0 k n)

/-- A row's batch. -/
def bOf (p : Fin 16384) : Fin 2 := ⟨p.val / 8192, by omega⟩
/-- A row's place in its batch. -/
def sOf (p : Fin 16384) : Fin 8192 := ⟨p.val % 8192, Nat.mod_lt _ (by decide)⟩

/-- A row normed and modulated. -/
def hA (p : Fin 16384) (k : Fin 2048) : EReal := hrow (fun j => xA m c (bOf p) (sOf p) j) (gA m c) (scA m c (bOf p)) (shA m c (bOf p)) k
/-- A row through one column of the weights. -/
def pA (p : Fin 16384) (n : Fin 6216) : EReal := ∑ k : Fin 2048, hA m c p k * wA m c k n
/-- A row through the last columns of the weights, zero past them. -/
def tA (p : Fin 16384) (n : Fin 128) : EReal := if h : n.val < 72 then pA m c p ⟨6144 + n.val, by omega⟩ else 0

/-! ## What the host leaves for the launch -/

/-- The rows of the flattened input. -/
theorem flat_at (X : FVec Ideal S2x8192x2048 .f32) (p : Fin 16384) (j : Fin 2048) :
    shapeCast S16384x2048 X shapeCasts_S2x8192x2048_S16384x2048 (ix2 p j) = X (ix3 (bOf p) (sOf p) j) := by
  unfold bOf sOf
  pointwise

theorem weights_at (X : FVec Ideal S1x2048x6216 .f32) (k : Fin 2048) (n : Fin 6216) :
    truncf (F := Ideal) .bf16 (shapeCast S2048x6216 X shapeCasts_S1x2048x6216_S2048x6216) bitsLt_bf16_f32 (ix2 k n) = X (ix3 0 k n) := by
  pointwise

theorem last_at (X : FVec Ideal S1x2048x6216 .f32) (k : Fin 2048) (n : Fin 128) :
    truncf (F := Ideal) .bf16 (pad S2048x128 ![0, 0] ![0, 56] ![0, 0]
        (extractStridedSlice S2048x72 ![0, 6144] (shapeCast S2048x6216 X shapeCasts_S1x2048x6216_S2048x6216) slices_S2048x6216_S2048x72_0_6144)
        (sitofp (F := Ideal) .f32 (constantI S_ 32 0#32)) pads_S2048x72_S2048x128_000_0560 h_S_) bitsLt_bf16_f32 (ix2 k n)
      = if h : n.val < 72 then X (ix3 0 k ⟨6144 + n.val, by omega⟩) else 0 := by
  pointwise
  have z : (FloatOps.sitofp (F := Ideal) FTy.f32 0#32 : EReal) = 0 := by
    show (((0#32 : BitVec 32).toInt : ℝ) : EReal) = 0
    simp
  by_cases h : n.val < 72
  · rw [dif_pos h, dif_pos h]
  · rw [dif_neg h, dif_neg h]; exact z

theorem V_x (p : Fin 16384) (j : Fin 2048) : (V m c main_v0 : Vec Ideal S16384x2048 .f32) (ix2 p j) = xA m c (bOf p) (sOf p) j := by
  have e : (V m c main_v0 : Vec Ideal S16384x2048 .f32)
      = shapeCast S16384x2048 (m ((c : Thread nD τ).loc main_arg0) : Vec Ideal S2x8192x2048 .f32) shapeCasts_S2x8192x2048_S16384x2048 := rfl
  rw [e]
  exact flat_at _ p j

theorem V_g (j : Fin 2048) : (V m c main_v2 : Vec Ideal S1x2048 .f32) (ix2 0 j) = gA m c j := by
  have e : (V m c main_v2 : Vec Ideal S1x2048 .f32)
      = shapeCast S1x2048 (shapeCast S2048 (m ((c : Thread nD τ).loc main_arg3) : Vec Ideal S1x2048 .f32) shapeCasts_S1x2048_S2048) shapeCasts_S2048_S1x2048 := rfl
  rw [e]
  pointwise

theorem V_w (k : Fin 2048) (n : Fin 6216) : (V m c main_v7 : Vec Ideal S2048x6216 .bf16) (ix2 k n) = wA m c k n := by
  have e : (V m c main_v7 : Vec Ideal S2048x6216 .bf16)
      = truncf (F := Ideal) .bf16 (shapeCast S2048x6216 (m ((c : Thread nD τ).loc main_arg4) : FVec Ideal S1x2048x6216 .f32) shapeCasts_S1x2048x6216_S2048x6216) bitsLt_bf16_f32 := rfl
  rw [e]
  exact weights_at _ k n

theorem V_t (k : Fin 2048) (n : Fin 128) : (V m c main_v6 : Vec Ideal S2048x128 .bf16) (ix2 k n)
    = if h : n.val < 72 then wA m c k ⟨6144 + n.val, by omega⟩ else 0 := by
  have e : (V m c main_v6 : Vec Ideal S2048x128 .bf16)
      = truncf (F := Ideal) .bf16 (pad S2048x128 ![0, 0] ![0, 56] ![0, 0]
          (extractStridedSlice S2048x72 ![0, 6144] (shapeCast S2048x6216 (m ((c : Thread nD τ).loc main_arg4) : FVec Ideal S1x2048x6216 .f32) shapeCasts_S1x2048x6216_S2048x6216) slices_S2048x6216_S2048x72_0_6144)
          (sitofp (F := Ideal) .f32 (constantI S_ 32 0#32)) pads_S2048x72_S2048x128_000_0560 h_S_) bitsLt_bf16_f32 := rfl
  rw [e]
  exact last_at _ k n

/-! ## What each point reads -/

theorem idx0 : ∀ t : Fin cfg0.N, win0_0.index t 0 = t.val / 6 ∧ win0_0.index t 1 = 0 := by decide +kernel
theorem idx1 : ∀ t : Fin cfg0.N, win0_1.index t 0 = t.val / 48 ∧ win0_1.index t 1 = 0 ∧ win0_1.index t 2 = 0 := by decide +kernel
theorem idx2 : ∀ t : Fin cfg0.N, win0_2.index t 0 = t.val / 48 ∧ win0_2.index t 1 = 0 ∧ win0_2.index t 2 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = t.val % 6 := by decide +kernel
theorem idx5 : ∀ t : Fin cfg0.N, win0_5.index t 0 = 0 ∧ win0_5.index t 1 = 0 := by decide +kernel
theorem idx6 : ∀ t : Fin cfg0.N, win0_6.index t 0 = t.val / 6 ∧ win0_6.index t 1 = t.val % 6 := by decide +kernel
theorem idx7 : ∀ t : Fin cfg0.N, win0_7.index t 0 = t.val / 6 ∧ win0_7.index t 1 = 0 := by decide +kernel

/-- The row a point's block holds at a place. -/
def rowOf (t : Fin cfg0.N) (r : Fin 1024) : Fin 16384 :=
  ⟨t.val / 6 * 1024 + r.val, by have ht : t.val < 96 := Nat.lt_of_lt_of_eq t.isLt N_0; omega⟩

theorem blk0 (t : Fin cfg0.N) (r : Fin 1024) (j : Fin 2048) : (iblk m c 0 t : Vec Ideal S1024x2048 .f32) (ix2 r j) = xA m c (bOf (rowOf t r)) (sOf (rowOf t r)) j := by
  have hx := idx0 t
  rw [← V_x]
  unfold iblk
  rw [View.read_apply]
  show V m c main_v0 _ = _
  refine congrArg (V m c main_v0) (funext fun a => Fin.ext ?_)
  match a with
  | ⟨0, _⟩ => show win0_0.index t 0 * 1024 + 1 * r.val = t.val / 6 * 1024 + r.val; rw [hx.1]; omega
  | ⟨1, _⟩ => show win0_0.index t 1 * 2048 + 1 * j.val = j.val; rw [hx.2]; omega

theorem bOf_row (t : Fin cfg0.N) (r : Fin 1024) : (bOf (rowOf t r)).val = t.val / 48 := by
  show (t.val / 6 * 1024 + r.val) / 8192 = t.val / 48
  omega

theorem blk1 (t : Fin cfg0.N) (r : Fin 1024) (j : Fin 2048) : (iblk m c 1 t : Vec Ideal S1x1x2048 .f32) (ix3 0 0 j) = scA m c (bOf (rowOf t r)) j := by
  have hx := idx1 t
  have hb := bOf_row t r
  unfold iblk
  rw [View.read_apply]
  show V m c main_arg1 _ = _
  rw [V_main_arg1]
  refine congrArg (m (c.tc.loc main_arg1)) (funext fun a => Fin.ext ?_)
  match a with
  | ⟨0, _⟩ => show win0_1.index t 0 * 1 + 1 * 0 = (bOf (rowOf t r)).val; rw [hx.1, hb]; omega
  | ⟨1, _⟩ => show win0_1.index t 1 * 1 + 1 * 0 = 0; rw [hx.2.1]
  | ⟨2, _⟩ => show win0_1.index t 2 * 2048 + 1 * j.val = j.val; rw [hx.2.2]; omega

theorem blk2 (t : Fin cfg0.N) (r : Fin 1024) (j : Fin 2048) : (iblk m c 2 t : Vec Ideal S1x1x2048 .f32) (ix3 0 0 j) = shA m c (bOf (rowOf t r)) j := by
  have hx := idx2 t
  have hb := bOf_row t r
  unfold iblk
  rw [View.read_apply]
  show V m c main_arg2 _ = _
  rw [V_main_arg2]
  refine congrArg (m (c.tc.loc main_arg2)) (funext fun a => Fin.ext ?_)
  match a with
  | ⟨0, _⟩ => show win0_2.index t 0 * 1 + 1 * 0 = (bOf (rowOf t r)).val; rw [hx.1, hb]; omega
  | ⟨1, _⟩ => show win0_2.index t 1 * 1 + 1 * 0 = 0; rw [hx.2.1]
  | ⟨2, _⟩ => show win0_2.index t 2 * 2048 + 1 * j.val = j.val; rw [hx.2.2]; omega

theorem blk3 (t : Fin cfg0.N) (j : Fin 2048) : (iblk m c 3 t : Vec Ideal S1x2048 .f32) (ix2 0 j) = gA m c j := by
  have hx := idx3 t
  rw [← V_g]
  unfold iblk
  rw [View.read_apply]
  show V m c main_v2 _ = _
  refine congrArg (V m c main_v2) (funext fun a => Fin.ext ?_)
  match a with
  | ⟨0, _⟩ => show win0_3.index t 0 * 1 + 1 * 0 = 0; rw [hx.1]
  | ⟨1, _⟩ => show win0_3.index t 1 * 2048 + 1 * j.val = j.val; rw [hx.2]; omega

theorem blk4 (t : Fin cfg0.N) (k : Fin 2048) (n : Fin 1024) : (X0_4 m c t : Vec Ideal S2048x1024 .bf16) (ix2 k n)
    = wA m c k ⟨t.val % 6 * 1024 + n.val, by omega⟩ := by
  have hx := idx4 t
  rw [← V_w]
  unfold X0_4 Pipeline.Window.fill
  rw [dif_pos (moved0_4 t _)]
  unfold iblk
  rw [View.read_apply]
  show V m c main_v7 _ = _
  refine congrArg (V m c main_v7) (funext fun a => Fin.ext ?_)
  match a with
  | ⟨0, _⟩ => show win0_4.index t 0 * 2048 + 1 * k.val = k.val; rw [hx.1]; omega
  | ⟨1, _⟩ => show win0_4.index t 1 * 1024 + 1 * n.val = t.val % 6 * 1024 + n.val; rw [hx.2]; omega

theorem blk5 (t : Fin cfg0.N) (k : Fin 2048) (n : Fin 128) : (iblk m c 5 t : Vec Ideal S2048x128 .bf16) (ix2 k n)
    = if h : n.val < 72 then wA m c k ⟨6144 + n.val, by omega⟩ else 0 := by
  have hx := idx5 t
  rw [← V_t]
  unfold iblk
  rw [View.read_apply]
  show V m c main_v6 _ = _
  refine congrArg (V m c main_v6) (funext fun a => Fin.ext ?_)
  match a with
  | ⟨0, _⟩ => show win0_5.index t 0 * 2048 + 1 * k.val = k.val; rw [hx.1]; omega
  | ⟨1, _⟩ => show win0_5.index t 1 * 128 + 1 * n.val = n.val; rw [hx.2]; omega

/-! ## What each point leaves -/

theorem row_first (t : Fin cfg0.N) (r : Fin 1024) : rowOf (first t.val) r = rowOf t r := by
  have ht : t.val < 96 := Nat.lt_of_lt_of_eq t.isLt N_0
  apply Fin.ext
  show 6 * (t.val / 6) % 96 / 6 * 1024 + r.val = t.val / 6 * 1024 + r.val
  omega

theorem hAt_read (t : Fin cfg0.N) (r : Fin 1024) (k : Fin 2048) : hAt m c t.val (ix2 r k) = hA m c (rowOf t r) k := by
  rw [← row_first t r]
  show hrow (fun j => (iblk m c 0 (first t.val) : Vec Ideal S1024x2048 .f32) (ix2 r j)) (fun j => (iblk m c 3 (first t.val) : Vec Ideal S1x2048 .f32) (ix2 0 j))
    (fun j => (iblk m c 1 (first t.val) : Vec Ideal S1x1x2048 .f32) (ix3 0 0 j)) (fun j => (iblk m c 2 (first t.val) : Vec Ideal S1x1x2048 .f32) (ix3 0 0 j)) k = _
  simp only [blk0, blk1 m c (first t.val) r, blk2 m c (first t.val) r, blk3]
  rfl

theorem oAt_read (t : Fin cfg0.N) (r : Fin 1024) (n : Fin 1024) : oAt m c t (ix2 r n) = pA m c (rowOf t r) ⟨t.val % 6 * 1024 + n.val, by omega⟩ := by
  show (∑ k : Fin 2048, hAt m c t.val (ix2 r k) * (X0_4 m c t : Vec Ideal S2048x1024 .bf16) (ix2 k n)) = _
  simp only [hAt_read, blk4]
  rfl

theorem tAt_read (t : Fin cfg0.N) (r : Fin 1024) (n : Fin 128) : tAt m c t.val (ix2 r n) = tA m c (rowOf t r) n := by
  show (∑ k : Fin 2048, hAt m c t.val (ix2 r k) * (iblk m c 5 (first t.val) : Vec Ideal S2048x128 .bf16) (ix2 k n)) = _
  simp only [hAt_read, blk5]
  unfold tA
  by_cases h : n.val < 72
  · simp only [dif_pos h]; rfl
  · simp only [dif_neg h, mul_zero, Finset.sum_const_zero]

/-! ## The arrays -/

theorem covers6 : (cfg0.win (6 : Fin 8)).Covers := by decide +kernel
theorem covers7 : (cfg0.win (7 : Fin 8)).Covers := by decide +kernel

/-- The main output. -/
theorem final6 : ((dats m 0 c).arrAt (6 : Fin 8) cfg0.N : Vec Ideal S16384x6144 .f32)
    = fun i : S16384x6144.Idx => pA m c (i 0) ⟨(i 1).val, Nat.lt_of_lt_of_le (i 1).isLt (by decide)⟩ := by
  refine (dats m 0 c).arrAt_eq_of_covers (6 : Fin 8) (fun i : S16384x6144.Idx => pA m c (i 0) ⟨(i 1).val, Nat.lt_of_lt_of_le (i 1).isLt (by decide)⟩) covers6 fun t hf y => ?_
  have hl := oAt_read m c t (y 0) (y 1)
  have hx := idx6 t
  refine Eq.trans ?_ (hl.trans ?_)
  · rw [after6]
    refine congrArg (oAt m c t) (funext fun b => Fin.ext ?_)
    match b with
    | ⟨0, _⟩ => rfl
    | ⟨1, _⟩ => rfl
  · refine congrArg₂ (pA m c) (Fin.ext ?_) (Fin.ext ?_)
    · show t.val / 6 * 1024 + (y 0).val = win0_6.index t 0 * 1024 + 1 * (y 0).val
      rw [hx.1]; omega
    · show t.val % 6 * 1024 + (y 1).val = win0_6.index t 1 * 1024 + 1 * (y 1).val
      rw [hx.2]; omega

/-- The last columns' output. -/
theorem final7 : ((dats m 0 c).arrAt (7 : Fin 8) cfg0.N : Vec Ideal S16384x128 .f32) = fun i : S16384x128.Idx => tA m c (i 0) (i 1) := by
  refine (dats m 0 c).arrAt_eq_of_covers (7 : Fin 8) (fun i : S16384x128.Idx => tA m c (i 0) (i 1)) covers7 fun t hf y => ?_
  have hl := tAt_read m c t (y 0) (y 1)
  have hx := idx7 t
  refine Eq.trans ?_ (hl.trans ?_)
  · rw [after7]
    refine congrArg (tAt m c t.val) (funext fun b => Fin.ext ?_)
    match b with
    | ⟨0, _⟩ => rfl
    | ⟨1, _⟩ => rfl
  · refine congrArg₂ (tA m c) (Fin.ext ?_) (Fin.ext ?_)
    · show t.val / 6 * 1024 + (y 0).val = win0_7.index t 0 * 1024 + 1 * (y 0).val
      rw [hx.1]; omega
    · show (y 1).val = win0_7.index t 1 * 128 + 1 * (y 1).val
      rw [hx.2]; omega

end Cert.Kernel3Ideal.In
end
-- ==== Proof.InRef.lean ====
/-
  The third reference's results, element by element.
-/
module

public import proofs.«01_k».proof.Proof.Gen.Reference3Ideal.Run
public import proofs.«01_k».proof.Proof.InPoint
public import Idealize.ShloMosaic.Lib.Pointwise

@[expose] public section

set_option maxRecDepth 16384

noncomputable section

namespace Cert.Reference3Ideal.In

open Idealize.ShloMosaic Idealize.ShloMosaic.Pointwise Idealize.ShloMosaic.TcCoe Idealize.SL.Sem
open Cert.Reference3Ideal Cert.Reference3Ideal.Gen
open Cert.Kernel3Ideal.In (hrow)

variable (x : FVec Ideal S2x8192x2048 .f32) (sc sh : FVec Ideal S2x1x2048 .f32) (g : FVec Ideal S1x2048 .f32) (w : FVec Ideal S1x2048x6216 .f32)

/-- The normed and modulated input. -/
def normed : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ g shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) sc))) (broadcastInDim S2x8192x2048 ![0, 1, 2] bcast_S2x1x2048_S2x8192x2048_0_1_2 sh)

theorem normed_at (b : Fin 2) (s : Fin 8192) (k : Fin 2048) :
    normed x sc sh g (ix3 b s k) = hrow (fun j => x (ix3 b s j)) (fun j => g (ix2 0 j)) (fun j => sc (ix3 b 0 j)) (fun j => sh (ix3 b 0 j)) k := by
  unfold hrow
  pointwise [normed]

/-- The projections, rows flattened. -/
def proj : FVec Ideal S16384x6216 .f32 :=
  shapeCast _ (Host.dotGeneral dot_S2x8192x2048_S2048x6216_S2x8192x6216_2_0_01_1_n_n none (normed x sc sh g) (shapeCast _ w shapeCasts_S1x2048x6216_S2048x6216)) shapeCasts_S2x8192x6216_S16384x6216

theorem proj_at (p : Fin 16384) (n : Fin 6216) : proj x sc sh g w (ix2 p n)
    = ∑ k : Fin 2048, normed x sc sh g (ix3 ⟨p.val / 8192, by omega⟩ ⟨p.val % 8192, Nat.mod_lt _ (by decide)⟩ k) * w (ix3 0 k n) := by
  pointwise [proj]

theorem main_at (P : FVec Ideal S16384x6216 .f32) (p : Fin 16384) (n : Fin 6144) :
    extractStridedSlice S16384x6144 ![0, 0] P slices_S16384x6216_S16384x6144_0_0 (ix2 p n) = P (ix2 p ⟨n.val, by omega⟩) := by
  pointwise

theorem tail_at (P : FVec Ideal S16384x6216 .f32) (p : Fin 16384) (n : Fin 128) :
    pad S16384x128 ![0, 0] ![0, 56] ![0, 0] (extractStridedSlice S16384x72 ![0, 6144] P slices_S16384x6216_S16384x72_0_6144) (sitofp (F := Ideal) .f32 (constantI S_ 32 0#32)) pads_S16384x72_S16384x128_000_0560 h_S_ (ix2 p n)
      = if h : n.val < 72 then P (ix2 p ⟨6144 + n.val, by omega⟩) else 0 := by
  pointwise
  have z : (FloatOps.sitofp (F := Ideal) FTy.f32 0#32 : EReal) = 0 := by
    show (((0#32 : BitVec 32).toInt : ℝ) : EReal) = 0
    simp
  by_cases h : n.val < 72
  · rw [dif_pos h, dif_pos h]
  · rw [dif_neg h, dif_neg h]; exact z

end Cert.Reference3Ideal.In
end
-- ==== Proof.InAlg.lean ====
/-
  The input projection and its reference agree.
-/
module

public import proofs.«01_k».proof.Proof.InArr
public import proofs.«01_k».proof.Proof.InRef

@[expose] public section

set_option maxRecDepth 16384

noncomputable section

/-! The input projection and its reference agree over the extended reals, whatever the arguments. -/

namespace Cert.In

open Idealize.ShloMosaic Idealize.ShloMosaic.Pointwise Idealize.ShloMosaic.TcCoe Idealize.SL.Sem
open Cert.Reference3Ideal.In

variable (m : (ℓ : Loc Cert.Kernel3Ideal.nD Cert.Kernel3Ideal.τ Cert.Kernel3Ideal.sig) → Buf (Elt Ideal) ℓ) (c : Dev Cert.Kernel3Ideal.nD)

/-- The reference's projections are the kernel's, at every row and column. -/
theorem proj_eq (p : Fin 16384) (n : Fin 6216) :
    proj (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (ix2 p n)
      = Cert.Kernel3Ideal.In.pA m c p n := by
  refine (proj_at _ _ _ _ _ p n).trans ?_
  unfold Cert.Kernel3Ideal.In.pA
  refine Finset.sum_congr rfl fun k _ => ?_
  rw [normed_at]
  rfl

/-- The kernel's results are the reference's. -/
theorem alg : Cert.algebraic_Kernel3Ideal_Reference3Ideal := by
  intro m ρ m' ρ' _ hagree
  refine ⟨fun c => (Cert.Kernel3Ideal.In.dats m 0 c).arrAt (6 : Fin 8) Cert.Kernel3Ideal.cfg0.N,
    fun c => (Cert.Kernel3Ideal.In.dats m 0 c).arrAt (7 : Fin 8) Cert.Kernel3Ideal.cfg0.N,
    (θ_run _ _ _).mono (fun r h => h.1) (Cert.Kernel3Ideal.In.run_all m ρ), ?_⟩
  refine (θ_run _ _ _).mono (fun r h c => ⟨(h c).1.trans ?_, (h c).2.1.trans ?_, (h c).2.2⟩) (Cert.Reference3Ideal.Value.run m' ρ')
  · obtain ⟨a0, a1, a2, a3, a4⟩ := hagree c
    refine Eq.trans ?_ (Cert.Kernel3Ideal.In.final6 m c).symm
    rw [a0, a1, a2, a3, a4]
    funext i
    obtain ⟨p, n, rfl⟩ : ∃ (p : Fin 16384) (n : Fin 6144), i = ix2 p n := ⟨i 0, i 1, eq_ix2 i⟩
    exact (main_at (proj _ _ _ _ _) p n).trans (proj_eq m c p _)
  · obtain ⟨a0, a1, a2, a3, a4⟩ := hagree c
    refine Eq.trans ?_ (Cert.Kernel3Ideal.In.final7 m c).symm
    rw [a0, a1, a2, a3, a4]
    funext i
    obtain ⟨p, n, rfl⟩ : ∃ (p : Fin 16384) (n : Fin 128), i = ix2 p n := ⟨i 0, i 1, eq_ix2 i⟩
    refine (tail_at (proj _ _ _ _ _) p n).trans ?_
    simp only [proj_eq]
    rfl

/-- The reference runs, leaves its arguments, and ends with every semaphore counter at zero. -/
theorem quiet : Cert.quiescent_Reference3Ideal := fun m ρ _ =>
  (θ_run _ _ _).mono (fun r h => ⟨fun c => (h c).2.2, Idealize.ShloMosaic.sem_eq_zero_of_no_sems (by decide) r.2⟩)
    (Cert.Reference3Ideal.Value.run m ρ)

end Cert.In

end
-- ==== Proof.InRunB.lean ====
/-
  The input projection's kernel on bits, on any buffers: a row block's first point (which norms the block
  and projects it) and its other points (which project the normed block that the first one left).
-/
module

public import proofs.«01_k».proof.Proof.Gen.Kernel3.Skeleton
public import proofs.«01_k».proof.Proof.Gen.Kernel3.Points
public import proofs.«01_k».proof.Proof.Gen.Kernel3.Frame
public import Idealize.ShloMosaic.Lib.Claim
public import Idealize.ShloMosaic.Lib.Pipeline.ValueKit

@[expose] public section

set_option maxRecDepth 16384

noncomputable section

namespace Cert.Kernel3.In

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The propositions the body's triple is stated in. -/
abbrev Pr : Type _ := sProp (MT nD τ sig Unit (Elt Bits) ℕ (UR sig nD τ) ℕ)

set_option maxHeartbeats 4000000 in
/-- A row block's first point: the pieces its stores leave in the two outputs' buffers and the scratch, with the run
    that leaves them. -/
def runA (c : Dev nD) (i : grid0.Coords) (arg2 : Memref sig .tc .vmem S1024x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S2048x128 .bf16) (harg7 : arg7.IsWhole)
    (arg8 : Memref sig .tc .vmem S1024x1024 .f32) (harg8 : arg8.IsWhole) (arg9 : Memref sig .tc .vmem S1024x128 .f32) (harg9 : arg9.IsWhole)
    (arg10 : Memref sig .tc .vmem S1024x2048 .bf16) (harg10 : arg10.IsWhole) (hc0 : k0_cond1 i = 1#1) (hc1 : ¬k0_cond2 i = 1#1)
    (x0 : Vec Bits S1024x2048 .f32) (x1 : Vec Bits S1x1x2048 .f32) (x2 : Vec Bits S1x1x2048 .f32) (x3 : Vec Bits S1x2048 .f32)
    (x4 : Vec Bits S2048x1024 .bf16) (x5 : Vec Bits S2048x128 .bf16) :
    Σ' (L6 : List (View.Piece (Elt Bits) S1024x1024 .f32)) (L7 : List (View.Piece (Elt Bits) S1024x128 .f32)),
      { LS : List (View.Piece (Elt Bits) S1024x2048 .bf16) //
      ∀ (E : Set ℕ) (K : PUnit → Pr),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Bits) f L6)
              ∗ (∃ f, arg9.view.loc (c : Thread nD τ) ↦[arg9.view.set]{fullShare} arg9.view.writes (Elt Bits) f L7)
              ∗ (∃ f, arg10.view.loc (c : Thread nD τ) ↦[arg10.view.set]{fullShare} arg10.view.writes (Elt Bits) f LS)) -∗ K ⟨⟩))
          ⊢ wp frame (wpE (defs₀ (F := Bits)) Variants.none c none) E (cc0_inproj i arg2 harg2 arg3 harg3 arg4 harg4 arg5 harg5 arg6 harg6 arg7 harg7 arg8 harg8 arg9 harg9 arg10 harg10) K } := by
  refine ⟨?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 4000000 in
/-- Any other point: the pieces its store leaves in the output's buffer, with the run that leaves them. -/
def runB (c : Dev nD) (i : grid0.Coords) (arg2 : Memref sig .tc .vmem S1024x2048 .f32) (harg2 : arg2.IsWhole) (arg3 : Memref sig .tc .vmem S1x1x2048 .f32) (harg3 : arg3.IsWhole)
    (arg4 : Memref sig .tc .vmem S1x1x2048 .f32) (harg4 : arg4.IsWhole) (arg5 : Memref sig .tc .vmem S1x2048 .f32) (harg5 : arg5.IsWhole)
    (arg6 : Memref sig .tc .vmem S2048x1024 .bf16) (harg6 : arg6.IsWhole) (arg7 : Memref sig .tc .vmem S2048x128 .bf16) (harg7 : arg7.IsWhole)
    (arg8 : Memref sig .tc .vmem S1024x1024 .f32) (harg8 : arg8.IsWhole) (arg9 : Memref sig .tc .vmem S1024x128 .f32) (harg9 : arg9.IsWhole)
    (arg10 : Memref sig .tc .vmem S1024x2048 .bf16) (harg10 : arg10.IsWhole) (hc0 : ¬k0_cond1 i = 1#1) (hc1 : k0_cond2 i = 1#1)
    (x0 : Vec Bits S1024x2048 .f32) (x1 : Vec Bits S1x1x2048 .f32) (x2 : Vec Bits S1x1x2048 .f32) (x3 : Vec Bits S1x2048 .f32)
    (x4 : Vec Bits S2048x1024 .bf16) (x5 : Vec Bits S2048x128 .bf16) (xh : Vec Bits S1024x2048 .bf16) (xt : Vec Bits S1024x128 .f32) :
    { L6 : List (View.Piece (Elt Bits) S1024x1024 .f32) //
      ∀ (E : Set ℕ) (K : PUnit → Pr),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xt ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt Bits) f L6)
              ∗ owns (c : Thread nD τ) arg9 fullShare xt ∗ owns (c : Thread nD τ) arg10 fullShare xh) -∗ K ⟨⟩))
          ⊢ wp frame (wpE (defs₀ (F := Bits)) Variants.none c none) E (cc0_inproj i arg2 harg2 arg3 harg3 arg4 harg4 arg5 harg5 arg6 harg6 arg7 harg7 arg8 harg8 arg9 harg9 arg10 harg10) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

end Cert.Kernel3.In
end
-- ==== Proof.InDatB.lean ====
/-
  The input projection on bits: what each grid point leaves, and what the whole launch leaves. A row
  block's first point norms it into the scratch and leaves the last columns; the five after it keep both.
-/
module

public import proofs.«01_k».proof.Proof.InRunB
public import Idealize.ShloMosaic.Lib.Pipeline.Frame
public import Idealize.ShloMosaic.Lib.WordCmp
public import Idealize.ShloMosaic.Lib.Ring
public import proofs.«01_k».proof.Defs

@[expose] public section

set_option maxRecDepth 16384

noncomputable section

namespace Cert.Kernel3.In

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Bits) ℓ) (ρ : Dev nD → PrngReg)

/-! ## The points -/

abbrev pt (t : Fin cfg0.N) : grid0.Coords := grid0.coords t

theorem first_iff (t : Fin cfg0.N) : k0_cond1 (pt t) = 1#1 ↔ t.val % 6 = 0 := by
  have ht : t.val < 96 := Nat.lt_of_lt_of_eq t.isLt N_0
  have e1 : (pt t 1).val = t.val / 1 % 6 := Pipeline.Grid.coords_val t 1 (by decide) rfl
  simp only [k0_cond1, e1]
  word_cmp

theorem rest_iff (t : Fin cfg0.N) : k0_cond2 (pt t) = 1#1 ↔ 1 ≤ t.val % 6 := by
  have ht : t.val < 96 := Nat.lt_of_lt_of_eq t.isLt N_0
  have e1 : (pt t 1).val = t.val / 1 % 6 := Pipeline.Grid.coords_val t 1 (by decide) rfl
  simp only [k0_cond2, e1]
  word_cmp

theorem not_rest (t : Fin cfg0.N) (h : t.val % 6 = 0) : ¬k0_cond2 (pt t) = 1#1 := by rw [rest_iff]; omega
theorem rest (t : Fin cfg0.N) (h : ¬t.val % 6 = 0) : k0_cond2 (pt t) = 1#1 := by rw [rest_iff]; omega

theorem idle6 (t : Fin cfg0.N) : cfg0.idle (6 : Fin 8) (cfg0.grid.coords t) = false := by
  show (!(k0_cond1 (pt t) == 1#1) && !(k0_cond2 (pt t) == 1#1)) = false
  by_cases h : t.val % 6 = 0
  · simp [(first_iff t).2 h]
  · simp [rest t h]

theorem idle7_first (t : Fin cfg0.N) (h : t.val % 6 = 0) : cfg0.idle (7 : Fin 8) (cfg0.grid.coords t) = false := by
  show (!(k0_cond1 (pt t) == 1#1)) = false
  simp [(first_iff t).2 h]

theorem idle7_rest (t : Fin cfg0.N) (h : ¬t.val % 6 = 0) : cfg0.idle (7 : Fin 8) (cfg0.grid.coords t) = true := by
  show (!(k0_cond1 (pt t) == 1#1)) = true
  rw [Bool.not_eq_true', beq_eq_false_iff_ne]
  exact fun h' => h ((first_iff t).1 h')

/-- The first point of the row block of point `n`. -/
def first (n : ℕ) : Fin cfg0.N := ⟨6 * (n / 6) % 96, by rw [show cfg0.N = 96 from N_0]; exact Nat.mod_lt _ (by decide)⟩

theorem first_of (t : Fin cfg0.N) (h : t.val % 6 = 0) : first t.val = t := by
  have ht : t.val < 96 := Nat.lt_of_lt_of_eq t.isLt N_0
  apply Fin.ext; show 6 * (t.val / 6) % 96 = t.val; omega

theorem first_succ (n : ℕ) (h : ¬(n + 1) % 6 = 0) : first (n + 1) = first n := by
  apply Fin.ext; show 6 * ((n + 1) / 6) % 96 = 6 * (n / 6) % 96
  rw [show (n + 1) / 6 = n / 6 from by omega]

/-! ## What the points leave -/

abbrev b0 (t : Fin cfg0.N) : Memref sig .tc .vmem S1024x2048 .f32 := win0_0.stage (cfg0.slots t 0)
theorem w0 (t : Fin cfg0.N) : (b0 t).IsWhole := hstage0_0 ((cfg0.slots t 0).cast nbuf0_0)
abbrev b1 (t : Fin cfg0.N) : Memref sig .tc .vmem S1x1x2048 .f32 := win0_1.stage (cfg0.slots t 1)
theorem w1 (t : Fin cfg0.N) : (b1 t).IsWhole := hstage0_1 ((cfg0.slots t 1).cast nbuf0_1)
abbrev b2 (t : Fin cfg0.N) : Memref sig .tc .vmem S1x1x2048 .f32 := win0_2.stage (cfg0.slots t 2)
theorem w2 (t : Fin cfg0.N) : (b2 t).IsWhole := hstage0_2 ((cfg0.slots t 2).cast nbuf0_2)
abbrev b3 (t : Fin cfg0.N) : Memref sig .tc .vmem S1x2048 .f32 := win0_3.stage (cfg0.slots t 3)
theorem w3 (t : Fin cfg0.N) : (b3 t).IsWhole := hstage0_3 ((cfg0.slots t 3).cast nbuf0_3)
abbrev b4 (t : Fin cfg0.N) : Memref sig .tc .vmem S2048x1024 .bf16 := win0_4.stage (cfg0.slots t 4)
theorem w4 (t : Fin cfg0.N) : (b4 t).IsWhole := hstage0_4 ((cfg0.slots t 4).cast nbuf0_4)
abbrev b5 (t : Fin cfg0.N) : Memref sig .tc .vmem S2048x128 .bf16 := win0_5.stage (cfg0.slots t 5)
theorem w5 (t : Fin cfg0.N) : (b5 t).IsWhole := hstage0_5 ((cfg0.slots t 5).cast nbuf0_5)
abbrev b6 (t : Fin cfg0.N) : Memref sig .tc .vmem S1024x1024 .f32 := win0_6.stage (cfg0.slots t 6)
theorem w6 (t : Fin cfg0.N) : (b6 t).IsWhole := hstage0_6 ((cfg0.slots t 6).cast nbuf0_6)
abbrev b7 (t : Fin cfg0.N) : Memref sig .tc .vmem S1024x128 .f32 := win0_7.stage (cfg0.slots t 7)
theorem w7 (t : Fin cfg0.N) : (b7 t).IsWhole := hstage0_7 ((cfg0.slots t 7).cast nbuf0_7)

/-- The scratch. -/
abbrev scr : Memref sig .tc .vmem S1024x2048 .bf16 := Memref.whole cc0_scratch0

theorem first_mod (n : ℕ) : (first n).val % 6 = 0 := by show 6 * (n / 6) % 96 % 6 = 0; omega

/-- A row block's first point, on the launch's buffers and blocks. -/
abbrev runAt (c : Dev nD) (t : Fin cfg0.N) (h : t.val % 6 = 0) :=
  runA c (pt t) (b0 t) (w0 t) (b1 t) (w1 t) (b2 t) (w2 t) (b3 t) (w3 t) (b4 t) (w4 t) (b5 t) (w5 t) (b6 t) (w6 t) (b7 t) (w7 t) scr (Memref.isWhole_whole _) ((first_iff t).2 h) (not_rest t h)
    (iblk m c 0 t) (iblk m c 1 t) (iblk m c 2 t) (iblk m c 3 t) (X0_4 m c t) (iblk m c 5 t)

/-- What a row block's first point leaves in the scratch. -/
def hOf (c : Dev nD) (t : Fin cfg0.N) (h : t.val % 6 = 0) : Vec Bits S1024x2048 .bf16 := View.canon (runAt m c t h).2.2.1

/-- What a row block's first point leaves of the last columns. -/
def tOf (c : Dev nD) (t : Fin cfg0.N) (h : t.val % 6 = 0) : Vec Bits S1024x128 .f32 := View.canon (runAt m c t h).2.1

theorem hOf_congr (c : Dev nD) {t t' : Fin cfg0.N} (e : t = t') (h h') : hOf m c t h = hOf m c t' h' := by subst e; rfl
theorem tOf_congr (c : Dev nD) {t t' : Fin cfg0.N} (e : t = t') (h h') : tOf m c t h = tOf m c t' h' := by subst e; rfl

/-- The scratch past point `n`. -/
def hAt (c : Dev nD) (n : ℕ) : Vec Bits S1024x2048 .bf16 := hOf m c (first n) (first_mod n)

/-- The last columns' buffer past point `n`. -/
def tAt (c : Dev nD) (n : ℕ) : Vec Bits S1024x128 .f32 := tOf m c (first n) (first_mod n)

/-- Any other point, on the launch's buffers and blocks and what the first one left. -/
abbrev runBt (c : Dev nD) (t : Fin cfg0.N) (h : ¬t.val % 6 = 0) :=
  runB c (pt t) (b0 t) (w0 t) (b1 t) (w1 t) (b2 t) (w2 t) (b3 t) (w3 t) (b4 t) (w4 t) (b5 t) (w5 t) (b6 t) (w6 t) (b7 t) (w7 t) scr (Memref.isWhole_whole _) (fun h' => h ((first_iff t).1 h')) (rest t h)
    (iblk m c 0 t) (iblk m c 1 t) (iblk m c 2 t) (iblk m c 3 t) (X0_4 m c t) (iblk m c 5 t) (hAt m c t.val) (tAt m c t.val)

/-- What a point leaves of the column block's output. -/
def oAt (c : Dev nD) (t : Fin cfg0.N) : Vec Bits S1024x1024 .f32 :=
  if h : t.val % 6 = 0 then View.canon (runAt m c t h).1 else View.canon (runBt m c t h).1

theorem scratch_eq (c : Dev nD) :
    (Pipeline.ΦA spec0 c : Pr) = iprop(iprop((∃ d, owns (c : Thread nD τ) scr fullShare d)) ∗ (∃ r, prngReg c r)) := by
  unfold Pipeline.ΦA; rw [scopedRest0_eq]; simp only [scr, owns_whole]; try rfl

/-- Before point `n`: the scratch at what the points before it left. -/
def Phi (c : Dev nD) : ℕ → Pr
  | 0 => Pipeline.ΦA spec0 c
  | n + 1 => iprop(owns (c : Thread nD τ) scr fullShare (hAt m c n) ∗ (∃ r, prngReg c r))

/-- The launch's data. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => oAt m c t
    | ⟨7, _⟩ => tAt m c t.val
  Φ t := Phi m c t.val
  q _ := fullShare
  owed _ := 0

theorem after0 (c : Dev nD) (t : Fin cfg0.N) : (dats m 0 c).after (0 : Fin 8) t = iblk m c 0 t := rfl
theorem after1 (c : Dev nD) (t : Fin cfg0.N) : (dats m 0 c).after (1 : Fin 8) t = iblk m c 1 t := rfl
theorem after2 (c : Dev nD) (t : Fin cfg0.N) : (dats m 0 c).after (2 : Fin 8) t = iblk m c 2 t := rfl
theorem after3 (c : Dev nD) (t : Fin cfg0.N) : (dats m 0 c).after (3 : Fin 8) t = iblk m c 3 t := rfl
theorem after4 (c : Dev nD) (t : Fin cfg0.N) : (dats m 0 c).after (4 : Fin 8) t = X0_4 m c t := rfl
theorem after5 (c : Dev nD) (t : Fin cfg0.N) : (dats m 0 c).after (5 : Fin 8) t = iblk m c 5 t := rfl
theorem after6 (c : Dev nD) (t : Fin cfg0.N) : (dats m 0 c).after (6 : Fin 8) t = oAt m c t := rfl
theorem after7 (c : Dev nD) (t : Fin cfg0.N) : (dats m 0 c).after (7 : Fin 8) t = tAt m c t.val := rfl
theorem before0 (c : Dev nD) (t : Fin cfg0.N) (d) : (dats m 0 c).before (0 : Fin 8) t d = iblk m c 0 t := before0_0_of m (dats m 0 c) rfl (after0 m c) t d
theorem before1 (c : Dev nD) (t : Fin cfg0.N) (d) : (dats m 0 c).before (1 : Fin 8) t d = iblk m c 1 t := before0_1_of m (dats m 0 c) rfl (after1 m c) t d
theorem before2 (c : Dev nD) (t : Fin cfg0.N) (d) : (dats m 0 c).before (2 : Fin 8) t d = iblk m c 2 t := before0_2_of m (dats m 0 c) rfl (after2 m c) t d
theorem before3 (c : Dev nD) (t : Fin cfg0.N) (d) : (dats m 0 c).before (3 : Fin 8) t d = iblk m c 3 t := before0_3_of m (dats m 0 c) rfl (after3 m c) t d
theorem before4 (c : Dev nD) (t : Fin cfg0.N) (d) : (dats m 0 c).before (4 : Fin 8) t d = X0_4 m c t := before0_4_of m (dats m 0 c) rfl (after4 m c) t d
theorem before5 (c : Dev nD) (t : Fin cfg0.N) (d) : (dats m 0 c).before (5 : Fin 8) t d = iblk m c 5 t := before0_5_of m (dats m 0 c) rfl (after5 m c) t d

/-- Past a row block's first point, the last columns' buffer holds what that point left. -/
theorem before7 (c : Dev nD) : ∀ (n : ℕ) (hn : n < cfg0.N) (h : ¬n % 6 = 0) (d), (dats m 0 c).before (7 : Fin 8) ⟨n, hn⟩ d = tAt m c n
  | 0, _, h, _ => absurd rfl h
  | n + 1, hn, h, d => by
    have hn' : n < cfg0.N := Nat.lt_of_succ_lt hn
    have e : tAt m c (n + 1) = tAt m c n := tOf_congr m c (first_succ n h) _ _
    have hf : ((cfg0.win (7 : Fin 8)).flush ⟨n, hn'⟩) = false := by
      rw [Bool.eq_false_iff]; intro hh
      have := (flush0_7 ⟨n, hn'⟩).1 hh
      exact h (by simp only at this; omega)
    unfold Dat.before
    rw [Pipeline.Window.fetch_out _ rfl]
    simp only [Bool.false_eq_true, if_false, Nat.add_sub_cancel, Nat.succ_ne_zero]
    rw [hf]
    simp only [Bool.false_eq_true, if_false]
    by_cases h0 : n % 6 = 0
    · have i7 : idle0 7 (grid0.coords ⟨n, hn'⟩) = false := idle7_first ⟨n, hn'⟩ h0
      rw [i7, e]; rfl
    · have i7 : idle0 7 (grid0.coords ⟨n, hn'⟩) = true := idle7_rest ⟨n, hn'⟩ h0
      rw [i7, e]
      exact ((dats m 0 c).found_eq_before (7 : Fin 8) ⟨n, hn'⟩ d).trans (before7 c n hn' h0 d)

set_option maxHeartbeats 4000000 in
/-- A row block's first point, from any scratch. -/
theorem soundA' (c : Dev nD) (t : Fin cfg0.N) (h : t.val % 6 = 0) :
    iprop(iprop((∃ d, owns (c : Thread nD τ) scr fullShare d) ∗ (∃ r, prngReg c r)) ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Bits)) Variants.none c none) Set.univ (bodyAt0 (F := Bits) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ owns (c : Thread nD τ) (b7 t) fullShare ((dats m 0 c).after (7 : Fin 8) t)) := by
  have e1 : hAt m c t.val = View.canon (runAt m c t h).2.2.1 := hOf_congr m c (first_of t h) _ _
  have e2 : tAt m c t.val = View.canon (runAt m c t h).2.1 := tOf_congr m c (first_of t h) _ _
  have e3 : oAt m c t = View.canon (runAt m c t h).1 := dif_pos h
  simp only [before0, before1, before2, before3, before4, before5, after0, after1, after2, after3, after4, after5, after6, after7]
  rw [show (dats m 0 c).Φ t.succ = iprop(owns (c : Thread nD τ) scr fullShare (hAt m c t.val) ∗ (∃ r, prngReg c r)) from rfl,
    show (dats m 0 c).owesAt () t.succ = (dats m 0 c).owesAt () t.castSucc from rfl, e3, e2, e1]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runAt m c t h).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%f6, H6⟩, ⟨%f7, H7⟩, ⟨%fs, HS⟩⟩
  isplitl [HS HR]
  · isplitl [HS]
    · unfold owns; iexists _; isplitr; swap
      · iexact HS
      · ipureintro; exact View.read_writes_eq_canon _ _ _ (View.cover_of_tiledL _ ![256, 2048] (by sl_kernel_rfl))
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact View.read_writes_eq_canon _ _ _ (View.cover_of_tiledL _ ![256, 1024] (by sl_kernel_rfl))
  · unfold owns; iexists _; isplitr; swap
    · iexact H7
    · ipureintro; exact View.read_writes_eq_canon _ _ _ (View.cover_of_tiledL _ ![256, 128] (by sl_kernel_rfl))

theorem Phi_some (c : Dev nD) : ∀ n : ℕ, Phi m c n ⊢ iprop(iprop((∃ d, owns (c : Thread nD τ) scr fullShare d)) ∗ (∃ r, prngReg c r))
  | 0 => by rw [← scratch_eq]; exact .rfl
  | n + 1 => by
    show iprop(owns (c : Thread nD τ) scr fullShare (hAt m c n) ∗ (∃ r, prngReg c r)) ⊢ _
    iintro ⟨Hs, Hr⟩
    isplitl [Hs]; · iexists _; iexact Hs
    iexact Hr

/-- A row block's first point. -/
theorem soundA (c : Dev nD) (t : Fin cfg0.N) (h : t.val % 6 = 0) :
    iprop((dats m 0 c).Φ t.castSucc ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Bits)) Variants.none c none) Set.univ (bodyAt0 (F := Bits) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ owns (c : Thread nD τ) (b7 t) fullShare ((dats m 0 c).after (7 : Fin 8) t)) :=
  (BI.sep_mono_l (Phi_some m c t.val)).trans (soundA' m c t h)

set_option maxHeartbeats 4000000 in
/-- A row block's other points. -/
theorem soundB (c : Dev nD) (t : Fin cfg0.N) (h : ¬t.val % 6 = 0) :
    iprop((dats m 0 c).Φ t.castSucc ∗ (dats m 0 c).owesAt () t.castSucc ∗ (∃ d, owns (c : Thread nD τ) (b0 t) fullShare ((dats m 0 c).before (0 : Fin 8) t d)) ∗ (∃ d, owns (c : Thread nD τ) (b1 t) fullShare ((dats m 0 c).before (1 : Fin 8) t d)) ∗ (∃ d, owns (c : Thread nD τ) (b2 t) fullShare ((dats m 0 c).before (2 : Fin 8) t d)) ∗ (∃ d, owns (c : Thread nD τ) (b3 t) fullShare ((dats m 0 c).before (3 : Fin 8) t d)) ∗ (∃ d, owns (c : Thread nD τ) (b4 t) fullShare ((dats m 0 c).before (4 : Fin 8) t d)) ∗ (∃ d, owns (c : Thread nD τ) (b5 t) fullShare ((dats m 0 c).before (5 : Fin 8) t d)) ∗ (∃ d, owns (c : Thread nD τ) (b6 t) fullShare ((dats m 0 c).before (6 : Fin 8) t d)) ∗ (∃ d, owns (c : Thread nD τ) (b7 t) fullShare ((dats m 0 c).before (7 : Fin 8) t d)))
      ⊢ wp frame (wpE (defs₀ (F := Bits)) Variants.none c none) Set.univ (bodyAt0 (F := Bits) t) fun _ =>
          iprop((dats m 0 c).Φ t.succ ∗ (dats m 0 c).owesAt () t.succ ∗ owns (c : Thread nD τ) (b0 t) fullShare ((dats m 0 c).after (0 : Fin 8) t) ∗ owns (c : Thread nD τ) (b1 t) fullShare ((dats m 0 c).after (1 : Fin 8) t) ∗ owns (c : Thread nD τ) (b2 t) fullShare ((dats m 0 c).after (2 : Fin 8) t) ∗ owns (c : Thread nD τ) (b3 t) fullShare ((dats m 0 c).after (3 : Fin 8) t) ∗ owns (c : Thread nD τ) (b4 t) fullShare ((dats m 0 c).after (4 : Fin 8) t) ∗ owns (c : Thread nD τ) (b5 t) fullShare ((dats m 0 c).after (5 : Fin 8) t) ∗ owns (c : Thread nD τ) (b6 t) fullShare ((dats m 0 c).after (6 : Fin 8) t) ∗ (match (cfg0.win (7 : Fin 8)).flush t with | false => iprop(∃ d, owns (c : Thread nD τ) (b7 t) fullShare ((dats m 0 c).before (7 : Fin 8) t d)) | true => owns (c : Thread nD τ) (b7 t) fullShare ((dats m 0 c).after (7 : Fin 8) t))) := by
  have h7 : (owns (c : Thread nD τ) (b7 t) fullShare (tAt m c t.val) : Pr) ⊢ (match (cfg0.win (7 : Fin 8)).flush t with | false => iprop(∃ d, owns (c : Thread nD τ) (b7 t) fullShare ((dats m 0 c).before (7 : Fin 8) t d)) | true => owns (c : Thread nD τ) (b7 t) fullShare ((dats m 0 c).after (7 : Fin 8) t)) := by
    cases (cfg0.win (7 : Fin 8)).flush t with
    | true => exact .rfl
    | false =>
      show (owns (c : Thread nD τ) (b7 t) fullShare (tAt m c t.val) : Pr) ⊢ iprop(∃ d, owns (c : Thread nD τ) (b7 t) fullShare ((dats m 0 c).before (7 : Fin 8) t d))
      iintro H
      iexists (fun _ => (0#32 : BitVec 32))
      rw [before7 m c t.val t.isLt h]
      iexact H
  have e3 : oAt m c t = View.canon (runBt m c t h).1 := dif_neg h
  have hb (d) : (dats m 0 c).before (7 : Fin 8) t d = tAt m c t.val := before7 m c t.val t.isLt h d
  simp only [before0, before1, before2, before3, before4, before5, after0, after1, after2, after3, after4, after5, after6]
  rw [show (dats m 0 c).Φ t.succ = iprop(owns (c : Thread nD τ) scr fullShare (hAt m c t.val) ∗ (∃ r, prngReg c r)) from rfl,
    show (dats m 0 c).owesAt () t.succ = (dats m 0 c).owesAt () t.castSucc from rfl, e3]
  have hΦ : (dats m 0 c).Φ t.castSucc = iprop(owns (c : Thread nD τ) scr fullShare (hAt m c t.val) ∗ (∃ r, prngReg c r)) := by
    show Phi m c t.val = _
    obtain ⟨n, hn⟩ := t
    cases n with
    | zero => exact absurd rfl h
    | succ n =>
      show iprop(owns (c : Thread nD τ) scr fullShare (hAt m c n) ∗ (∃ r, prngReg c r)) = iprop(owns (c : Thread nD τ) scr fullShare (hAt m c (n + 1)) ∗ (∃ r, prngReg c r))
      rw [show hAt m c (n + 1) = hAt m c n from hOf_congr m c (first_succ n h) _ _]
  rw [hΦ]
  iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runBt m c t h).2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · rw [← hb d7]; iexact H7
  isplitl [HS]; · iexact HS
  iintro ⟨H0, H1, H2, H3, H4, H5, ⟨%f6, H6⟩, H7, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap
    · iexact H6
    · ipureintro; exact View.read_writes_eq_canon _ _ _ (View.cover_of_tiledL _ ![1024, 1024] (by sl_kernel_rfl))
  iapply h7; iexact H7

/-- The body obligation, at every point. -/
theorem obligation (c : Dev nD) : BodyObligation (dats m 0 c) (defs₀ (F := Bits)) Variants.none () Set.univ := fun t => by
  rw [bigSep_W0, bigSep_W0]
  show _ ⊢ wp frame (wpE (defs₀ (F := Bits)) Variants.none c none) Set.univ (bodyAt0 (F := Bits) t) _
  have i6 := idle6 t
  rewrite [i6]
  by_cases h : t.val % 6 = 0
  · have i7 := idle7_first t h
    rewrite [i7]
    exact soundA m c t h
  · have i7 := idle7_rest t h
    rewrite [i7]
    exact soundB m c t h

theorem share_eq (c : Dev nD) (w : Fin cfg0.W) : (dats m 0 c).share w = fullShare := by unfold Dat.share; split <;> rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [scratch_eq]
  show Phi m c cfg0.N ⊢ _
  rw [show cfg0.N = 95 + 1 from N_0]
  show iprop(owns (c : Thread nD τ) scr fullShare (hAt m c 95) ∗ (∃ r, prngReg c r)) ⊢ _
  iintro ⟨Hs, Hr⟩
  isplitl [Hs]; · iexists _; iexact Hs
  iexact Hr

set_option backward.isDefEq.respectTransparency.types false in
/-- What a final state holds: every array at what the launch writes back, every other buffer as the launch found it,
    every counter at zero. -/
theorem run :
    θ_run (defs (F := Bits)) (onTc (τ := τ) (main (F := Bits))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := share_eq m) (howed := fun _ _ => rfl)
    (V := V m) (hmain := hmain m Variants.none) (hA := fun _ _ => rfl) (hin := hin m) (hout := hout m)

set_option backward.isDefEq.respectTransparency.types false in
/-- The launch ends with its arguments as they were and every counter at zero. -/
theorem quiet : Cert.quiescent_Kernel3 := fun m ρ _ =>
  (θ_run defs _ _).mono (fun r hr => ⟨fun c =>
      ⟨(hr.1.rest_eq c main_arg0 (show main_arg0 ∈ Pipeline.restRefs sig spec0 by decide)).trans (V_main_arg0 m c),
        (hr.1.in_eq c (1 : Fin 8) rfl).trans (V_main_arg1 m c), (hr.1.in_eq c (2 : Fin 8) rfl).trans (V_main_arg2 m c),
        (hr.1.rest_eq c main_arg3 (show main_arg3 ∈ Pipeline.restRefs sig spec0 by decide)).trans (V_main_arg3 m c),
        (hr.1.rest_eq c main_arg4 (show main_arg4 ∈ Pipeline.restRefs sig spec0 by decide)).trans (V_main_arg4 m c)⟩, hr.2⟩)
    (run m ρ)

end Cert.Kernel3.In
end
-- ==== Proof.OutPoint.lean ====
/-
  One grid point of the output projection over the extended reals, read element by element.
-/
module

public import proofs.«01_k».proof.Proof.Gen.Kernel4Ideal.Value
public import Idealize.ShloMosaic.Lib.Pointwise
public import Idealize.ShloMosaic.Lib.Ring
public import Idealize.ShloMosaic.Lib.Pipeline.ValueKit

@[expose] public section

set_option maxRecDepth 16384

noncomputable section

namespace Cert.Kernel4Ideal.Out

open Idealize.ShloMosaic Idealize.ShloMosaic.Pointwise
open Cert.Kernel4Ideal Cert.Kernel4Ideal.Gen

/-- A row of the two mixers through the output weights, at a channel. -/
def mixed (a b : Fin 1024 → EReal) (w : Fin 2048 → Fin 2048 → EReal) (n : Fin 2048) : EReal :=
  (∑ k : Fin 1024, a k * w ⟨k.val, by omega⟩ n) + ∑ k : Fin 1024, b k * w ⟨1024 + k.val, by omega⟩ n

/-- The row added, through its gate, to the input's. -/
def resid (x gt mx : Fin 2048 → EReal) (n : Fin 2048) : EReal := x n + gt n * mx n

/-- A row, normed and modulated, at a channel. -/
def nrow (x g sc sh : Fin 2048 → EReal) (k : Fin 2048) : EReal :=
  x k * Ideal.rsqrt (Ideal.div (∑ j, x j * x j) (Ideal.ofBits .f32 0x45000000#32) + Ideal.ofBits .f32 0x358637BD#32) * g k
    * (1 + sc k) + sh k

section
variable (w : Vec Ideal S2048x2048 .bf16) (a b : Vec Ideal S128x1024 .bf16) (r : Fin 128) (n : Fin 2048)

theorem pay2_read : k0_pay2 w a b (ix2 r n) = mixed (fun k => a (ix2 r k)) (fun k => b (ix2 r k)) (fun k j => w (ix2 k j)) n := by
  unfold mixed
  pointwise [k0_pay2, k0_pay1]

theorem pay3_eq : k0_pay3 w a b = k0_pay2 w a b := rfl
theorem pay4_eq : k0_pay4 w a b = k0_pay2 w a b := rfl
theorem pay5_eq : k0_pay5 w a b = k0_pay2 w a b := rfl
end

section
variable (mx : FVec Ideal S128x2048 .f32) (x : Vec Ideal S128x2048 .f32) (gt sc sh : Vec Ideal S1x1x2048 .f32) (g : Vec Ideal S1x2048 .f32) (r : Fin 128) (n : Fin 2048)

theorem pay6_read : k0_pay6 mx x gt (ix2 r n) = resid (fun j => x (ix2 r j)) (fun j => gt (ix3 0 0 j)) (fun j => mx (ix2 r j)) n := by
  unfold resid
  pointwise [k0_pay6]

theorem pay10_eq : k0_pay10 mx x gt = k0_pay6 mx x gt := rfl
theorem pay14_eq : k0_pay14 mx x gt = k0_pay6 mx x gt := rfl
theorem pay18_eq : k0_pay18 mx x gt = k0_pay6 mx x gt := rfl

theorem pay7_read : k0_pay7 mx x gt g sc sh (ix2 r n)
    = nrow (fun j => k0_pay6 mx x gt (ix2 r j)) (fun j => g (ix2 0 j)) (fun j => sc (ix3 0 0 j)) (fun j => sh (ix3 0 0 j)) n := by
  unfold nrow k0_pay7
  generalize k0_pay6 mx x gt = v
  pointwise

theorem pay11_eq : k0_pay11 mx x gt g sc sh = k0_pay7 mx x gt g sc sh := rfl
theorem pay15_eq : k0_pay15 mx x gt g sc sh = k0_pay7 mx x gt g sc sh := rfl
theorem pay19_eq : k0_pay19 mx x gt g sc sh = k0_pay7 mx x gt g sc sh := rfl
end

end Cert.Kernel4Ideal.Out
end
-- ==== Proof.OutVals.lean ====
/-
  What a grid point of the output projection leaves in its two outputs' buffers, as functions of the blocks it reads.
-/
module

public import proofs.«01_k».proof.Proof.OutPoint

@[expose] public section

set_option maxRecDepth 16384

noncomputable section

namespace Cert.Kernel4Ideal.Out

open Idealize.ShloMosaic Idealize.ShloMosaic.Pointwise Idealize.ShloMosaic.Tactic
open Cert.Kernel4Ideal Cert.Kernel4Ideal.Gen

theorem emb2 {a b a' b' o : ℕ} (inb) (r : Fin a') (k : Fin b') (r' : Fin a) (k' : Fin b) (hr : r'.val = o + r.val) (hk : k'.val = k.val) :
    (Rect.unit (s := ⟨2, ![a, b]⟩) ![o, 0] ![a', b'] inb).emb (ix2 r k) = ix2 r' k' :=
  Rect.emb_eq_of_coords _ _ _ fun x => by
    fin_cases x
    · show r'.val = o + 1 * r.val; omega
    · show k'.val = 0 + 1 * k.val; omega

theorem emb3 {a : ℕ} (inb) (k : Fin a) :
    (Rect.unit (s := ⟨3, ![1, 1, a]⟩) ![0, 0, 0] ![1, 1, a] inb).emb (ix3 0 0 k) = ix3 0 0 k :=
  Rect.emb_eq_of_coords _ _ _ fun x => by
    fin_cases x
    · rfl
    · rfl
    · show k.val = 0 + 1 * k.val; omega

theorem ix2_eta {a b : ℕ} (x : (⟨2, ![a, b]⟩ : Shape).Idx) : x = ix2 (x 0) (x 1) := by
  funext k; fin_cases k <;> rfl

/-- Pieces that cover a buffer and agree with `G` leave `G`. -/
theorem canon_eq {S : Shape} {e : EltTy} (L : List (View.Piece (Elt Ideal) S e)) (G : S.Idx → Elt Ideal e)
    (hc : ∀ y, ∃ p ∈ L, y ∈ p.1.set) (h : ∀ p ∈ L, ∀ x, p.2 x = G (p.1.emb x)) : View.canon L = G :=
  funext fun y => View.canon_eq_of_allAt L y (G y) (hc y) fun p hp x hx => (h p hp x).trans (congrArg G hx)

section
variable (x0 x1 : Vec Ideal S512x1024 .bf16) (x2 : Vec Ideal S512x2048 .f32) (x3 x4 x5 : Vec Ideal S1x1x2048 .f32) (x6 : Vec Ideal S1x2048 .f32) (x7 : Vec Ideal S2048x2048 .bf16)

/-- The rows after the mixers. -/
def rowsF : Vec Ideal S512x2048 .f32 := fun y =>
  resid (fun j => x2 (ix2 (y 0) j)) (fun j => x3 (ix3 0 0 j)) (mixed (fun k => x0 (ix2 (y 0) k)) (fun k => x1 (ix2 (y 0) k)) (fun k j => x7 (ix2 k j))) (y 1)

/-- The same, normed and modulated. -/
def normF : Vec Ideal S512x2048 .f32 := fun y =>
  nrow (fun j => rowsF x0 x1 x2 x3 x7 (ix2 (y 0) j)) (fun j => x6 (ix2 0 j)) (fun j => x4 (ix3 0 0 j)) (fun j => x5 (ix3 0 0 j)) (y 1)

theorem rows_at {o : ℕ} (i0 i1 i2 i3 i7) (r : Fin 128) (n : Fin 2048) (r' : Fin 512) (hr : r'.val = o + r.val) :
    k0_pay6 (k0_pay2 (View.ld x7 (Rect.unit (s := S2048x2048) ![0, 0] ![2048, 2048] i7)) (View.ld x0 (Rect.unit (s := S512x1024) ![o, 0] ![128, 1024] i0)) (View.ld x1 (Rect.unit (s := S512x1024) ![o, 0] ![128, 1024] i1)))
        (View.ld x2 (Rect.unit (s := S512x2048) ![o, 0] ![128, 2048] i2)) (View.ld x3 (Rect.unit (s := S1x1x2048) ![0, 0, 0] ![1, 1, 2048] i3)) (ix2 r n)
      = rowsF x0 x1 x2 x3 x7 (ix2 r' n) := by
  refine (pay6_read _ _ _ r n).trans ?_
  have e2 : ∀ j, View.ld x2 (Rect.unit (s := S512x2048) ![o, 0] ![128, 2048] i2) (ix2 r j) = x2 (ix2 r' j) := fun j => congrArg x2 (emb2 i2 r j r' j hr rfl)
  have e3 : ∀ j, View.ld x3 (Rect.unit (s := S1x1x2048) ![0, 0, 0] ![1, 1, 2048] i3) (ix3 0 0 j) = x3 (ix3 0 0 j) := fun j => congrArg x3 (emb3 i3 j)
  have e0 : ∀ j, View.ld x0 (Rect.unit (s := S512x1024) ![o, 0] ![128, 1024] i0) (ix2 r j) = x0 (ix2 r' j) := fun j => congrArg x0 (emb2 i0 r j r' j hr rfl)
  have e1 : ∀ j, View.ld x1 (Rect.unit (s := S512x1024) ![o, 0] ![128, 1024] i1) (ix2 r j) = x1 (ix2 r' j) := fun j => congrArg x1 (emb2 i1 r j r' j hr rfl)
  have e7 : ∀ k j, View.ld x7 (Rect.unit (s := S2048x2048) ![0, 0] ![2048, 2048] i7) (ix2 k j) = x7 (ix2 k j) := fun k j => congrArg x7 (emb2 i7 k j k j (Nat.zero_add _).symm rfl)
  have em : ∀ j, k0_pay2 (View.ld x7 (Rect.unit (s := S2048x2048) ![0, 0] ![2048, 2048] i7)) (View.ld x0 (Rect.unit (s := S512x1024) ![o, 0] ![128, 1024] i0)) (View.ld x1 (Rect.unit (s := S512x1024) ![o, 0] ![128, 1024] i1)) (ix2 r j)
      = mixed (fun k => x0 (ix2 r' k)) (fun k => x1 (ix2 r' k)) (fun k j => x7 (ix2 k j)) j := fun j => by
    refine (pay2_read _ _ _ r j).trans ?_
    simp only [e0, e1, e7]
  simp only [e2, e3, em]
  rfl

theorem norm_at {o : ℕ} (i0 i1 i2 i3 i7 i6 i4 i5) (r : Fin 128) (n : Fin 2048) (r' : Fin 512) (hr : r'.val = o + r.val) :
    k0_pay7 (k0_pay2 (View.ld x7 (Rect.unit (s := S2048x2048) ![0, 0] ![2048, 2048] i7)) (View.ld x0 (Rect.unit (s := S512x1024) ![o, 0] ![128, 1024] i0)) (View.ld x1 (Rect.unit (s := S512x1024) ![o, 0] ![128, 1024] i1)))
        (View.ld x2 (Rect.unit (s := S512x2048) ![o, 0] ![128, 2048] i2)) (View.ld x3 (Rect.unit (s := S1x1x2048) ![0, 0, 0] ![1, 1, 2048] i3))
        (View.ld x6 (Rect.unit (s := S1x2048) ![0, 0] ![1, 2048] i6)) (View.ld x4 (Rect.unit (s := S1x1x2048) ![0, 0, 0] ![1, 1, 2048] i4))
        (View.ld x5 (Rect.unit (s := S1x1x2048) ![0, 0, 0] ![1, 1, 2048] i5)) (ix2 r n)
      = normF x0 x1 x2 x3 x4 x5 x6 x7 (ix2 r' n) := by
  refine (pay7_read _ _ _ _ _ _ r n).trans ?_
  have e6 : ∀ j, View.ld x6 (Rect.unit (s := S1x2048) ![0, 0] ![1, 2048] i6) (ix2 0 j) = x6 (ix2 0 j) := fun j => congrArg x6 (emb2 i6 0 j 0 j rfl rfl)
  have e4 : ∀ j, View.ld x4 (Rect.unit (s := S1x1x2048) ![0, 0, 0] ![1, 1, 2048] i4) (ix3 0 0 j) = x4 (ix3 0 0 j) := fun j => congrArg x4 (emb3 i4 j)
  have e5 : ∀ j, View.ld x5 (Rect.unit (s := S1x1x2048) ![0, 0, 0] ![1, 1, 2048] i5) (ix3 0 0 j) = x5 (ix3 0 0 j) := fun j => congrArg x5 (emb3 i5 j)
  have er := fun j => rows_at x0 x1 x2 x3 x7 i0 i1 i2 i3 i7 r j r' hr
  simp only [e4, e5, e6, er]
  rfl

theorem lt_of_row {o : ℕ} (h : o ≤ 384) (r : Fin 128) : o + r.val < 512 := by omega

variable (x8 x9 : Vec Ideal S2048x128 .bf16) (x10 : Vec Ideal S1x128 .f32)

theorem out11 : out0_11 x0 x1 x2 x3 x4 x5 x6 x7 x8 x9 x10 = rowsF x0 x1 x2 x3 x7 := by
  unfold out0_11
  refine canon_eq _ _ (View.cover_of_tiledL (s := S512x2048) _ ![128, 2048] (by rfl)) ?_
  simp only [List.forall_mem_cons, List.not_mem_nil, false_implies, implies_true, and_true]
  refine ⟨fun x => ?_, fun x => ?_, fun x => ?_, fun x => ?_⟩ <;> obtain ⟨r, n, rfl⟩ : ∃ (r : Fin 128) (n : Fin 2048), x = ix2 r n := ⟨x 0, x 1, ix2_eta x⟩
  · exact (rows_at x0 x1 x2 x3 x7 _ _ _ _ _ r n ⟨384 + r.val, lt_of_row (by decide) r⟩ rfl).trans (congrArg _ (emb2 _ r n _ _ rfl rfl).symm)
  · exact (rows_at x0 x1 x2 x3 x7 _ _ _ _ _ r n ⟨256 + r.val, lt_of_row (by decide) r⟩ rfl).trans (congrArg _ (emb2 _ r n _ _ rfl rfl).symm)
  · exact (rows_at x0 x1 x2 x3 x7 _ _ _ _ _ r n ⟨128 + r.val, lt_of_row (by decide) r⟩ rfl).trans (congrArg _ (emb2 _ r n _ _ rfl rfl).symm)
  · exact (rows_at x0 x1 x2 x3 x7 _ _ _ _ _ r n ⟨0 + r.val, lt_of_row (by decide) r⟩ rfl).trans (congrArg _ (emb2 _ r n _ _ rfl rfl).symm)

theorem out12 : out0_12 x0 x1 x2 x3 x4 x5 x6 x7 x8 x9 x10 = normF x0 x1 x2 x3 x4 x5 x6 x7 := by
  unfold out0_12
  refine canon_eq _ _ (View.cover_of_tiledL (s := S512x2048) _ ![128, 2048] (by rfl)) ?_
  simp only [List.forall_mem_cons, List.not_mem_nil, false_implies, implies_true, and_true]
  refine ⟨fun x => ?_, fun x => ?_, fun x => ?_, fun x => ?_⟩ <;> obtain ⟨r, n, rfl⟩ : ∃ (r : Fin 128) (n : Fin 2048), x = ix2 r n := ⟨x 0, x 1, ix2_eta x⟩
  · exact (norm_at x0 x1 x2 x3 x4 x5 x6 x7 _ _ _ _ _ _ _ _ r n ⟨384 + r.val, lt_of_row (by decide) r⟩ rfl).trans (congrArg _ (emb2 _ r n _ _ rfl rfl).symm)
  · exact (norm_at x0 x1 x2 x3 x4 x5 x6 x7 _ _ _ _ _ _ _ _ r n ⟨256 + r.val, lt_of_row (by decide) r⟩ rfl).trans (congrArg _ (emb2 _ r n _ _ rfl rfl).symm)
  · exact (norm_at x0 x1 x2 x3 x4 x5 x6 x7 _ _ _ _ _ _ _ _ r n ⟨128 + r.val, lt_of_row (by decide) r⟩ rfl).trans (congrArg _ (emb2 _ r n _ _ rfl rfl).symm)
  · exact (norm_at x0 x1 x2 x3 x4 x5 x6 x7 _ _ _ _ _ _ _ _ r n ⟨0 + r.val, lt_of_row (by decide) r⟩ rfl).trans (congrArg _ (emb2 _ r n _ _ rfl rfl).symm)
end

end Cert.Kernel4Ideal.Out
end
-- ==== Proof.OutArr.lean ====
/-
  The output projection's arrays of the mixed rows, element by element.
-/
module

public import proofs.«01_k».proof.Proof.OutVals
public import proofs.«01_k».proof.Defs

@[expose] public section

set_option maxRecDepth 16384

noncomputable section

namespace Cert.Kernel4Ideal.Out

open Cert.Kernel4Ideal Cert.Kernel4Ideal.Gen
open Idealize.ShloMosaic Idealize.ShloMosaic.Pointwise
open Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The recurrence's rows. -/
abbrev recA (p : Fin 16384) (k : Fin 1024) : EReal := (m ((c : Thread nD τ).loc main_arg0) : Vec Ideal S16384x1024 .bf16) (ix2 p k)
/-- The attention's rows. -/
abbrev attA (p : Fin 16384) (k : Fin 1024) : EReal := (m ((c : Thread nD τ).loc main_arg1) : Vec Ideal S16384x1024 .bf16) (ix2 p k)
/-- The input, by batch, row and column. -/
abbrev xA (b : Fin 2) (s : Fin 8192) (j : Fin 2048) : EReal := (m ((c : Thread nD τ).loc main_arg2) : Vec Ideal S2x8192x2048 .f32) (ix3 b s j)
/-- The gate, by batch and column. -/
abbrev gtA (b : Fin 2) (j : Fin 2048) : EReal := (m ((c : Thread nD τ).loc main_arg3) : Vec Ideal S2x1x2048 .f32) (ix3 b 0 j)
/-- The scale less one, by batch and column. -/
abbrev scA (b : Fin 2) (j : Fin 2048) : EReal := (m ((c : Thread nD τ).loc main_arg4) : Vec Ideal S2x1x2048 .f32) (ix3 b 0 j)
/-- The shift, by batch and column. -/
abbrev shA (b : Fin 2) (j : Fin 2048) : EReal := (m ((c : Thread nD τ).loc main_arg5) : Vec Ideal S2x1x2048 .f32) (ix3 b 0 j)
/-- The gains, by column. -/
abbrev gA (j : Fin 2048) : EReal := (m ((c : Thread nD τ).loc main_arg6) : Vec Ideal S1x2048 .f32) (ix2 0 j)
/-- The weights, by row and column. -/
abbrev wA (k : Fin 2048) (n : Fin 2048) : EReal := (m ((c : Thread nD τ).loc main_arg7) : Vec Ideal S1x2048x2048 .f32) (ix3 0 k n)

/-- A row's batch. -/
def bOf (p : Fin 16384) : Fin 2 := ⟨p.val / 8192, by omega⟩
/-- A row's place in its batch. -/
def sOf (p : Fin 16384) : Fin 8192 := ⟨p.val % 8192, Nat.mod_lt _ (by decide)⟩

/-- A row after the mixers. -/
def yA (p : Fin 16384) (n : Fin 2048) : EReal :=
  resid (fun j => xA m c (bOf p) (sOf p) j) (gtA m c (bOf p)) (mixed (recA m c p) (attA m c p) (wA m c)) n
/-- The same, normed and modulated. -/
def hA (p : Fin 16384) (n : Fin 2048) : EReal := nrow (yA m c p) (gA m c) (scA m c (bOf p)) (shA m c (bOf p)) n

/-! ## The prepared operands -/

theorem flat_at (X : FVec Ideal S2x8192x2048 .f32) (p : Fin 16384) (j : Fin 2048) :
    shapeCast S16384x2048 X shapeCasts_S2x8192x2048_S16384x2048 (ix2 p j) = X (ix3 (bOf p) (sOf p) j) := by
  unfold bOf sOf
  pointwise

theorem weights_at (X : FVec Ideal S1x2048x2048 .f32) (k : Fin 2048) (n : Fin 2048) :
    truncf (F := Ideal) .bf16 (shapeCast S2048x2048 X shapeCasts_S1x2048x2048_S2048x2048) bitsLt_bf16_f32 (ix2 k n) = X (ix3 0 k n) := by
  pointwise

theorem V_x (p : Fin 16384) (j : Fin 2048) : (V m c main_v9 : Vec Ideal S16384x2048 .f32) (ix2 p j) = xA m c (bOf p) (sOf p) j := by
  have e : (V m c main_v9 : Vec Ideal S16384x2048 .f32)
      = shapeCast S16384x2048 (m ((c : Thread nD τ).loc main_arg2) : Vec Ideal S2x8192x2048 .f32) shapeCasts_S2x8192x2048_S16384x2048 := rfl
  rw [e]
  exact flat_at _ p j

theorem V_g (j : Fin 2048) : (V m c main_v11 : Vec Ideal S1x2048 .f32) (ix2 0 j) = gA m c j := by
  have e : (V m c main_v11 : Vec Ideal S1x2048 .f32)
      = shapeCast S1x2048 (shapeCast S2048 (m ((c : Thread nD τ).loc main_arg6) : Vec Ideal S1x2048 .f32) shapeCasts_S1x2048_S2048) shapeCasts_S2048_S1x2048 := rfl
  rw [e]
  pointwise

theorem V_w (k : Fin 2048) (n : Fin 2048) : (V m c main_v13 : Vec Ideal S2048x2048 .bf16) (ix2 k n) = wA m c k n := by
  have e : (V m c main_v13 : Vec Ideal S2048x2048 .bf16)
      = truncf (F := Ideal) .bf16 (shapeCast S2048x2048 (m ((c : Thread nD τ).loc main_arg7) : FVec Ideal S1x2048x2048 .f32) shapeCasts_S1x2048x2048_S2048x2048) bitsLt_bf16_f32 := rfl
  rw [e]
  exact weights_at _ k n

/-! ## What each point reads -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx11 : ∀ t : Fin cfg0.N, win0_11.index t 0 = t.val ∧ win0_11.index t 1 = 0 := by decide +kernel
theorem idx12 : ∀ t : Fin cfg0.N, win0_12.index t 0 = t.val ∧ win0_12.index t 1 = 0 := by decide +kernel
theorem idx3 : ∀ t : Fin cfg0.N, win0_3.index t 0 = t.val / 16 ∧ win0_3.index t 1 = 0 ∧ win0_3.index t 2 = 0 := by decide +kernel
theorem idx4 : ∀ t : Fin cfg0.N, win0_4.index t 0 = t.val / 16 ∧ win0_4.index t 1 = 0 ∧ win0_4.index t 2 = 0 := by decide +kernel
theorem idx5 : ∀ t : Fin cfg0.N, win0_5.index t 0 = t.val / 16 ∧ win0_5.index t 1 = 0 ∧ win0_5.index t 2 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel

/-- The row a point's block holds at a place. -/
def rowOf (t : Fin cfg0.N) (r : Fin 512) : Fin 16384 :=
  ⟨t.val * 512 + r.val, by have ht : t.val < 32 := Nat.lt_of_lt_of_eq t.isLt N_0; omega⟩

theorem bOf_row (t : Fin cfg0.N) (r : Fin 512) : (bOf (rowOf t r)).val = t.val / 16 := by
  show (t.val * 512 + r.val) / 8192 = t.val / 16
  omega

theorem blk2 (t : Fin cfg0.N) (r : Fin 512) (j : Fin 2048) : (iblk m c 2 t : Vec Ideal S512x2048 .f32) (ix2 r j) = xA m c (bOf (rowOf t r)) (sOf (rowOf t r)) j := by
  have hx := idx2 t
  rw [← V_x]
  unfold iblk
  rw [View.read_apply]
  show V m c main_v9 _ = _
  refine congrArg (V m c main_v9) (funext fun a => Fin.ext ?_)
  match a with
  | ⟨0, _⟩ => show win0_2.index t 0 * 512 + 1 * r.val = t.val * 512 + r.val; rw [hx.1]; omega
  | ⟨1, _⟩ => show win0_2.index t 1 * 2048 + 1 * j.val = j.val; rw [hx.2]; omega

theorem blk0 (t : Fin cfg0.N) (r : Fin 512) (j : Fin 1024) : (iblk m c 0 t : Vec Ideal S512x1024 .bf16) (ix2 r j) = recA m c (rowOf t r) j := by
  have hx := idx0 t
  unfold iblk
  rw [View.read_apply]
  show V m c main_arg0 _ = _
  rw [V_main_arg0]
  refine congrArg (m (c.tc.loc main_arg0)) (funext fun a => Fin.ext ?_)
  match a with
  | ⟨0, _⟩ => show win0_0.index t 0 * 512 + 1 * r.val = t.val * 512 + r.val; rw [hx.1]; omega
  | ⟨1, _⟩ => show win0_0.index t 1 * 1024 + 1 * j.val = j.val; rw [hx.2]; omega

theorem blk1 (t : Fin cfg0.N) (r : Fin 512) (j : Fin 1024) : (iblk m c 1 t : Vec Ideal S512x1024 .bf16) (ix2 r j) = attA m c (rowOf t r) j := by
  have hx := idx1 t
  unfold iblk
  rw [View.read_apply]
  show V m c main_arg1 _ = _
  rw [V_main_arg1]
  refine congrArg (m (c.tc.loc main_arg1)) (funext fun a => Fin.ext ?_)
  match a with
  | ⟨0, _⟩ => show win0_1.index t 0 * 512 + 1 * r.val = t.val * 512 + r.val; rw [hx.1]; omega
  | ⟨1, _⟩ => show win0_1.index t 1 * 1024 + 1 * j.val = j.val; rw [hx.2]; omega

theorem blk3 (t : Fin cfg0.N) (r : Fin 512) (j : Fin 2048) : (iblk m c 3 t : Vec Ideal S1x1x2048 .f32) (ix3 0 0 j) = gtA m c (bOf (rowOf t r)) j := by
  have hx := idx3 t
  have hb := bOf_row t r
  unfold iblk
  rw [View.read_apply]
  show V m c main_arg3 _ = _
  rw [V_main_arg3]
  refine congrArg (m (c.tc.loc main_arg3)) (funext fun a => Fin.ext ?_)
  match a with
  | ⟨0, _⟩ => show win0_3.index t 0 * 1 + 1 * 0 = (bOf (rowOf t r)).val; rw [hx.1, hb]; omega
  | ⟨1, _⟩ => show win0_3.index t 1 * 1 + 1 * 0 = 0; rw [hx.2.1]
  | ⟨2, _⟩ => show win0_3.index t 2 * 2048 + 1 * j.val = j.val; rw [hx.2.2]; omega

theorem blk4 (t : Fin cfg0.N) (r : Fin 512) (j : Fin 2048) : (iblk m c 4 t : Vec Ideal S1x1x2048 .f32) (ix3 0 0 j) = scA m c (bOf (rowOf t r)) j := by
  have hx := idx4 t
  have hb := bOf_row t r
  unfold iblk
  rw [View.read_apply]
  show V m c main_arg4 _ = _
  rw [V_main_arg4]
  refine congrArg (m (c.tc.loc main_arg4)) (funext fun a => Fin.ext ?_)
  match a with
  | ⟨0, _⟩ => show win0_4.index t 0 * 1 + 1 * 0 = (bOf (rowOf t r)).val; rw [hx.1, hb]; omega
  | ⟨1, _⟩ => show win0_4.index t 1 * 1 + 1 * 0 = 0; rw [hx.2.1]
  | ⟨2, _⟩ => show win0_4.index t 2 * 2048 + 1 * j.val = j.val; rw [hx.2.2]; omega

theorem blk5 (t : Fin cfg0.N) (r : Fin 512) (j : Fin 2048) : (iblk m c 5 t : Vec Ideal S1x1x2048 .f32) (ix3 0 0 j) = shA m c (bOf (rowOf t r)) j := by
  have hx := idx5 t
  have hb := bOf_row t r
  unfold iblk
  rw [View.read_apply]
  show V m c main_arg5 _ = _
  rw [V_main_arg5]
  refine congrArg (m (c.tc.loc main_arg5)) (funext fun a => Fin.ext ?_)
  match a with
  | ⟨0, _⟩ => show win0_5.index t 0 * 1 + 1 * 0 = (bOf (rowOf t r)).val; rw [hx.1, hb]; omega
  | ⟨1, _⟩ => show win0_5.index t 1 * 1 + 1 * 0 = 0; rw [hx.2.1]
  | ⟨2, _⟩ => show win0_5.index t 2 * 2048 + 1 * j.val = j.val; rw [hx.2.2]; omega

theorem blk6 (t : Fin cfg0.N) (j : Fin 2048) : (iblk m c 6 t : Vec Ideal S1x2048 .f32) (ix2 0 j) = gA m c j := by
  have hx := idx6 t
  rw [← V_g]
  unfold iblk
  rw [View.read_apply]
  show V m c main_v11 _ = _
  refine congrArg (V m c main_v11) (funext fun a => Fin.ext ?_)
  match a with
  | ⟨0, _⟩ => show win0_6.index t 0 * 1 + 1 * 0 = 0; rw [hx.1]
  | ⟨1, _⟩ => show win0_6.index t 1 * 2048 + 1 * j.val = j.val; rw [hx.2]; omega

theorem blk7 (t : Fin cfg0.N) (k n : Fin 2048) : (iblk m c 7 t : Vec Ideal S2048x2048 .bf16) (ix2 k n) = wA m c k n := by
  have hx := idx7 t
  rw [← V_w]
  unfold iblk
  rw [View.read_apply]
  show V m c main_v13 _ = _
  refine congrArg (V m c main_v13) (funext fun a => Fin.ext ?_)
  match a with
  | ⟨0, _⟩ => show win0_7.index t 0 * 2048 + 1 * k.val = k.val; rw [hx.1]; omega
  | ⟨1, _⟩ => show win0_7.index t 1 * 2048 + 1 * n.val = n.val; rw [hx.2]; omega

/-! ## What each point leaves -/

theorem rows_read (t : Fin cfg0.N) (r : Fin 512) (n : Fin 2048) :
    rowsF (iblk m c 0 t) (iblk m c 1 t) (iblk m c 2 t) (iblk m c 3 t) (iblk m c 7 t) (ix2 r n) = yA m c (rowOf t r) n := by
  show resid (fun j => (iblk m c 2 t : Vec Ideal S512x2048 .f32) (ix2 r j)) (fun j => (iblk m c 3 t : Vec Ideal S1x1x2048 .f32) (ix3 0 0 j))
    (mixed (fun k => (iblk m c 0 t : Vec Ideal S512x1024 .bf16) (ix2 r k)) (fun k => (iblk m c 1 t : Vec Ideal S512x1024 .bf16) (ix2 r k))
      (fun k j => (iblk m c 7 t : Vec Ideal S2048x2048 .bf16) (ix2 k j))) n = _
  simp only [blk0, blk1, blk2, blk3 m c t r, blk7]
  rfl

theorem norm_read (t : Fin cfg0.N) (r : Fin 512) (n : Fin 2048) :
    normF (iblk m c 0 t) (iblk m c 1 t) (iblk m c 2 t) (iblk m c 3 t) (iblk m c 4 t) (iblk m c 5 t) (iblk m c 6 t) (iblk m c 7 t) (ix2 r n) = hA m c (rowOf t r) n := by
  show nrow (fun j => rowsF (iblk m c 0 t) (iblk m c 1 t) (iblk m c 2 t) (iblk m c 3 t) (iblk m c 7 t) (ix2 r j)) (fun j => (iblk m c 6 t : Vec Ideal S1x2048 .f32) (ix2 0 j))
    (fun j => (iblk m c 4 t : Vec Ideal S1x1x2048 .f32) (ix3 0 0 j)) (fun j => (iblk m c 5 t : Vec Ideal S1x1x2048 .f32) (ix3 0 0 j)) n = _
  simp only [rows_read, blk4 m c t r, blk5 m c t r, blk6]
  rfl

/-! ## The arrays -/

theorem covers11 : (cfg0.win (11 : Fin 16)).Covers := by decide +kernel
theorem covers12 : (cfg0.win (12 : Fin 16)).Covers := by decide +kernel

/-- The rows after the mixers. -/
theorem final11 : ((dats m 0 c).arrAt (11 : Fin 16) cfg0.N : Vec Ideal S16384x2048 .f32) = fun i : S16384x2048.Idx => yA m c (i 0) (i 1) := by
  refine (dats m 0 c).arrAt_eq_of_covers (11 : Fin 16) (fun i : S16384x2048.Idx => yA m c (i 0) (i 1)) covers11 fun t hf y => ?_
  have hl := rows_read m c t (y 0) (y 1)
  have hx := idx11 t
  refine Eq.trans ?_ (hl.trans ?_)
  · rw [after0_11, out11]
    refine congrArg (rowsF (iblk m c 0 t) (iblk m c 1 t) (iblk m c 2 t) (iblk m c 3 t) (iblk m c 7 t)) (funext fun b => Fin.ext ?_)
    match b with
    | ⟨0, _⟩ => rfl
    | ⟨1, _⟩ => rfl
  · refine congrArg₂ (yA m c) (Fin.ext ?_) (Fin.ext ?_)
    · show t.val * 512 + (y 0).val = win0_11.index t 0 * 512 + 1 * (y 0).val
      rw [hx.1]; omega
    · show (y 1).val = win0_11.index t 1 * 2048 + 1 * (y 1).val
      rw [hx.2]; omega

/-- The same, normed and modulated. -/
theorem final12 : ((dats m 0 c).arrAt (12 : Fin 16) cfg0.N : Vec Ideal S16384x2048 .f32) = fun i : S16384x2048.Idx => hA m c (i 0) (i 1) := by
  refine (dats m 0 c).arrAt_eq_of_covers (12 : Fin 16) (fun i : S16384x2048.Idx => hA m c (i 0) (i 1)) covers12 fun t hf y => ?_
  have hl := norm_read m c t (y 0) (y 1)
  have hx := idx12 t
  refine Eq.trans ?_ (hl.trans ?_)
  · rw [after0_12, out12]
    refine congrArg (normF (iblk m c 0 t) (iblk m c 1 t) (iblk m c 2 t) (iblk m c 3 t) (iblk m c 4 t) (iblk m c 5 t) (iblk m c 6 t) (iblk m c 7 t)) (funext fun b => Fin.ext ?_)
    match b with
    | ⟨0, _⟩ => rfl
    | ⟨1, _⟩ => rfl
  · refine congrArg₂ (hA m c) (Fin.ext ?_) (Fin.ext ?_)
    · show t.val * 512 + (y 0).val = win0_12.index t 0 * 512 + 1 * (y 0).val
      rw [hx.1]; omega
    · show (y 1).val = win0_12.index t 1 * 2048 + 1 * (y 1).val
      rw [hx.2]; omega

/-- The launch ends with its arguments as they were and every counter at zero. -/
theorem quiet : Cert.quiescent_Kernel4Ideal := fun m ρ _ => Cert.Kernel4Ideal.Gen.frame m ρ

end Cert.Kernel4Ideal.Out
end
-- ==== Proof.OutRef.lean ====
/-
  The fourth reference's results, element by element.
-/
module

public import proofs.«01_k».proof.Proof.Gen.Reference4Ideal.Run
public import proofs.«01_k».proof.Proof.OutPoint
public import Idealize.ShloMosaic.Lib.Pointwise

@[expose] public section

set_option maxRecDepth 16384

noncomputable section

namespace Cert.Reference4Ideal.Out

open Idealize.ShloMosaic Idealize.ShloMosaic.Pointwise Idealize.ShloMosaic.TcCoe Idealize.SL.Sem
open Cert.Reference4Ideal Cert.Reference4Ideal.Gen
open Cert.Kernel4Ideal.Out (mixed resid nrow)

variable (a b : FVec Ideal S16384x1024 .bf16) (x : FVec Ideal S2x8192x2048 .f32) (gt sc sh : FVec Ideal S2x1x2048 .f32) (g : FVec Ideal S1x2048 .f32) (w : FVec Ideal S1x2048x2048 .f32)

/-- The two mixers' outputs side by side. -/
def both : FVec Ideal S2x8192x2048 .bf16 :=
  concatenate S2x8192x2048 2 [⟨S2x8192x1024, (shapeCast _ a shapeCasts_S16384x1024_S2x8192x1024)⟩, ⟨S2x8192x1024, (shapeCast _ b shapeCasts_S16384x1024_S2x8192x1024)⟩] concatenates_S2x8192x1024_S2x8192x1024_S2x8192x2048_d2

theorem left_at (i : Fin 2) (s : Fin 8192) (k : Fin 1024) :
    both a b (ix3 i s ⟨k.val, by omega⟩) = a (ix2 ⟨i.val * 8192 + s.val, by omega⟩ k) := by
  have hk := k.isLt
  pointwise [both]

theorem both_left (i : Fin 2) (s : Fin 8192) (k : Fin 1024) (p : Fin 16384) (hp : p.val = i.val * 8192 + s.val) :
    both a b (ix3 i s ⟨k.val, by omega⟩) = a (ix2 p k) := by
  rw [left_at]
  exact congrArg (fun q => a (ix2 q k)) (Fin.ext hp.symm)

theorem right_at (i : Fin 2) (s : Fin 8192) (k : Fin 1024) :
    both a b (ix3 i s ⟨1024 + k.val, by omega⟩) = b (ix2 ⟨i.val * 8192 + s.val, by omega⟩ k) := by
  have hk := k.isLt
  pointwise [both]

theorem both_right (i : Fin 2) (s : Fin 8192) (k : Fin 1024) (p : Fin 16384) (hp : p.val = i.val * 8192 + s.val) :
    both a b (ix3 i s ⟨1024 + k.val, by omega⟩) = b (ix2 p k) := by
  rw [right_at]
  exact congrArg (fun q => b (ix2 q k)) (Fin.ext hp.symm)

/-- The output weights' product. -/
def prod (B : FVec Ideal S2x8192x2048 .bf16) : FVec Ideal S2x8192x2048 .f32 :=
  Host.dotGeneral dot_S2x8192x2048_S2048x2048_S2x8192x2048_2_0_01_1_n_n none (extf .f32 B bitsLt_bf16_f32) (shapeCast _ w shapeCasts_S1x2048x2048_S2048x2048)

theorem prod_at (B : FVec Ideal S2x8192x2048 .bf16) (i : Fin 2) (s : Fin 8192) (n : Fin 2048) :
    prod w B (ix3 i s n) = ∑ k : Fin 2048, B (ix3 i s k) * w (ix3 0 k n) := by
  pointwise [prod]

/-- A sum over the channels is the sums over its two halves. -/
theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

theorem prod_both (i : Fin 2) (s : Fin 8192) (n : Fin 2048) (p : Fin 16384) (hp : p.val = i.val * 8192 + s.val) :
    prod w (both a b) (ix3 i s n) = mixed (fun k => a (ix2 p k)) (fun k => b (ix2 p k)) (fun k j => w (ix3 0 k j)) n := by
  rw [prod_at, sum_halves]
  unfold mixed
  refine congrArg₂ (· + ·) (Finset.sum_congr rfl fun k _ => ?_) (Finset.sum_congr rfl fun k _ => ?_)
  · rw [both_left a b i s k p hp]
  · rw [both_right a b i s k p hp]

/-- The rows after the mixers. -/
def rows (M : FVec Ideal S2x8192x2048 .f32) : FVec Ideal S2x8192x2048 .f32 :=
  addf x (mulf (broadcastInDim S2x8192x2048 ![0, 1, 2] bcast_S2x1x2048_S2x8192x2048_0_1_2 gt) M)

theorem rows_at (M : FVec Ideal S2x8192x2048 .f32) (i : Fin 2) (s : Fin 8192) (n : Fin 2048) :
    rows x gt M (ix3 i s n) = resid (fun j => x (ix3 i s j)) (fun j => gt (ix3 i 0 j)) (fun j => M (ix3 i s j)) n := by
  unfold resid
  pointwise [rows]

/-- The same, normed and modulated. -/
def normed (y : FVec Ideal S2x8192x2048 .f32) : FVec Ideal S2x8192x2048 .f32 :=
  addf (mulf (mulf (mulf y (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf y y) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast _ g shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) sc))) (broadcastInDim S2x8192x2048 ![0, 1, 2] bcast_S2x1x2048_S2x8192x2048_0_1_2 sh)

theorem normed_at (y : FVec Ideal S2x8192x2048 .f32) (i : Fin 2) (s : Fin 8192) (k : Fin 2048) :
    normed sc sh g y (ix3 i s k) = nrow (fun j => y (ix3 i s j)) (fun j => g (ix2 0 j)) (fun j => sc (ix3 i 0 j)) (fun j => sh (ix3 i 0 j)) k := by
  unfold nrow
  pointwise [normed]

/-- Rows in one axis. -/
def flat (y : FVec Ideal S2x8192x2048 .f32) : FVec Ideal S16384x2048 .f32 := shapeCast _ y shapeCasts_S2x8192x2048_S16384x2048

theorem flat_at (y : FVec Ideal S2x8192x2048 .f32) (p : Fin 16384) (n : Fin 2048) :
    flat y (ix2 p n) = y (ix3 ⟨p.val / 8192, by omega⟩ ⟨p.val % 8192, Nat.mod_lt _ (by decide)⟩ n) := by
  pointwise [flat]

end Cert.Reference4Ideal.Out
end
-- ==== Proof.OutAlg.lean ====
/-
  The output projection and its reference agree.
-/
module

public import proofs.«01_k».proof.Proof.OutArr
public import proofs.«01_k».proof.Proof.OutRef

@[expose] public section

set_option maxRecDepth 16384

noncomputable section

/-! The output projection's rows and their norm agree with the reference's over the extended reals, whatever the arguments. -/

namespace Cert.Out

open Idealize.ShloMosaic Idealize.ShloMosaic.Pointwise Idealize.ShloMosaic.TcCoe Idealize.SL.Sem
open Cert.Reference4Ideal.Out
open Cert.Kernel4Ideal.Out (yA hA bOf sOf)

variable (m : (ℓ : Loc Cert.Kernel4Ideal.nD Cert.Kernel4Ideal.τ Cert.Kernel4Ideal.sig) → Buf (Elt Ideal) ℓ) (c : Dev Cert.Kernel4Ideal.nD)

/-- The reference's rows, of the kernel's arguments. -/
def refRows : FVec Ideal Cert.Reference4Ideal.S2x8192x2048 .f32 :=
  rows (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (prod (m ((c.tc : Thread Cert.Kernel4Ideal.nD Cert.Kernel4Ideal.τ).loc Cert.Kernel4Ideal.main_arg7))
      (both (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))))

/-- The reference's normed rows, of the kernel's arguments. -/
def refNorm : FVec Ideal Cert.Reference4Ideal.S2x8192x2048 .f32 :=
  normed (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6)) (refRows m c)

theorem row_split (p : Fin 16384) : p.val = (bOf p).val * 8192 + (sOf p).val := by
  show p.val = p.val / 8192 * 8192 + p.val % 8192
  omega

theorem refRows_at (p : Fin 16384) (n : Fin 2048) : refRows m c (ix3 (bOf p) (sOf p) n) = yA m c p n := by
  unfold refRows
  rw [rows_at]
  simp only [prod_both _ _ _ (bOf p) (sOf p) _ p (row_split p)]
  rfl

theorem refNorm_at (p : Fin 16384) (n : Fin 2048) : refNorm m c (ix3 (bOf p) (sOf p) n) = hA m c p n := by
  unfold refNorm
  rw [normed_at]
  simp only [refRows_at]
  rfl

theorem rows_eq : flat (refRows m c) = fun i : Cert.Kernel4Ideal.S16384x2048.Idx => yA m c (i 0) (i 1) := by
  funext i
  obtain ⟨p, n, rfl⟩ : ∃ (p : Fin 16384) (n : Fin 2048), i = ix2 p n := ⟨i 0, i 1, eq_ix2 i⟩
  exact (flat_at _ p n).trans (refRows_at m c p n)

theorem norm_eq : flat (refNorm m c) = fun i : Cert.Kernel4Ideal.S16384x2048.Idx => hA m c (i 0) (i 1) := by
  funext i
  obtain ⟨p, n, rfl⟩ : ∃ (p : Fin 16384) (n : Fin 2048), i = ix2 p n := ⟨i 0, i 1, eq_ix2 i⟩
  exact (flat_at _ p n).trans (refNorm_at m c p n)

/-- The kernel's first two results are the reference's. -/
theorem alg : Cert.algebraic_Kernel4Ideal_Reference4Ideal := by
  intro m ρ m' ρ' _ hagree
  refine ⟨fun c => (Cert.Kernel4Ideal.Gen.dats m 0 c).arrAt (11 : Fin 16) Cert.Kernel4Ideal.cfg0.N,
    fun c => (Cert.Kernel4Ideal.Gen.dats m 0 c).arrAt (12 : Fin 16) Cert.Kernel4Ideal.cfg0.N,
    (θ_run _ _ _).mono (fun r h c => ⟨(h c).1, (h c).2.1, (h c).2.2.2.2.2⟩) (Cert.Kernel4Ideal.Value.run_blocks m ρ), ?_⟩
  refine (θ_run _ _ _).mono (fun r h c => ⟨(h c).1.trans ?_, (h c).2.1.trans ?_, (h c).2.2⟩) (Cert.Reference4Ideal.Value.run m' ρ')
  · obtain ⟨a0, a1, a2, a3, a4, a5, a6, a7, -⟩ := hagree c
    refine Eq.trans ?_ (Cert.Kernel4Ideal.Out.final11 m c).symm
    rw [a0, a1, a2, a3, a7]
    exact rows_eq m c
  · obtain ⟨a0, a1, a2, a3, a4, a5, a6, a7, -⟩ := hagree c
    refine Eq.trans ?_ (Cert.Kernel4Ideal.Out.final12 m c).symm
    rw [a0, a1, a2, a3, a4, a5, a6, a7]
    exact norm_eq m c

/-- The reference runs, leaves its arguments, and ends with every semaphore counter at zero. -/
theorem quiet : Cert.quiescent_Reference4Ideal := fun m ρ _ =>
  (θ_run _ _ _).mono (fun r h => ⟨fun c => (h c).2.2, Idealize.ShloMosaic.sem_eq_zero_of_no_sems (by decide) r.2⟩)
    (Cert.Reference4Ideal.Value.run m ρ)

end Cert.Out

end
-- ==== Proof.Ada.lean ====
/-
  The adaptation's launch over the extended reals, and its reference: the same array.
-/
module

public import proofs.«01_k».proof.Proof.Gen.Kernel5Ideal.Value
public import proofs.«01_k».proof.Proof.Gen.Reference5Ideal.Run
public import proofs.«01_k».proof.Defs
public import Idealize.ShloMosaic.Lib.Pointwise
public import Idealize.ShloMosaic.Lib.Pipeline.ValueKit

@[expose] public section

set_option maxRecDepth 16384

noncomputable section

namespace Cert.Kernel5Ideal.Ada

open Cert.Kernel5Ideal Cert.Kernel5Ideal.Gen
open Idealize.ShloMosaic Idealize.ShloMosaic.Pointwise
open Idealize.ShloMosaic.TcCoe Idealize.SL.Sem
open Idealize.ShloMosaic.Pipeline (Dat Cfg Window)

/-- The conditioning through its gate, the weights and the bias, at a column. -/
def adaRow (x : Fin 2048 → EReal) (w : Fin 2048 → EReal) (b : EReal) : EReal :=
  (∑ k : Fin 2048, x k * Ideal.logistic (x k) * w k) + b

theorem pay_read (x : Vec Ideal S2x2048 .f32) (w : Vec Ideal S2048x512 .f32) (b : Vec Ideal S1x512 .f32) (r : Fin 2) (n : Fin 512) :
    k0_pay1 x w b (ix2 r n) = adaRow (fun k => x (ix2 r k)) (fun k => w (ix2 k n)) (b (ix2 0 n)) := by
  unfold adaRow
  pointwise [k0_pay1]

/-- The block a point leaves. -/
def adaF (x : Vec Ideal S2x2048 .f32) (w : Vec Ideal S2048x512 .f32) (b : Vec Ideal S1x512 .f32) : Vec Ideal S2x512 .f32 := fun y =>
  adaRow (fun k => x (ix2 (y 0) k)) (fun k => w (ix2 k (y 1))) (b (ix2 0 (y 1)))

theorem out3 (x : Vec Ideal S2x2048 .f32) (w : Vec Ideal S2048x512 .f32) (b : Vec Ideal S1x512 .f32) : out0_3 x w b = adaF x w b := by
  have hx : View.ld x r0_0 = x := View.ld_unit_zero (by funext a; fin_cases a <;> rfl) inb_S2x2048_S2x2048_0_0 x
  have hw : View.ld w r0_1 = w := View.ld_unit_zero (by funext a; fin_cases a <;> rfl) inb_S2048x512_S2048x512_0_0 w
  have hb : View.ld b r0_2 = b := View.ld_unit_zero (by funext a; fin_cases a <;> rfl) inb_S1x512_S1x512_0_0 b
  unfold out0_3
  rw [hx, hw, hb]
  refine funext fun y => View.canon_eq_of_allAt _ y _ (cover0_3 _ y) fun p hp z hz => ?_
  obtain rfl := List.mem_singleton.1 hp
  have hzy : z = y := by
    rw [← hz]
    refine funext fun a => Fin.ext ?_
    match a with
    | ⟨0, _⟩ => show (z 0).val = 0 + 1 * (z 0).val; omega
    | ⟨1, _⟩ => show (z 1).val = 0 + 1 * (z 1).val; omega
  rw [hzy]
  have e : y = ix2 (y 0) (y 1) := eq_ix2 y
  show k0_pay1 x w b y = adaF x w b y
  rw [e]
  exact pay_read x w b (y 0) (y 1)

variable (m : (ℓ : Loc nD τ sig) → Buf (Elt Ideal) ℓ) (c : Dev nD)

/-- The weights as a matrix. -/
theorem mat_at (X : FVec Ideal S1x2048x12288 .f32) (k : Fin 2048) (n : Fin 12288) :
    shapeCast S2048x12288 X shapeCasts_S1x2048x12288_S2048x12288 (ix2 k n) = X (ix3 0 k n) := by
  pointwise

theorem bias_at (X : FVec Ideal S1x12288 .f32) (n : Fin 12288) :
    shapeCast S1x12288 (shapeCast S12288 X shapeCasts_S1x12288_S12288) shapeCasts_S12288_S1x12288 (ix2 0 n) = X (ix2 0 n) := by
  pointwise

/-- The conditioning. -/
abbrev cA (b : Fin 2) (k : Fin 2048) : EReal := (m ((c : Thread nD τ).loc main_arg0) : Vec Ideal S2x2048 .f32) (ix2 b k)
/-- The weights. -/
abbrev wA (k : Fin 2048) (n : Fin 12288) : EReal := (m ((c : Thread nD τ).loc main_arg1) : Vec Ideal S1x2048x12288 .f32) (ix3 0 k n)
/-- The bias. -/
abbrev bA (n : Fin 12288) : EReal := (m ((c : Thread nD τ).loc main_arg2) : Vec Ideal S1x12288 .f32) (ix2 0 n)

/-- The adaptation, at a batch and a column. -/
def adaA (b : Fin 2) (n : Fin 12288) : EReal := adaRow (cA m c b) (fun k => wA m c k n) (bA m c n)

theorem V_w (k : Fin 2048) (n : Fin 12288) : (V m c main_v0 : Vec Ideal S2048x12288 .f32) (ix2 k n) = wA m c k n := by
  have e : (V m c main_v0 : Vec Ideal S2048x12288 .f32)
      = shapeCast S2048x12288 (m ((c : Thread nD τ).loc main_arg1) : Vec Ideal S1x2048x12288 .f32) shapeCasts_S1x2048x12288_S2048x12288 := rfl
  rw [e]
  exact mat_at _ k n

theorem V_b (n : Fin 12288) : (V m c main_v2 : Vec Ideal S1x12288 .f32) (ix2 0 n) = bA m c n := by
  have e : (V m c main_v2 : Vec Ideal S1x12288 .f32)
      = shapeCast S1x12288 (shapeCast S12288 (m ((c : Thread nD τ).loc main_arg2) : Vec Ideal S1x12288 .f32) shapeCasts_S1x12288_S12288) shapeCasts_S12288_S1x12288 := rfl
  rw [e]
  exact bias_at _ n

theorem idx0 : ∀ t : Fin cfg0.N, win0_0.index t 0 = 0 ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel

/-- The column a point's block holds at a place. -/
def colOf (t : Fin cfg0.N) (r : Fin 512) : Fin 12288 :=
  ⟨t.val * 512 + r.val, by have ht : t.val < 24 := Nat.lt_of_lt_of_eq t.isLt N_0; omega⟩

theorem blk0 (t : Fin cfg0.N) (b : Fin 2) (k : Fin 2048) : (iblk m c 0 t : Vec Ideal S2x2048 .f32) (ix2 b k) = cA m c b k := by
  have hx := idx0 t
  unfold iblk
  rw [View.read_apply]
  show V m c main_arg0 _ = _
  rw [V_main_arg0]
  refine congrArg (m (c.tc.loc main_arg0)) (funext fun a => Fin.ext ?_)
  match a with
  | ⟨0, _⟩ => show win0_0.index t 0 * 2 + 1 * b.val = b.val; rw [hx.1]; omega
  | ⟨1, _⟩ => show win0_0.index t 1 * 2048 + 1 * k.val = k.val; rw [hx.2]; omega

theorem blk1 (t : Fin cfg0.N) (k : Fin 2048) (n : Fin 512) : (iblk m c 1 t : Vec Ideal S2048x512 .f32) (ix2 k n) = wA m c k (colOf t n) := by
  have hx := idx1 t
  rw [← V_w]
  unfold iblk
  rw [View.read_apply]
  show V m c main_v0 _ = _
  refine congrArg (V m c main_v0) (funext fun a => Fin.ext ?_)
  match a with
  | ⟨0, _⟩ => show win0_1.index t 0 * 2048 + 1 * k.val = k.val; rw [hx.1]; omega
  | ⟨1, _⟩ => show win0_1.index t 1 * 512 + 1 * n.val = t.val * 512 + n.val; rw [hx.2]; omega

theorem blk2 (t : Fin cfg0.N) (n : Fin 512) : (iblk m c 2 t : Vec Ideal S1x512 .f32) (ix2 0 n) = bA m c (colOf t n) := by
  have hx := idx2 t
  rw [← V_b]
  unfold iblk
  rw [View.read_apply]
  show V m c main_v2 _ = _
  refine congrArg (V m c main_v2) (funext fun a => Fin.ext ?_)
  match a with
  | ⟨0, _⟩ => show win0_2.index t 0 * 1 + 1 * 0 = 0; rw [hx.1]
  | ⟨1, _⟩ => show win0_2.index t 1 * 512 + 1 * n.val = t.val * 512 + n.val; rw [hx.2]; omega

theorem ada_read (t : Fin cfg0.N) (b : Fin 2) (n : Fin 512) :
    adaF (iblk m c 0 t) (iblk m c 1 t) (iblk m c 2 t) (ix2 b n) = adaA m c b (colOf t n) := by
  show adaRow (fun k => (iblk m c 0 t : Vec Ideal S2x2048 .f32) (ix2 b k)) (fun k => (iblk m c 1 t : Vec Ideal S2048x512 .f32) (ix2 k n))
    ((iblk m c 2 t : Vec Ideal S1x512 .f32) (ix2 0 n)) = _
  simp only [blk0, blk1, blk2]
  rfl

theorem covers3 : (cfg0.win (3 : Fin 4)).Covers := by decide +kernel

/-- The adaptation's array. -/
theorem final3 : ((dats m 0 c).arrAt (3 : Fin 4) cfg0.N : Vec Ideal S2x12288 .f32) = fun i : S2x12288.Idx => adaA m c (i 0) (i 1) := by
  refine (dats m 0 c).arrAt_eq_of_covers (3 : Fin 4) (fun i : S2x12288.Idx => adaA m c (i 0) (i 1)) covers3 fun t hf y => ?_
  have hl := ada_read m c t (y 0) (y 1)
  have hx := idx3 t
  refine Eq.trans ?_ (hl.trans ?_)
  · rw [after0_3, out3]
    refine congrArg (adaF (iblk m c 0 t) (iblk m c 1 t) (iblk m c 2 t)) (funext fun b => Fin.ext ?_)
    match b with
    | ⟨0, _⟩ => rfl
    | ⟨1, _⟩ => rfl
  · refine congrArg₂ (adaA m c) (Fin.ext ?_) (Fin.ext ?_)
    · show (y 0).val = win0_3.index t 0 * 2 + 1 * (y 0).val
      rw [hx.1]; omega
    · show t.val * 512 + (y 1).val = win0_3.index t 1 * 512 + 1 * (y 1).val
      rw [hx.2]; omega

/-- The launch ends with its arguments as they were and every counter at zero. -/
theorem quiet : Cert.quiescent_Kernel5Ideal := fun m ρ _ => Cert.Kernel5Ideal.Gen.frame m ρ

end Cert.Kernel5Ideal.Ada

namespace Cert.Reference5Ideal.Ada

open Cert.Reference5Ideal Cert.Reference5Ideal.Gen
open Idealize.ShloMosaic Idealize.ShloMosaic.Pointwise
open Idealize.ShloMosaic.TcCoe Idealize.SL.Sem
open Cert.Kernel5Ideal.Ada (adaRow)

/-- The reference's result. -/
def ada (x : FVec Ideal S2x2048 .f32) (w : FVec Ideal S1x2048x12288 .f32) (b : FVec Ideal S1x12288 .f32) : FVec Ideal S2x12288 .f32 :=
  addf (Host.dotGeneral dot_S2x2048_S2048x12288_S2x12288_1_0_0_1_n_n none (mulf x (Host.divf (broadcastInDim S2x2048 ![] bcast_S_S2x2048 (constant S_ .f32 0x3F800000#32)) (addf (broadcastInDim S2x2048 ![] bcast_S_S2x2048 (constant S_ .f32 0x3F800000#32)) (Host.exp (Host.negf x))))) (shapeCast _ w shapeCasts_S1x2048x12288_S2048x12288)) (broadcastInDim S2x12288 ![0, 1] bcast_S1x12288_S2x12288_0_1 (broadcastInDim S1x12288 ![1] bcast_S12288_S1x12288_1 (shapeCast _ b shapeCasts_S1x12288_S12288)))

theorem ada_at (x : FVec Ideal S2x2048 .f32) (w : FVec Ideal S1x2048x12288 .f32) (b : FVec Ideal S1x12288 .f32) (r : Fin 2) (n : Fin 12288) :
    ada x w b (ix2 r n) = adaRow (fun k => x (ix2 r k)) (fun k => w (ix3 0 k n)) (b (ix2 0 n)) := by
  unfold adaRow Ideal.logistic
  pointwise [ada]

/-- The kernel's result is the reference's. -/
theorem alg : Cert.algebraic_Kernel5Ideal_Reference5Ideal := by
  intro m ρ m' ρ' _ hagree
  refine ⟨fun c => (Cert.Kernel5Ideal.Gen.dats m 0 c).arrAt (3 : Fin 4) Cert.Kernel5Ideal.cfg0.N,
    Cert.Kernel5Ideal.Value.run_blocks m ρ, ?_⟩
  refine (θ_run _ _ _).mono (fun r h c => ⟨(h c).1.trans ?_, (h c).2⟩) (Cert.Reference5Ideal.Value.run m' ρ')
  obtain ⟨a0, a1, a2⟩ := hagree c
  refine Eq.trans ?_ (Cert.Kernel5Ideal.Ada.final3 m c).symm
  rw [a0, a1, a2]
  funext i
  obtain ⟨r, n, rfl⟩ : ∃ (r : Fin 2) (n : Fin 12288), i = ix2 r n := ⟨i 0, i 1, eq_ix2 i⟩
  exact ada_at _ _ _ r n

/-- The reference runs, leaves its arguments, and ends with every semaphore counter at zero. -/
theorem quiet : Cert.quiescent_Reference5Ideal := fun m ρ _ =>
  (θ_run _ _ _).mono (fun r h => ⟨fun c => (h c).2, Idealize.ShloMosaic.sem_eq_zero_of_no_sems (by decide) r.2⟩)
    (Cert.Reference5Ideal.Value.run m ρ)

end Cert.Reference5Ideal.Ada
end
-- ==== Proof.Kv.lean ====
/-
  The layout of the attention's keys and values and of the indexer's keys: the launch over the extended reals, and its reference.
-/
module

public import proofs.«01_k».proof.Proof.Gen.Kernel6Ideal.Value
public import proofs.«01_k».proof.Proof.Gen.Reference6Ideal.Run
public import proofs.«01_k».proof.Defs
public import Idealize.ShloMosaic.Lib.Pointwise
public import Idealize.ShloMosaic.Lib.Pipeline.ValueKit

@[expose] public section

set_option maxRecDepth 16384

noncomputable section

namespace Cert.Kernel6Ideal.Kv

open Cert.Kernel6Ideal Cert.Kernel6Ideal.Gen
open Idealize.ShloMosaic Idealize.ShloMosaic.Pointwise
open Idealize.ShloMosaic.TcCoe Idealize.SL.Sem

theorem pay1_read (x : Vec Ideal S512x512 .f32) (r : Fin 512) (j : Fin 256) : k0_pay1 x (ix2 r j) = x (ix2 r ⟨j.val, by omega⟩) := by
  pointwise [k0_pay1]

theorem pay5_read (x : Vec Ideal S512x128 .f32) (r : Fin 512) (j : Fin 64) : k0_pay5 x (ix2 r j) = x (ix2 r ⟨j.val, by omega⟩) := by
  pointwise [k0_pay5]

theorem tail_read (e : Fin 16) (r : Fin 512) : k0_pay2 (F := Ideal) (ix2 e r) = if e.val = 0 then (1 : EReal) else 0 := by
  pointwise [k0_pay2]
  fin_cases e <;> rfl

theorem pay3_left (x : Vec Ideal S512x512 .f32) (d : Fin 128) (r : Fin 512) :
    k0_pay3 x (ix3 0 ⟨d.val, by omega⟩ r) = x (ix2 r ⟨256 + d.val, by omega⟩) := by
  have hd := d.isLt
  pointwise [k0_pay3]

theorem pay3_right (x : Vec Ideal S512x512 .f32) (e : Fin 16) (r : Fin 512) :
    k0_pay3 x (ix3 0 ⟨128 + e.val, by omega⟩ r) = k0_pay2 (F := Ideal) (ix2 e r) := by
  unfold k0_pay3
  generalize k0_pay2 (F := Ideal) = T
  pointwise

theorem pay4_left (x : Vec Ideal S512x512 .f32) (d : Fin 128) (r : Fin 512) :
    k0_pay4 x (ix3 0 ⟨d.val, by omega⟩ r) = x (ix2 r ⟨384 + d.val, by omega⟩) := by
  have hd := d.isLt
  pointwise [k0_pay4]

theorem pay4_right (x : Vec Ideal S512x512 .f32) (e : Fin 16) (r : Fin 512) :
    k0_pay4 x (ix3 0 ⟨128 + e.val, by omega⟩ r) = k0_pay2 (F := Ideal) (ix2 e r) := by
  unfold k0_pay4
  generalize k0_pay2 (F := Ideal) = T
  pointwise

theorem zeros2 : (![0, 0] : Fin 2 → ℕ) = fun _ => 0 := by funext a; fin_cases a <;> rfl

/-- The values a point leaves: a channel to a row, then a row of ones and rows of zeros. -/
def valF (x : Vec Ideal S512x512 .f32) : Vec Ideal S2x144x512 .bf16 := fun y =>
  if h : (y 1).val < 128 then x (ix2 (y 2) ⟨256 + ((y 0).val * 128 + (y 1).val), by have : (y 0).val < 2 := (y 0).isLt; omega⟩)
  else if (y 1).val = 128 then (1 : EReal) else 0

/-- The keys a point leaves. -/
def keyF (x : Vec Ideal S512x512 .f32) : Vec Ideal S512x256 .bf16 := fun y => x (ix2 (y 0) ⟨(y 1).val, by have : (y 1).val < 256 := (y 1).isLt; omega⟩)

/-- The indexer's keys a point leaves. -/
def idxF (x : Vec Ideal S512x128 .f32) : Vec Ideal S512x64 .bf16 := fun y => x (ix2 (y 0) ⟨(y 1).val, by have : (y 1).val < 64 := (y 1).isLt; omega⟩)

theorem half_at (x : Vec Ideal S512x512 .f32) (P : FVec Ideal S1x144x512 .bf16) (g : Fin 2)
    (hl : ∀ (d : Fin 128) (r : Fin 512), P (ix3 0 ⟨d.val, by omega⟩ r) = x (ix2 r ⟨256 + (g.val * 128 + d.val), by omega⟩))
    (hr : ∀ (e : Fin 16) (r : Fin 512), P (ix3 0 ⟨128 + e.val, by omega⟩ r) = k0_pay2 (F := Ideal) (ix2 e r)) (n : Fin 144) (r : Fin 512) :
    P (ix3 0 n r) = valF x (ix3 g n r) := by
  by_cases h : n.val < 128
  · refine Eq.trans (hl ⟨n.val, h⟩ r) (Eq.symm ?_)
    show (if h : n.val < 128 then x (ix2 r ⟨256 + (g.val * 128 + n.val), _⟩) else if n.val = 128 then (1 : EReal) else 0) = _
    exact dif_pos h
  · have e : n = ⟨128 + (⟨n.val - 128, by omega⟩ : Fin 16).val, by have := n.isLt; show 128 + (n.val - 128) < 144; omega⟩ :=
      Fin.ext (by show n.val = 128 + (n.val - 128); omega)
    have hv := (hr ⟨n.val - 128, by omega⟩ r).trans (tail_read _ r)
    refine Eq.trans (congrArg (fun k => P (ix3 0 k r)) e) (hv.trans (Eq.symm ?_))
    show (if h : n.val < 128 then x (ix2 r ⟨256 + (g.val * 128 + n.val), _⟩) else if n.val = 128 then (1 : EReal) else 0)
      = if n.val - 128 = 0 then (1 : EReal) else 0
    rw [dif_neg h]
    by_cases h' : n.val = 128
    · rw [if_pos h', if_pos (by omega)]
    · rw [if_neg h', if_neg (by omega)]

theorem out2 (x : Vec Ideal S512x512 .f32) (w : Vec Ideal S512x128 .f32) : out0_2 x w = keyF x := by
  have hx : View.ld x r0_0 = x := View.ld_unit_zero zeros2 inb_S512x512_S512x512_0_0 x
  unfold out0_2
  rw [hx]
  refine (View.canon_cons_unit_zero zeros2 inb_S512x256_S512x256_0_0 _ []).trans (funext fun y => ?_)
  refine (congrArg (k0_pay1 x) (eq_ix2 y)).trans ?_
  exact pay1_read x (y 0) (y 1)

theorem out4 (x : Vec Ideal S512x512 .f32) (w : Vec Ideal S512x128 .f32) : out0_4 x w = idxF w := by
  have hx : View.ld w r0_4 = w := View.ld_unit_zero zeros2 inb_S512x128_S512x128_0_0 w
  unfold out0_4
  rw [hx]
  refine (View.canon_cons_unit_zero zeros2 inb_S512x64_S512x64_0_0 _ []).trans (funext fun y => ?_)
  refine (congrArg (k0_pay5 w) (eq_ix2 y)).trans ?_
  exact pay5_read w (y 0) (y 1)

theorem out3 (x : Vec Ideal S512x512 .f32) (w : Vec Ideal S512x128 .f32) : out0_3 x w = valF x := by
  have hx : View.ld x r0_0 = x := View.ld_unit_zero zeros2 inb_S512x512_S512x512_0_0 x
  unfold out0_3
  rw [hx]
  refine funext fun y => View.canon_eq_of_allAt _ y _ (cover0_3 _ _ y) fun p hp z hz => ?_
  have h4 : ∀ z : S1x144x512.Idx, k0_pay4 x z = valF x (r0_3.emb z) := fun z => by
    have e : r0_3.emb z = ix3 1 (z 1) (z 2) := funext fun a => Fin.ext (by
      match a with
      | ⟨0, _⟩ => show 1 + 1 * (z 0).val = 1; have : (z 0).val < 1 := (z 0).isLt; omega
      | ⟨1, _⟩ => show 0 + 1 * (z 1).val = (z 1).val; omega
      | ⟨2, _⟩ => show 0 + 1 * (z 2).val = (z 2).val; omega)
    have e' : z = ix3 0 (z 1) (z 2) := funext fun a => Fin.ext (by
      match a with
      | ⟨0, _⟩ => show (z 0).val = 0; have : (z 0).val < 1 := (z 0).isLt; omega
      | ⟨1, _⟩ => rfl
      | ⟨2, _⟩ => rfl)
    rw [e]
    refine (congrArg (k0_pay4 x) e').trans ?_
    exact half_at x (k0_pay4 x) 1 (fun d r => (pay4_left x d r).trans (congrArg (fun k => x (ix2 r k)) (Fin.ext (by show 384 + d.val = 256 + (1 * 128 + d.val); omega)))) (pay4_right x) _ _
  have h3 : ∀ z : S1x144x512.Idx, k0_pay3 x z = valF x (r0_2.emb z) := fun z => by
    have e : r0_2.emb z = ix3 0 (z 1) (z 2) := funext fun a => Fin.ext (by
      match a with
      | ⟨0, _⟩ => show 0 + 1 * (z 0).val = 0; have : (z 0).val < 1 := (z 0).isLt; omega
      | ⟨1, _⟩ => show 0 + 1 * (z 1).val = (z 1).val; omega
      | ⟨2, _⟩ => show 0 + 1 * (z 2).val = (z 2).val; omega)
    have e' : z = ix3 0 (z 1) (z 2) := funext fun a => Fin.ext (by
      match a with
      | ⟨0, _⟩ => show (z 0).val = 0; have : (z 0).val < 1 := (z 0).isLt; omega
      | ⟨1, _⟩ => rfl
      | ⟨2, _⟩ => rfl)
    rw [e]
    refine (congrArg (k0_pay3 x) e').trans ?_
    exact half_at x (k0_pay3 x) 0 (fun d r => (pay3_left x d r).trans (congrArg (fun k => x (ix2 r k)) (Fin.ext (by show 256 + d.val = 256 + (0 * 128 + d.val); omega)))) (pay3_right x) _ _
  rw [← hz]
  rcases List.mem_cons.1 hp with rfl | hp
  · exact h4 z
  · obtain rfl := List.mem_singleton.1 hp
    exact h3 z

variable (m : (ℓ : Loc nD τ sig) → Buf (Elt Ideal) ℓ) (c : Dev nD)

/-- The projections. -/
abbrev pA (p : Fin 16384) (k : Fin 6144) : EReal := (m ((c : Thread nD τ).loc main_arg0) : Vec Ideal S16384x6144 .f32) (ix2 p k)
/-- Their last columns. -/
abbrev tA (p : Fin 16384) (k : Fin 128) : EReal := (m ((c : Thread nD τ).loc main_arg1) : Vec Ideal S16384x128 .f32) (ix2 p k)

/-- The keys. -/
def keyA (p : Fin 16384) (j : Fin 256) : EReal := pA m c p ⟨5120 + j.val, by omega⟩
/-- The values, a channel to a row, then a row of ones and rows of zeros. -/
def valA (g : Fin 2) (n : Fin 144) (p : Fin 16384) : EReal :=
  if h : n.val < 128 then pA m c p ⟨5376 + (g.val * 128 + n.val), by omega⟩ else if n.val = 128 then (1 : EReal) else 0
/-- The indexer's keys. -/
def idxA (p : Fin 16384) (j : Fin 64) : EReal := tA m c p ⟨j.val, by omega⟩

theorem idx0 : ∀ t : Fin cfg0.N, win0_0.index t 0 = t.val ∧ win0_0.index t 1 = 10 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 ∧ win0_3.index t 2 = t.val := by decide +kernel
theorem idx4 : ∀ t : Fin cfg0.N, win0_4.index t 0 = t.val ∧ win0_4.index t 1 = 0 := by decide +kernel

/-- The row a point's block holds at a place. -/
def rowOf (t : Fin cfg0.N) (r : Fin 512) : Fin 16384 :=
  ⟨t.val * 512 + r.val, by have ht : t.val < 32 := Nat.lt_of_lt_of_eq t.isLt N_0; omega⟩

theorem blk0 (t : Fin cfg0.N) (r : Fin 512) (k : Fin 512) : (iblk m c 0 t : Vec Ideal S512x512 .f32) (ix2 r k) = pA m c (rowOf t r) ⟨5120 + k.val, by omega⟩ := by
  have hx := idx0 t
  unfold iblk
  rw [View.read_apply]
  show V m c main_arg0 _ = _
  rw [V_main_arg0]
  refine congrArg (m (c.tc.loc main_arg0)) (funext fun a => Fin.ext ?_)
  match a with
  | ⟨0, _⟩ => show win0_0.index t 0 * 512 + 1 * r.val = t.val * 512 + r.val; rw [hx.1]; omega
  | ⟨1, _⟩ => show win0_0.index t 1 * 512 + 1 * k.val = 5120 + k.val; rw [hx.2]; omega

theorem blk1 (t : Fin cfg0.N) (r : Fin 512) (k : Fin 128) : (iblk m c 1 t : Vec Ideal S512x128 .f32) (ix2 r k) = tA m c (rowOf t r) k := by
  have hx := idx1 t
  unfold iblk
  rw [View.read_apply]
  show V m c main_arg1 _ = _
  rw [V_main_arg1]
  refine congrArg (m (c.tc.loc main_arg1)) (funext fun a => Fin.ext ?_)
  match a with
  | ⟨0, _⟩ => show win0_1.index t 0 * 512 + 1 * r.val = t.val * 512 + r.val; rw [hx.1]; omega
  | ⟨1, _⟩ => show win0_1.index t 1 * 128 + 1 * k.val = k.val; rw [hx.2]; omega

theorem key_read (t : Fin cfg0.N) (y : S512x256.Idx) : keyF (iblk m c 0 t) y = keyA m c (rowOf t (y 0)) (y 1) := by
  unfold keyF
  exact blk0 m c t (y 0) _

theorem idx_read (t : Fin cfg0.N) (y : S512x64.Idx) : idxF (iblk m c 1 t) y = idxA m c (rowOf t (y 0)) (y 1) := by
  unfold idxF
  exact blk1 m c t (y 0) _

theorem val_read (t : Fin cfg0.N) (y : S2x144x512.Idx) : valF (iblk m c 0 t) y = valA m c (y 0) (y 1) (rowOf t (y 2)) := by
  unfold valF valA
  have h0 : (y 0).val < 2 := (y 0).isLt
  by_cases h : (y 1).val < 128
  · rw [dif_pos h]
    refine Eq.trans (blk0 m c t (y 2) _) (Eq.trans ?_ (dif_pos h).symm)
    exact congrArg (pA m c (rowOf t (y 2))) (Fin.ext (by show 5120 + (256 + ((y 0).val * 128 + (y 1).val)) = 5376 + ((y 0).val * 128 + (y 1).val); omega))
  · rw [dif_neg h]
    exact (dif_neg (t := fun h => pA m c (rowOf t (y 2)) ⟨5376 + ((y 0).val * 128 + (y 1).val), by omega⟩)
      (e := fun _ => if (y 1).val = 128 then (1 : EReal) else 0) h).symm

theorem val_congr {g g' : Fin 2} {n n' : Fin 144} {p p' : Fin 16384} (hg : g = g') (hn : n = n') (hp : p = p') :
    valA m c g n p = valA m c g' n' p' := by subst hg hn hp; rfl

theorem covers2 : (cfg0.win (2 : Fin 5)).Covers := by decide +kernel
theorem covers3 : (cfg0.win (3 : Fin 5)).Covers := by decide +kernel
theorem covers4 : (cfg0.win (4 : Fin 5)).Covers := by decide +kernel

/-- The keys' array. -/
theorem final2 : ((dats m 0 c).arrAt (2 : Fin 5) cfg0.N : Vec Ideal S16384x256 .bf16) = fun i : S16384x256.Idx => keyA m c (i 0) (i 1) := by
  refine (dats m 0 c).arrAt_eq_of_covers (2 : Fin 5) (fun i : S16384x256.Idx => keyA m c (i 0) (i 1)) covers2 fun t hf y => ?_
  have hl := key_read m c t y
  have hx := idx2 t
  refine Eq.trans ?_ (hl.trans ?_)
  · rw [after0_2, out2]
    refine congrArg (keyF (iblk m c 0 t)) (funext fun b => Fin.ext ?_)
    match b with
    | ⟨0, _⟩ => rfl
    | ⟨1, _⟩ => rfl
  · refine congrArg₂ (keyA m c) (Fin.ext ?_) (Fin.ext ?_)
    · show t.val * 512 + (y 0).val = win0_2.index t 0 * 512 + 1 * (y 0).val
      rw [hx.1]; omega
    · show (y 1).val = win0_2.index t 1 * 256 + 1 * (y 1).val
      rw [hx.2]; omega

/-- The values' array. -/
theorem final3 : ((dats m 0 c).arrAt (3 : Fin 5) cfg0.N : Vec Ideal S2x144x16384 .bf16) = fun i : S2x144x16384.Idx => valA m c (i 0) (i 1) (i 2) := by
  refine (dats m 0 c).arrAt_eq_of_covers (3 : Fin 5) (fun i : S2x144x16384.Idx => valA m c (i 0) (i 1) (i 2)) covers3 fun t hf y => ?_
  have hl := val_read m c t y
  have hx := idx3 t
  refine Eq.trans ?_ (hl.trans ?_)
  · rw [after0_3, out3]
    refine congrArg (valF (iblk m c 0 t)) (funext fun b => Fin.ext ?_)
    match b with
    | ⟨0, _⟩ => rfl
    | ⟨1, _⟩ => rfl
    | ⟨2, _⟩ => rfl
  · refine val_congr m c (Fin.ext ?_) (Fin.ext ?_) (Fin.ext ?_)
    · show (y 0).val = win0_3.index t 0 * 2 + 1 * (y 0).val
      rw [hx.1]; omega
    · show (y 1).val = win0_3.index t 1 * 144 + 1 * (y 1).val
      rw [hx.2.1]; omega
    · show t.val * 512 + (y 2).val = win0_3.index t 2 * 512 + 1 * (y 2).val
      rw [hx.2.2]; omega

/-- The indexer's keys' array. -/
theorem final4 : ((dats m 0 c).arrAt (4 : Fin 5) cfg0.N : Vec Ideal S16384x64 .bf16) = fun i : S16384x64.Idx => idxA m c (i 0) (i 1) := by
  refine (dats m 0 c).arrAt_eq_of_covers (4 : Fin 5) (fun i : S16384x64.Idx => idxA m c (i 0) (i 1)) covers4 fun t hf y => ?_
  have hl := idx_read m c t y
  have hx := idx4 t
  refine Eq.trans ?_ (hl.trans ?_)
  · rw [after0_4, out4]
    refine congrArg (idxF (iblk m c 1 t)) (funext fun b => Fin.ext ?_)
    match b with
    | ⟨0, _⟩ => rfl
    | ⟨1, _⟩ => rfl
  · refine congrArg₂ (idxA m c) (Fin.ext ?_) (Fin.ext ?_)
    · show t.val * 512 + (y 0).val = win0_4.index t 0 * 512 + 1 * (y 0).val
      rw [hx.1]; omega
    · show (y 1).val = win0_4.index t 1 * 64 + 1 * (y 1).val
      rw [hx.2]; omega

/-- The launch ends with its arguments as they were and every counter at zero. -/
theorem quiet : Cert.quiescent_Kernel6Ideal := fun m ρ _ => Cert.Kernel6Ideal.Gen.frame m ρ

end Cert.Kernel6Ideal.Kv

namespace Cert.Reference6Ideal.Kv

open Cert.Reference6Ideal Cert.Reference6Ideal.Gen
open Idealize.ShloMosaic Idealize.ShloMosaic.Pointwise
open Idealize.ShloMosaic.TcCoe Idealize.SL.Sem

variable (x : FVec Ideal S16384x6144 .f32) (w : FVec Ideal S16384x128 .f32)

/-- The projections with their last columns. -/
def all : FVec Ideal S16384x6216 .f32 :=
  concatenate S16384x6216 1 [⟨S16384x6144, x⟩, ⟨S16384x72, (extractStridedSlice S16384x72 ![0, 0] w slices_S16384x128_S16384x72_0_0)⟩] concatenates_S16384x6144_S16384x72_S16384x6216_d1

theorem all_left (p : Fin 16384) (j : Fin 6144) : all x w (ix2 p ⟨j.val, by omega⟩) = x (ix2 p j) := by
  have hj := j.isLt
  pointwise [all]

theorem all_right (p : Fin 16384) (j : Fin 64) : all x w (ix2 p ⟨6144 + j.val, by omega⟩) = w (ix2 p ⟨j.val, by omega⟩) := by
  have hj := j.isLt
  pointwise [all]

/-- The keys. -/
def keys (A : FVec Ideal S16384x6216 .f32) : FVec Ideal S16384x256 .bf16 :=
  truncf .bf16 (extractStridedSlice S16384x256 ![0, 5120] A slices_S16384x6216_S16384x256_0_5120) bitsLt_bf16_f32

theorem keys_at (A : FVec Ideal S16384x6216 .f32) (p : Fin 16384) (j : Fin 256) : keys A (ix2 p j) = A (ix2 p ⟨5120 + j.val, by omega⟩) := by
  pointwise [keys]

/-- The indexer's keys. -/
def index (A : FVec Ideal S16384x6216 .f32) : FVec Ideal S16384x64 .bf16 :=
  truncf .bf16 (extractStridedSlice S16384x64 ![0, 6144] A slices_S16384x6216_S16384x64_0_6144) bitsLt_bf16_f32

theorem index_at (A : FVec Ideal S16384x6216 .f32) (p : Fin 16384) (j : Fin 64) : index A (ix2 p j) = A (ix2 p ⟨6144 + j.val, by omega⟩) := by
  pointwise [index]

/-- The values, a channel to a row, and a row of ones above fifteen of zeros. -/
def values (A : FVec Ideal S16384x6216 .f32) : FVec Ideal S2x144x16384 .bf16 :=
  truncf .bf16 ((concatenate S2x144x16384 1 [⟨S2x128x16384, ((transpose S2x128x16384 [1, 2, 0] (shapeCast _ (extractStridedSlice S16384x256 ![0, 5376] A slices_S16384x6216_S16384x256_0_5376) shapeCasts_S16384x256_S16384x2x128) transposes_S16384x2x128_S2x128x16384_1_2_0) : (⟨S2x128x16384, .f32⟩ : BufTy).Contents (Elt Ideal))⟩, ⟨S2x1x16384, ((broadcastInDim S2x1x16384 ![] bcast_S_S2x1x16384 (constant (F := Ideal) S_ .f32 0x3F800000#32)) : (⟨S2x1x16384, .f32⟩ : BufTy).Contents (Elt Ideal))⟩, ⟨S2x15x16384, ((broadcastInDim S2x15x16384 ![] bcast_S_S2x15x16384 (constant (F := Ideal) S_ .f32 0x00000000#32)) : (⟨S2x15x16384, .f32⟩ : BufTy).Contents (Elt Ideal))⟩] concatenates_S2x128x16384_S2x1x16384_S2x15x16384_S2x144x16384_d1 : FVec Ideal S2x144x16384 .f32)) bitsLt_bf16_f32

theorem values_left (A : FVec Ideal S16384x6216 .f32) (g : Fin 2) (d : Fin 128) (p : Fin 16384) :
    values A (ix3 g ⟨d.val, by omega⟩ p) = A (ix2 p ⟨5376 + (g.val * 128 + d.val), by omega⟩) := by
  have hd := d.isLt
  pointwise [values]

theorem values_right (A : FVec Ideal S16384x6216 .f32) (g : Fin 2) (e : Fin 16) (p : Fin 16384) :
    values A (ix3 g ⟨128 + e.val, by omega⟩ p) = if e.val = 0 then (1 : EReal) else 0 := by
  have he := e.isLt
  pointwise [values]
  fin_cases e <;> rfl

theorem values_at (g : Fin 2) (n : Fin 144) (p : Fin 16384) : values (all x w) (ix3 g n p)
    = if h : n.val < 128 then x (ix2 p ⟨5376 + (g.val * 128 + n.val), by omega⟩) else if n.val = 128 then (1 : EReal) else 0 := by
  by_cases h : n.val < 128
  · rw [dif_pos h]
    exact (values_left (all x w) g ⟨n.val, h⟩ p).trans (all_left x w p ⟨5376 + (g.val * 128 + n.val), by omega⟩)
  · rw [dif_neg h]
    have e : n = ⟨128 + (⟨n.val - 128, by omega⟩ : Fin 16).val, by have := n.isLt; show 128 + (n.val - 128) < 144; omega⟩ :=
      Fin.ext (by show n.val = 128 + (n.val - 128); omega)
    refine Eq.trans (congrArg (fun k => values (all x w) (ix3 g k p)) e) ((values_right (all x w) g ⟨n.val - 128, by omega⟩ p).trans ?_)
    show (if n.val - 128 = 0 then (1 : EReal) else 0) = _
    by_cases h' : n.val = 128
    · rw [if_pos h', if_pos (by omega)]
    · rw [if_neg h', if_neg (by omega)]

/-- The kernel's results are the reference's. -/
theorem alg : Cert.algebraic_Kernel6Ideal_Reference6Ideal := by
  intro m ρ m' ρ' _ hagree
  refine ⟨fun c => (Cert.Kernel6Ideal.Gen.dats m 0 c).arrAt (2 : Fin 5) Cert.Kernel6Ideal.cfg0.N,
    fun c => (Cert.Kernel6Ideal.Gen.dats m 0 c).arrAt (3 : Fin 5) Cert.Kernel6Ideal.cfg0.N,
    fun c => (Cert.Kernel6Ideal.Gen.dats m 0 c).arrAt (4 : Fin 5) Cert.Kernel6Ideal.cfg0.N,
    Cert.Kernel6Ideal.Value.run_blocks m ρ, ?_⟩
  refine (θ_run _ _ _).mono (fun r h c => ⟨(h c).1.trans ?_, (h c).2.1.trans ?_, (h c).2.2.1.trans ?_, (h c).2.2.2⟩) (Cert.Reference6Ideal.Value.run m' ρ')
  · obtain ⟨a0, a1⟩ := hagree c
    refine Eq.trans ?_ (Cert.Kernel6Ideal.Kv.final2 m c).symm
    rw [a0, a1]
    funext i
    obtain ⟨p, j, rfl⟩ : ∃ (p : Fin 16384) (j : Fin 256), i = ix2 p j := ⟨i 0, i 1, eq_ix2 i⟩
    exact (keys_at (all _ _) p j).trans (all_left _ _ p ⟨5120 + j.val, by omega⟩)
  · obtain ⟨a0, a1⟩ := hagree c
    refine Eq.trans ?_ (Cert.Kernel6Ideal.Kv.final3 m c).symm
    rw [a0, a1]
    funext i
    obtain ⟨g, n, p, rfl⟩ : ∃ (g : Fin 2) (n : Fin 144) (p : Fin 16384), i = ix3 g n p := ⟨i 0, i 1, i 2, eq_ix3 i⟩
    exact values_at _ _ g n p
  · obtain ⟨a0, a1⟩ := hagree c
    refine Eq.trans ?_ (Cert.Kernel6Ideal.Kv.final4 m c).symm
    rw [a0, a1]
    funext i
    obtain ⟨p, j, rfl⟩ : ∃ (p : Fin 16384) (j : Fin 64), i = ix2 p j := ⟨i 0, i 1, eq_ix2 i⟩
    exact (index_at (all _ _) p j).trans (all_right _ _ p j)

/-- The reference runs, leaves its arguments, and ends with every semaphore counter at zero. -/
theorem quiet : Cert.quiescent_Reference6Ideal := fun m ρ _ =>
  (θ_run _ _ _).mono (fun r h => ⟨fun c => (h c).2.2.2, Idealize.ShloMosaic.sem_eq_zero_of_no_sems (by decide) r.2⟩)
    (Cert.Reference6Ideal.Value.run m ρ)

end Cert.Reference6Ideal.Kv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_logits
public import proofs.«01_k».proof.Proof.Gen.KernelIdeal.Value
public import proofs.«01_k».proof.Proof.Gen.ReferenceIdeal.Run
public import proofs.«01_k».proof.Proof.Gen.ReferenceIdeal.Step
public import proofs.«01_k».proof.Proof.Alg
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Pre_tables_in_range
public import proofs.«01_k».proof.Proof.MoeFrameB
public import proofs.«01_k».proof.Proof.MoeAlg
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.InAlg
public import proofs.«01_k».proof.Proof.InDatB
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.OutAlg
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Ada
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Kv
public import Idealize.ShloMosaic.Adequacy
public import Idealize.ShloMosaic.Init

@[expose] public section

noncomputable section

namespace Cert.Proof

open Idealize.ShloMosaic Idealize.SL.Sem Cert.Kernel

/-- The reference runs, leaves its arguments, and ends with every semaphore counter at zero. -/
theorem quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, Idealize.ShloMosaic.sem_eq_zero_of_no_sems (by decide) r.2⟩)
    (Cert.ReferenceIdeal.Hg.run m ρ)

/-- The programs leave their arguments and end quiet, each kernel over the extended reals is the kernel's own text but for the
    named constant, and its result is the reference's: the recurrence's for finite logits, the experts' for tables in range,
    the input projection's, the output projection's, the adaptive norm's and the keys' and values' whatever their arguments. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_logits.Gen.facts, Cert.Pre_tables_in_range.Gen.facts,
  fun m ρ _ => Cert.Kernel.Gen.frame m ρ,
  fun m ρ _ => Cert.KernelIdeal.Gen.frame m ρ,
  fun m ρ _ => Cert.KernelIdeal.Gen.frame m ρ,
  fun m ρ _ => quiet m ρ,
  fun m ρ _ => quiet m ρ,
  Cert.Kernel2.Moe.frame,
  Cert.Kernel2Ideal.Moe.frame,
  Cert.Moe.quiet,
  fun m ρ _ => Cert.Moe.quiet m ρ trivial,
  Cert.Kernel3.In.quiet,
  Cert.Kernel3Ideal.In.quiet,
  Cert.In.quiet,
  fun m ρ _ => Cert.Kernel4.Gen.frame m ρ,
  Cert.Kernel4Ideal.Out.quiet,
  Cert.Out.quiet,
  fun m ρ _ => Cert.Kernel5.Gen.frame m ρ,
  Cert.Kernel5Ideal.Ada.quiet,
  Cert.Reference5Ideal.Ada.quiet,
  fun m ρ _ => Cert.Kernel6.Gen.frame m ρ,
  Cert.Kernel6Ideal.Kv.quiet,
  Cert.Reference6Ideal.Kv.quiet,
  IdealRules.named_const.statement Cert.KernelIdeal.κ "log2e" .f32 0x3FB8AA3B#32 (((Real.log 2)⁻¹ : ℝ) : EReal) rfl,
  Cert.Hg.alg,
  trivial,
  Cert.Moe.alg,
  trivial,
  Cert.In.alg,
  trivial,
  Cert.Out.alg,
  trivial,
  Cert.Reference5Ideal.Ada.alg,
  trivial,
  Cert.Reference6Ideal.Kv.alg⟩

end Cert.Proof

end
